-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_ids_in_range : Cert.Pre_ids_in_range.Facts] (m : (ℓ : Loc Cert.Reference.nD Cert.Reference.τ Cert.Reference.sig) → Buf (Elt Bits) ℓ) : Prop :=
  ∀ c : Dev Cert.Reference.nD,
    (Cert.Pre_ids_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Combine [hPre_rows_in_range : Cert.Pre_rows_in_range.Facts] (m : (ℓ : Loc Cert.Combine.nD Cert.Combine.τ Cert.Combine.sig) → Buf (Elt Bits) ℓ) : Prop :=
  ∀ c : Dev Cert.Combine.nD,
    (Cert.Pre_rows_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_rows_in_range : Cert.Pre_rows_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_rows_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_rows_in_range [hPre_rows_in_range : Cert.Pre_rows_in_range.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_rows_in_range.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_Qkv0RefIdeal (m : (ℓ : Loc Cert.Qkv0RefIdeal.nD Cert.Qkv0RefIdeal.τ Cert.Qkv0RefIdeal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def Pre_Mean (m : (ℓ : Loc Cert.Mean.nD Cert.Mean.τ Cert.Mean.sig) → Buf (Elt Bits) ℓ) : Prop :=
  True

def Pre_MeanIdeal (m : (ℓ : Loc Cert.MeanIdeal.nD Cert.MeanIdeal.τ Cert.MeanIdeal.sig) → Buf (Elt Ideal) ℓ) : Prop :=
  True

def Pre_MeanRefIdeal (m : (ℓ : Loc Cert.MeanRefIdeal.nD Cert.MeanRefIdeal.τ Cert.MeanRefIdeal.sig) → Buf (Elt Ideal) ℓ) : Prop :=
  True

def Pre_Sim (m : (ℓ : Loc Cert.Sim.nD Cert.Sim.τ Cert.Sim.sig) → Buf (Elt Bits) ℓ) : Prop :=
  True

def Pre_SimIdeal (m : (ℓ : Loc Cert.SimIdeal.nD Cert.SimIdeal.τ Cert.SimIdeal.sig) → Buf (Elt Ideal) ℓ) : Prop :=
  True

def Pre_SimRefIdeal (m : (ℓ : Loc Cert.SimRefIdeal.nD Cert.SimRefIdeal.τ Cert.SimRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_keys [hPre_finite_queries_keys : Cert.Pre_finite_queries_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_keys [hPre_finite_queries_keys : Cert.Pre_finite_queries_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_TopKIdeal_above_mask [hPre_above_mask : Cert.Pre_above_mask.Facts] (m : (ℓ : Loc Cert.TopKIdeal.nD Cert.TopKIdeal.τ Cert.TopKIdeal.sig) → Buf (Elt Ideal) ℓ) : Prop :=
  ∀ c : Dev Cert.TopKIdeal.nD,
    (Cert.Pre_above_mask.fn (F := Ideal) (m ((c.tc : Thread Cert.TopKIdeal.nD Cert.TopKIdeal.τ).loc Cert.TopKIdeal.main_arg0))) = (fun _ => 1#1)

def Pre_TopKRefIdeal (m : (ℓ : Loc Cert.TopKRefIdeal.nD Cert.TopKRefIdeal.τ Cert.TopKRefIdeal.sig) → Buf (Elt Ideal) ℓ) : Prop :=
  True

def Pre_TopKRefIdeal_above_mask [hPre_above_mask : Cert.Pre_above_mask.Facts] (m : (ℓ : Loc Cert.TopKRefIdeal.nD Cert.TopKRefIdeal.τ Cert.TopKRefIdeal.sig) → Buf (Elt Ideal) ℓ) : Prop :=
  ∀ c : Dev Cert.TopKRefIdeal.nD,
    (Cert.Pre_above_mask.fn (F := Ideal) (m ((c.tc : Thread Cert.TopKRefIdeal.nD Cert.TopKRefIdeal.τ).loc Cert.TopKRefIdeal.main_arg0))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_ids_in_range : Cert.Pre_ids_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Combine [hCombine : Cert.Combine.Facts] [hPre_rows_in_range : Cert.Pre_rows_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_rows_in_range : Cert.Pre_rows_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_CombineRefIdeal_pre_rows_in_range [hCombineRefIdeal : Cert.CombineRefIdeal.Facts] [hPre_rows_in_range : Cert.Pre_rows_in_range.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_rows_in_range m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1)
      ∧ r.2.mem ((c.tc : Thread Cert.Qkv0.nD Cert.Qkv0.τ).loc Cert.Qkv0.main_arg2) = m ((c.tc : Thread Cert.Qkv0.nD Cert.Qkv0.τ).loc Cert.Qkv0.main_arg2)
      ∧ r.2.mem ((c.tc : Thread Cert.Qkv0.nD Cert.Qkv0.τ).loc Cert.Qkv0.main_arg3) = m ((c.tc : Thread Cert.Qkv0.nD Cert.Qkv0.τ).loc Cert.Qkv0.main_arg3)
      ∧ r.2.mem ((c.tc : Thread Cert.Qkv0.nD Cert.Qkv0.τ).loc Cert.Qkv0.main_arg4) = m ((c.tc : Thread Cert.Qkv0.nD Cert.Qkv0.τ).loc Cert.Qkv0.main_arg4))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
      ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2)
      ∧ r.2.mem ((c.tc : Thread Cert.Qkv0Ideal.nD Cert.Qkv0Ideal.τ).loc Cert.Qkv0Ideal.main_arg3) = m ((c.tc : Thread Cert.Qkv0Ideal.nD Cert.Qkv0Ideal.τ).loc Cert.Qkv0Ideal.main_arg3)
      ∧ r.2.mem ((c.tc : Thread Cert.Qkv0Ideal.nD Cert.Qkv0Ideal.τ).loc Cert.Qkv0Ideal.main_arg4) = m ((c.tc : Thread Cert.Qkv0Ideal.nD Cert.Qkv0Ideal.τ).loc Cert.Qkv0Ideal.main_arg4))
      ∧ r.2.sem = fun _ => 0)

def quiescent_Qkv0RefIdeal [hQkv0RefIdeal : Cert.Qkv0RefIdeal.Facts] : Prop :=
  ∀ (m : (ℓ : Loc Cert.Qkv0RefIdeal.nD Cert.Qkv0RefIdeal.τ Cert.Qkv0RefIdeal.sig) → Buf (Elt Ideal) ℓ) (g : Dev Cert.Qkv0RefIdeal.nD → PrngReg), Pre_Qkv0RefIdeal m →
    θ_run (Cert.Qkv0RefIdeal.defs (F := Ideal)) (onTc (τ := Cert.Qkv0RefIdeal.τ) (Cert.Qkv0RefIdeal.main (F := Ideal))) ⟨m, fun _ => 0, g⟩ (fun r => (∀ c : Dev Cert.Qkv0RefIdeal.nD,
      r.2.mem ((c.tc : Thread Cert.Qkv0RefIdeal.nD Cert.Qkv0RefIdeal.τ).loc Cert.Qkv0RefIdeal.main_arg0) = m ((c.tc : Thread Cert.Qkv0RefIdeal.nD Cert.Qkv0RefIdeal.τ).loc Cert.Qkv0RefIdeal.main_arg0)
      ∧ r.2.mem ((c.tc : Thread Cert.Qkv0RefIdeal.nD Cert.Qkv0RefIdeal.τ).loc Cert.Qkv0RefIdeal.main_arg1) = m ((c.tc : Thread Cert.Qkv0RefIdeal.nD Cert.Qkv0RefIdeal.τ).loc Cert.Qkv0RefIdeal.main_arg1)
      ∧ r.2.mem ((c.tc : Thread Cert.Qkv0RefIdeal.nD Cert.Qkv0RefIdeal.τ).loc Cert.Qkv0RefIdeal.main_arg2) = m ((c.tc : Thread Cert.Qkv0RefIdeal.nD Cert.Qkv0RefIdeal.τ).loc Cert.Qkv0RefIdeal.main_arg2)
      ∧ r.2.mem ((c.tc : Thread Cert.Qkv0RefIdeal.nD Cert.Qkv0RefIdeal.τ).loc Cert.Qkv0RefIdeal.main_arg3) = m ((c.tc : Thread Cert.Qkv0RefIdeal.nD Cert.Qkv0RefIdeal.τ).loc Cert.Qkv0RefIdeal.main_arg3)
      ∧ r.2.mem ((c.tc : Thread Cert.Qkv0RefIdeal.nD Cert.Qkv0RefIdeal.τ).loc Cert.Qkv0RefIdeal.main_arg4) = m ((c.tc : Thread Cert.Qkv0RefIdeal.nD Cert.Qkv0RefIdeal.τ).loc Cert.Qkv0RefIdeal.main_arg4))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1)
      ∧ r.2.mem ((c.tc : Thread Cert.Qkv1.nD Cert.Qkv1.τ).loc Cert.Qkv1.main_arg2) = m ((c.tc : Thread Cert.Qkv1.nD Cert.Qkv1.τ).loc Cert.Qkv1.main_arg2)
      ∧ r.2.mem ((c.tc : Thread Cert.Qkv1.nD Cert.Qkv1.τ).loc Cert.Qkv1.main_arg3) = m ((c.tc : Thread Cert.Qkv1.nD Cert.Qkv1.τ).loc Cert.Qkv1.main_arg3))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
      ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
      ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1)
      ∧ r.2.mem ((c.tc : Thread Cert.Qkv1RefIdeal.nD Cert.Qkv1RefIdeal.τ).loc Cert.Qkv1RefIdeal.main_arg2) = m ((c.tc : Thread Cert.Qkv1RefIdeal.nD Cert.Qkv1RefIdeal.τ).loc Cert.Qkv1RefIdeal.main_arg2)
      ∧ r.2.mem ((c.tc : Thread Cert.Qkv1RefIdeal.nD Cert.Qkv1RefIdeal.τ).loc Cert.Qkv1RefIdeal.main_arg3) = m ((c.tc : Thread Cert.Qkv1RefIdeal.nD Cert.Qkv1RefIdeal.τ).loc Cert.Qkv1RefIdeal.main_arg3))
      ∧ r.2.sem = fun _ => 0)

def quiescent_Mean [hMean : Cert.Mean.Facts] : Prop :=
  ∀ (m : (ℓ : Loc Cert.Mean.nD Cert.Mean.τ Cert.Mean.sig) → Buf (Elt Bits) ℓ) (g : Dev Cert.Mean.nD → PrngReg), Pre_Mean m →
    θ_run (Cert.Mean.defs (F := Bits)) (onTc (τ := Cert.Mean.τ) (Cert.Mean.main (F := Bits))) ⟨m, fun _ => 0, g⟩ (fun r => (∀ c : Dev Cert.Mean.nD,
      r.2.mem ((c.tc : Thread Cert.Mean.nD Cert.Mean.τ).loc Cert.Mean.main_arg0) = m ((c.tc : Thread Cert.Mean.nD Cert.Mean.τ).loc Cert.Mean.main_arg0))
      ∧ r.2.sem = fun _ => 0)

def quiescent_MeanIdeal [hMeanIdeal : Cert.MeanIdeal.Facts] : Prop :=
  ∀ (m : (ℓ : Loc Cert.MeanIdeal.nD Cert.MeanIdeal.τ Cert.MeanIdeal.sig) → Buf (Elt Ideal) ℓ) (g : Dev Cert.MeanIdeal.nD → PrngReg), Pre_MeanIdeal m →
    θ_run (Cert.MeanIdeal.defs (F := Ideal)) (onTc (τ := Cert.MeanIdeal.τ) (Cert.MeanIdeal.main (F := Ideal))) ⟨m, fun _ => 0, g⟩ (fun r => (∀ c : Dev Cert.MeanIdeal.nD,
      r.2.mem ((c.tc : Thread Cert.MeanIdeal.nD Cert.MeanIdeal.τ).loc Cert.MeanIdeal.main_arg0) = m ((c.tc : Thread Cert.MeanIdeal.nD Cert.MeanIdeal.τ).loc Cert.MeanIdeal.main_arg0))
      ∧ r.2.sem = fun _ => 0)

def quiescent_MeanRefIdeal [hMeanRefIdeal : Cert.MeanRefIdeal.Facts] : Prop :=
  ∀ (m : (ℓ : Loc Cert.MeanRefIdeal.nD Cert.MeanRefIdeal.τ Cert.MeanRefIdeal.sig) → Buf (Elt Ideal) ℓ) (g : Dev Cert.MeanRefIdeal.nD → PrngReg), Pre_MeanRefIdeal m →
    θ_run (Cert.MeanRefIdeal.defs (F := Ideal)) (onTc (τ := Cert.MeanRefIdeal.τ) (Cert.MeanRefIdeal.main (F := Ideal))) ⟨m, fun _ => 0, g⟩ (fun r => (∀ c : Dev Cert.MeanRefIdeal.nD,
      r.2.mem ((c.tc : Thread Cert.MeanRefIdeal.nD Cert.MeanRefIdeal.τ).loc Cert.MeanRefIdeal.main_arg0) = m ((c.tc : Thread Cert.MeanRefIdeal.nD Cert.MeanRefIdeal.τ).loc Cert.MeanRefIdeal.main_arg0))
      ∧ r.2.sem = fun _ => 0)

def quiescent_Sim [hSim : Cert.Sim.Facts] : Prop :=
  ∀ (m : (ℓ : Loc Cert.Sim.nD Cert.Sim.τ Cert.Sim.sig) → Buf (Elt Bits) ℓ) (g : Dev Cert.Sim.nD → PrngReg), Pre_Sim m →
    θ_run (Cert.Sim.defs (F := Bits)) (onTc (τ := Cert.Sim.τ) (Cert.Sim.main (F := Bits))) ⟨m, fun _ => 0, g⟩ (fun r => (∀ c : Dev Cert.Sim.nD,
      r.2.mem ((c.tc : Thread Cert.Sim.nD Cert.Sim.τ).loc Cert.Sim.main_arg0) = m ((c.tc : Thread Cert.Sim.nD Cert.Sim.τ).loc Cert.Sim.main_arg0)
      ∧ r.2.mem ((c.tc : Thread Cert.Sim.nD Cert.Sim.τ).loc Cert.Sim.main_arg1) = m ((c.tc : Thread Cert.Sim.nD Cert.Sim.τ).loc Cert.Sim.main_arg1))
      ∧ r.2.sem = fun _ => 0)

def quiescent_SimIdeal [hSimIdeal : Cert.SimIdeal.Facts] : Prop :=
  ∀ (m : (ℓ : Loc Cert.SimIdeal.nD Cert.SimIdeal.τ Cert.SimIdeal.sig) → Buf (Elt Ideal) ℓ) (g : Dev Cert.SimIdeal.nD → PrngReg), Pre_SimIdeal m →
    θ_run (Cert.SimIdeal.defs (F := Ideal)) (onTc (τ := Cert.SimIdeal.τ) (Cert.SimIdeal.main (F := Ideal))) ⟨m, fun _ => 0, g⟩ (fun r => (∀ c : Dev Cert.SimIdeal.nD,
      r.2.mem ((c.tc : Thread Cert.SimIdeal.nD Cert.SimIdeal.τ).loc Cert.SimIdeal.main_arg0) = m ((c.tc : Thread Cert.SimIdeal.nD Cert.SimIdeal.τ).loc Cert.SimIdeal.main_arg0)
      ∧ r.2.mem ((c.tc : Thread Cert.SimIdeal.nD Cert.SimIdeal.τ).loc Cert.SimIdeal.main_arg1) = m ((c.tc : Thread Cert.SimIdeal.nD Cert.SimIdeal.τ).loc Cert.SimIdeal.main_arg1))
      ∧ r.2.sem = fun _ => 0)

def quiescent_SimRefIdeal [hSimRefIdeal : Cert.SimRefIdeal.Facts] : Prop :=
  ∀ (m : (ℓ : Loc Cert.SimRefIdeal.nD Cert.SimRefIdeal.τ Cert.SimRefIdeal.sig) → Buf (Elt Ideal) ℓ) (g : Dev Cert.SimRefIdeal.nD → PrngReg), Pre_SimRefIdeal m →
    θ_run (Cert.SimRefIdeal.defs (F := Ideal)) (onTc (τ := Cert.SimRefIdeal.τ) (Cert.SimRefIdeal.main (F := Ideal))) ⟨m, fun _ => 0, g⟩ (fun r => (∀ c : Dev Cert.SimRefIdeal.nD,
      r.2.mem ((c.tc : Thread Cert.SimRefIdeal.nD Cert.SimRefIdeal.τ).loc Cert.SimRefIdeal.main_arg0) = m ((c.tc : Thread Cert.SimRefIdeal.nD Cert.SimRefIdeal.τ).loc Cert.SimRefIdeal.main_arg0)
      ∧ r.2.mem ((c.tc : Thread Cert.SimRefIdeal.nD Cert.SimRefIdeal.τ).loc Cert.SimRefIdeal.main_arg1) = m ((c.tc : Thread Cert.SimRefIdeal.nD Cert.SimRefIdeal.τ).loc Cert.SimRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_queries_keys [hAttnIdeal : Cert.AttnIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_queries_keys [hAttnRefIdeal : Cert.AttnRefIdeal.Facts] [hPre_finite_queries_keys : Cert.Pre_finite_queries_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKIdeal_pre_above_mask [hTopKIdeal : Cert.TopKIdeal.Facts] [hPre_above_mask : Cert.Pre_above_mask.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal_above_mask m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKRefIdeal [hTopKRefIdeal : Cert.TopKRefIdeal.Facts] : Prop :=
  ∀ (m : (ℓ : Loc Cert.TopKRefIdeal.nD Cert.TopKRefIdeal.τ Cert.TopKRefIdeal.sig) → Buf (Elt Ideal) ℓ) (g : Dev Cert.TopKRefIdeal.nD → PrngReg), Pre_TopKRefIdeal m →
    θ_run (Cert.TopKRefIdeal.defs (F := Ideal)) (onTc (τ := Cert.TopKRefIdeal.τ) (Cert.TopKRefIdeal.main (F := Ideal))) ⟨m, fun _ => 0, g⟩ (fun r => (∀ c : Dev Cert.TopKRefIdeal.nD,
      r.2.mem ((c.tc : Thread Cert.TopKRefIdeal.nD Cert.TopKRefIdeal.τ).loc Cert.TopKRefIdeal.main_arg0) = m ((c.tc : Thread Cert.TopKRefIdeal.nD Cert.TopKRefIdeal.τ).loc Cert.TopKRefIdeal.main_arg0))
      ∧ r.2.sem = fun _ => 0)

def quiescent_TopKRefIdeal_pre_above_mask [hTopKRefIdeal : Cert.TopKRefIdeal.Facts] [hPre_above_mask : Cert.Pre_above_mask.Facts] : Prop :=
  ∀ (m : (ℓ : Loc Cert.TopKRefIdeal.nD Cert.TopKRefIdeal.τ Cert.TopKRefIdeal.sig) → Buf (Elt Ideal) ℓ) (g : Dev Cert.TopKRefIdeal.nD → PrngReg), Pre_TopKRefIdeal_above_mask m →
    θ_run (Cert.TopKRefIdeal.defs (F := Ideal)) (onTc (τ := Cert.TopKRefIdeal.τ) (Cert.TopKRefIdeal.main (F := Ideal))) ⟨m, fun _ => 0, g⟩ (fun r => (∀ c : Dev Cert.TopKRefIdeal.nD,
      r.2.mem ((c.tc : Thread Cert.TopKRefIdeal.nD Cert.TopKRefIdeal.τ).loc Cert.TopKRefIdeal.main_arg0) = m ((c.tc : Thread Cert.TopKRefIdeal.nD Cert.TopKRefIdeal.τ).loc Cert.TopKRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v13)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v13) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Combine_CombineIdeal : Prop :=
  True

def algebraic_CombineIdeal_CombineRefIdeal [hCombineIdeal : Cert.CombineIdeal.Facts] [hCombineRefIdeal : Cert.CombineRefIdeal.Facts] [hPre_rows_in_range : Cert.Pre_rows_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v11) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v1)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v1) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v5) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2))

def preserves_Qkv0_Qkv0Ideal : Prop :=
  True

def algebraic_Qkv0Ideal_Qkv0RefIdeal [hQkv0Ideal : Cert.Qkv0Ideal.Facts] [hQkv0RefIdeal : Cert.Qkv0RefIdeal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.Qkv0RefIdeal.nD Cert.Qkv0RefIdeal.τ Cert.Qkv0RefIdeal.sig) → Buf (Elt Ideal) ℓ) (g' : Dev Cert.Qkv0RefIdeal.nD → PrngReg), Pre_Qkv0Ideal m →
    (∀ c : Dev Cert.Qkv0Ideal.nD,
      m' ((c.tc : Thread Cert.Qkv0RefIdeal.nD Cert.Qkv0RefIdeal.τ).loc Cert.Qkv0RefIdeal.main_arg0) = m ((c.tc : Thread Cert.Qkv0Ideal.nD Cert.Qkv0Ideal.τ).loc Cert.Qkv0Ideal.main_arg0)
      ∧ m' ((c.tc : Thread Cert.Qkv0RefIdeal.nD Cert.Qkv0RefIdeal.τ).loc Cert.Qkv0RefIdeal.main_arg1) = m ((c.tc : Thread Cert.Qkv0Ideal.nD Cert.Qkv0Ideal.τ).loc Cert.Qkv0Ideal.main_arg1)
      ∧ m' ((c.tc : Thread Cert.Qkv0RefIdeal.nD Cert.Qkv0RefIdeal.τ).loc Cert.Qkv0RefIdeal.main_arg2) = m ((c.tc : Thread Cert.Qkv0Ideal.nD Cert.Qkv0Ideal.τ).loc Cert.Qkv0Ideal.main_arg2)
      ∧ m' ((c.tc : Thread Cert.Qkv0RefIdeal.nD Cert.Qkv0RefIdeal.τ).loc Cert.Qkv0RefIdeal.main_arg3) = m ((c.tc : Thread Cert.Qkv0Ideal.nD Cert.Qkv0Ideal.τ).loc Cert.Qkv0Ideal.main_arg3)
      ∧ m' ((c.tc : Thread Cert.Qkv0RefIdeal.nD Cert.Qkv0RefIdeal.τ).loc Cert.Qkv0RefIdeal.main_arg4) = m ((c.tc : Thread Cert.Qkv0Ideal.nD Cert.Qkv0Ideal.τ).loc Cert.Qkv0Ideal.main_arg4)) →
    ∃ (v0 : (c : Dev Cert.Qkv0Ideal.nD) → Buf (Elt Ideal) ((c.tc : Thread Cert.Qkv0Ideal.nD Cert.Qkv0Ideal.τ).loc Cert.Qkv0Ideal.main_v0_0)) (v1 : (c : Dev Cert.Qkv0Ideal.nD) → Buf (Elt Ideal) ((c.tc : Thread Cert.Qkv0Ideal.nD Cert.Qkv0Ideal.τ).loc Cert.Qkv0Ideal.main_v0_1)) (v2 : (c : Dev Cert.Qkv0Ideal.nD) → Buf (Elt Ideal) ((c.tc : Thread Cert.Qkv0Ideal.nD Cert.Qkv0Ideal.τ).loc Cert.Qkv0Ideal.main_v0_2)) (v3 : (c : Dev Cert.Qkv0Ideal.nD) → Buf (Elt Ideal) ((c.tc : Thread Cert.Qkv0Ideal.nD Cert.Qkv0Ideal.τ).loc Cert.Qkv0Ideal.main_v0_3)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v0_0) = v0 c
          ∧ r.2.mem ((c.tc : Thread Cert.Qkv0Ideal.nD Cert.Qkv0Ideal.τ).loc Cert.Qkv0Ideal.main_v0_1) = v1 c
          ∧ r.2.mem ((c.tc : Thread Cert.Qkv0Ideal.nD Cert.Qkv0Ideal.τ).loc Cert.Qkv0Ideal.main_v0_2) = v2 c
          ∧ r.2.mem ((c.tc : Thread Cert.Qkv0Ideal.nD Cert.Qkv0Ideal.τ).loc Cert.Qkv0Ideal.main_v0_3) = v3 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
          ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2)
          ∧ r.2.mem ((c.tc : Thread Cert.Qkv0Ideal.nD Cert.Qkv0Ideal.τ).loc Cert.Qkv0Ideal.main_arg3) = m ((c.tc : Thread Cert.Qkv0Ideal.nD Cert.Qkv0Ideal.τ).loc Cert.Qkv0Ideal.main_arg3)
          ∧ r.2.mem ((c.tc : Thread Cert.Qkv0Ideal.nD Cert.Qkv0Ideal.τ).loc Cert.Qkv0Ideal.main_arg4) = m ((c.tc : Thread Cert.Qkv0Ideal.nD Cert.Qkv0Ideal.τ).loc Cert.Qkv0Ideal.main_arg4))
      ∧ θ_run (Cert.Qkv0RefIdeal.defs (F := Ideal)) (onTc (τ := Cert.Qkv0RefIdeal.τ) (Cert.Qkv0RefIdeal.main (F := Ideal))) ⟨m', fun _ => 0, g'⟩ (fun r => ∀ c : Dev Cert.Qkv0RefIdeal.nD,
          r.2.mem ((c.tc : Thread Cert.Qkv0RefIdeal.nD Cert.Qkv0RefIdeal.τ).loc Cert.Qkv0RefIdeal.main_v5) = v0 c
          ∧ r.2.mem ((c.tc : Thread Cert.Qkv0RefIdeal.nD Cert.Qkv0RefIdeal.τ).loc Cert.Qkv0RefIdeal.main_v7) = v1 c
          ∧ r.2.mem ((c.tc : Thread Cert.Qkv0RefIdeal.nD Cert.Qkv0RefIdeal.τ).loc Cert.Qkv0RefIdeal.main_v10) = v2 c
          ∧ r.2.mem ((c.tc : Thread Cert.Qkv0RefIdeal.nD Cert.Qkv0RefIdeal.τ).loc Cert.Qkv0RefIdeal.main_v12) = v3 c
          ∧ r.2.mem ((c.tc : Thread Cert.Qkv0RefIdeal.nD Cert.Qkv0RefIdeal.τ).loc Cert.Qkv0RefIdeal.main_arg0) = m' ((c.tc : Thread Cert.Qkv0RefIdeal.nD Cert.Qkv0RefIdeal.τ).loc Cert.Qkv0RefIdeal.main_arg0)
          ∧ r.2.mem ((c.tc : Thread Cert.Qkv0RefIdeal.nD Cert.Qkv0RefIdeal.τ).loc Cert.Qkv0RefIdeal.main_arg1) = m' ((c.tc : Thread Cert.Qkv0RefIdeal.nD Cert.Qkv0RefIdeal.τ).loc Cert.Qkv0RefIdeal.main_arg1)
          ∧ r.2.mem ((c.tc : Thread Cert.Qkv0RefIdeal.nD Cert.Qkv0RefIdeal.τ).loc Cert.Qkv0RefIdeal.main_arg2) = m' ((c.tc : Thread Cert.Qkv0RefIdeal.nD Cert.Qkv0RefIdeal.τ).loc Cert.Qkv0RefIdeal.main_arg2)
          ∧ r.2.mem ((c.tc : Thread Cert.Qkv0RefIdeal.nD Cert.Qkv0RefIdeal.τ).loc Cert.Qkv0RefIdeal.main_arg3) = m' ((c.tc : Thread Cert.Qkv0RefIdeal.nD Cert.Qkv0RefIdeal.τ).loc Cert.Qkv0RefIdeal.main_arg3)
          ∧ r.2.mem ((c.tc : Thread Cert.Qkv0RefIdeal.nD Cert.Qkv0RefIdeal.τ).loc Cert.Qkv0RefIdeal.main_arg4) = m' ((c.tc : Thread Cert.Qkv0RefIdeal.nD Cert.Qkv0RefIdeal.τ).loc Cert.Qkv0RefIdeal.main_arg4))

def preserves_Qkv1_Qkv1Ideal : Prop :=
  True

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)
      ∧ m' ((c.tc : Thread Cert.Qkv1RefIdeal.nD Cert.Qkv1RefIdeal.τ).loc Cert.Qkv1RefIdeal.main_arg2) = m ((c.tc : Thread Cert.Qkv1Ideal.nD Cert.Qkv1Ideal.τ).loc Cert.Qkv1Ideal.main_arg2)
      ∧ m' ((c.tc : Thread Cert.Qkv1RefIdeal.nD Cert.Qkv1RefIdeal.τ).loc Cert.Qkv1RefIdeal.main_arg3) = m ((c.tc : Thread Cert.Qkv1Ideal.nD Cert.Qkv1Ideal.τ).loc Cert.Qkv1Ideal.main_arg3)) →
    ∃ (v0 : (c : Dev Cert.Qkv1Ideal.nD) → Buf (Elt Ideal) ((c.tc : Thread Cert.Qkv1Ideal.nD Cert.Qkv1Ideal.τ).loc Cert.Qkv1Ideal.main_v0_0)) (v1 : (c : Dev Cert.Qkv1Ideal.nD) → Buf (Elt Ideal) ((c.tc : Thread Cert.Qkv1Ideal.nD Cert.Qkv1Ideal.τ).loc Cert.Qkv1Ideal.main_v0_1)) (v2 : (c : Dev Cert.Qkv1Ideal.nD) → Buf (Elt Ideal) ((c.tc : Thread Cert.Qkv1Ideal.nD Cert.Qkv1Ideal.τ).loc Cert.Qkv1Ideal.main_v0_2)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v0_0) = v0 c
          ∧ r.2.mem ((c.tc : Thread Cert.Qkv1Ideal.nD Cert.Qkv1Ideal.τ).loc Cert.Qkv1Ideal.main_v0_1) = v1 c
          ∧ r.2.mem ((c.tc : Thread Cert.Qkv1Ideal.nD Cert.Qkv1Ideal.τ).loc Cert.Qkv1Ideal.main_v0_2) = v2 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
          ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
          ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v1) = v0 c
          ∧ r.2.mem ((c.tc : Thread Cert.Qkv1RefIdeal.nD Cert.Qkv1RefIdeal.τ).loc Cert.Qkv1RefIdeal.main_v4) = v1 c
          ∧ r.2.mem ((c.tc : Thread Cert.Qkv1RefIdeal.nD Cert.Qkv1RefIdeal.τ).loc Cert.Qkv1RefIdeal.main_v6) = v2 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1)
          ∧ r.2.mem ((c.tc : Thread Cert.Qkv1RefIdeal.nD Cert.Qkv1RefIdeal.τ).loc Cert.Qkv1RefIdeal.main_arg2) = m' ((c.tc : Thread Cert.Qkv1RefIdeal.nD Cert.Qkv1RefIdeal.τ).loc Cert.Qkv1RefIdeal.main_arg2)
          ∧ r.2.mem ((c.tc : Thread Cert.Qkv1RefIdeal.nD Cert.Qkv1RefIdeal.τ).loc Cert.Qkv1RefIdeal.main_arg3) = m' ((c.tc : Thread Cert.Qkv1RefIdeal.nD Cert.Qkv1RefIdeal.τ).loc Cert.Qkv1RefIdeal.main_arg3))

def preserves_Mean_MeanIdeal : Prop :=
  True

def algebraic_MeanIdeal_MeanRefIdeal [hMeanIdeal : Cert.MeanIdeal.Facts] [hMeanRefIdeal : Cert.MeanRefIdeal.Facts] : Prop :=
  ∀ (m : (ℓ : Loc Cert.MeanIdeal.nD Cert.MeanIdeal.τ Cert.MeanIdeal.sig) → Buf (Elt Ideal) ℓ) (g : Dev Cert.MeanIdeal.nD → PrngReg)
    (m' : (ℓ : Loc Cert.MeanRefIdeal.nD Cert.MeanRefIdeal.τ Cert.MeanRefIdeal.sig) → Buf (Elt Ideal) ℓ) (g' : Dev Cert.MeanRefIdeal.nD → PrngReg), Pre_MeanIdeal m →
    (∀ c : Dev Cert.MeanIdeal.nD,
      m' ((c.tc : Thread Cert.MeanRefIdeal.nD Cert.MeanRefIdeal.τ).loc Cert.MeanRefIdeal.main_arg0) = m ((c.tc : Thread Cert.MeanIdeal.nD Cert.MeanIdeal.τ).loc Cert.MeanIdeal.main_arg0)) →
    ∃ (v0 : (c : Dev Cert.MeanIdeal.nD) → Buf (Elt Ideal) ((c.tc : Thread Cert.MeanIdeal.nD Cert.MeanIdeal.τ).loc Cert.MeanIdeal.main_v0)),
      θ_run (Cert.MeanIdeal.defs (F := Ideal)) (onTc (τ := Cert.MeanIdeal.τ) (Cert.MeanIdeal.main (F := Ideal))) ⟨m, fun _ => 0, g⟩ (fun r => ∀ c : Dev Cert.MeanIdeal.nD,
          r.2.mem ((c.tc : Thread Cert.MeanIdeal.nD Cert.MeanIdeal.τ).loc Cert.MeanIdeal.main_v0) = v0 c
          ∧ r.2.mem ((c.tc : Thread Cert.MeanIdeal.nD Cert.MeanIdeal.τ).loc Cert.MeanIdeal.main_arg0) = m ((c.tc : Thread Cert.MeanIdeal.nD Cert.MeanIdeal.τ).loc Cert.MeanIdeal.main_arg0))
      ∧ θ_run (Cert.MeanRefIdeal.defs (F := Ideal)) (onTc (τ := Cert.MeanRefIdeal.τ) (Cert.MeanRefIdeal.main (F := Ideal))) ⟨m', fun _ => 0, g'⟩ (fun r => ∀ c : Dev Cert.MeanRefIdeal.nD,
          r.2.mem ((c.tc : Thread Cert.MeanRefIdeal.nD Cert.MeanRefIdeal.τ).loc Cert.MeanRefIdeal.main_v7) = v0 c
          ∧ r.2.mem ((c.tc : Thread Cert.MeanRefIdeal.nD Cert.MeanRefIdeal.τ).loc Cert.MeanRefIdeal.main_arg0) = m' ((c.tc : Thread Cert.MeanRefIdeal.nD Cert.MeanRefIdeal.τ).loc Cert.MeanRefIdeal.main_arg0))

def preserves_Sim_SimIdeal : Prop :=
  IdealRules.named_const.Statement Cert.SimIdeal.κ "floor_squared" .f32 0x179ABE15#32 ((5316911940649 / 5316911983139663491615228241121378304 : ℝ) : EReal)

def algebraic_SimIdeal_SimRefIdeal [hSimIdeal : Cert.SimIdeal.Facts] [hSimRefIdeal : Cert.SimRefIdeal.Facts] : Prop :=
  ∀ (m : (ℓ : Loc Cert.SimIdeal.nD Cert.SimIdeal.τ Cert.SimIdeal.sig) → Buf (Elt Ideal) ℓ) (g : Dev Cert.SimIdeal.nD → PrngReg)
    (m' : (ℓ : Loc Cert.SimRefIdeal.nD Cert.SimRefIdeal.τ Cert.SimRefIdeal.sig) → Buf (Elt Ideal) ℓ) (g' : Dev Cert.SimRefIdeal.nD → PrngReg), Pre_SimIdeal m →
    (∀ c : Dev Cert.SimIdeal.nD,
      m' ((c.tc : Thread Cert.SimRefIdeal.nD Cert.SimRefIdeal.τ).loc Cert.SimRefIdeal.main_arg0) = m ((c.tc : Thread Cert.SimIdeal.nD Cert.SimIdeal.τ).loc Cert.SimIdeal.main_arg0)
      ∧ m' ((c.tc : Thread Cert.SimRefIdeal.nD Cert.SimRefIdeal.τ).loc Cert.SimRefIdeal.main_arg1) = m ((c.tc : Thread Cert.SimIdeal.nD Cert.SimIdeal.τ).loc Cert.SimIdeal.main_arg1)) →
    ∃ (v0 : (c : Dev Cert.SimIdeal.nD) → Buf (Elt Ideal) ((c.tc : Thread Cert.SimIdeal.nD Cert.SimIdeal.τ).loc Cert.SimIdeal.main_v0)),
      θ_run (Cert.SimIdeal.defs (F := Ideal)) (onTc (τ := Cert.SimIdeal.τ) (Cert.SimIdeal.main (F := Ideal))) ⟨m, fun _ => 0, g⟩ (fun r => ∀ c : Dev Cert.SimIdeal.nD,
          r.2.mem ((c.tc : Thread Cert.SimIdeal.nD Cert.SimIdeal.τ).loc Cert.SimIdeal.main_v0) = v0 c
          ∧ r.2.mem ((c.tc : Thread Cert.SimIdeal.nD Cert.SimIdeal.τ).loc Cert.SimIdeal.main_arg0) = m ((c.tc : Thread Cert.SimIdeal.nD Cert.SimIdeal.τ).loc Cert.SimIdeal.main_arg0)
          ∧ r.2.mem ((c.tc : Thread Cert.SimIdeal.nD Cert.SimIdeal.τ).loc Cert.SimIdeal.main_arg1) = m ((c.tc : Thread Cert.SimIdeal.nD Cert.SimIdeal.τ).loc Cert.SimIdeal.main_arg1))
      ∧ θ_run (Cert.SimRefIdeal.defs (F := Ideal)) (onTc (τ := Cert.SimRefIdeal.τ) (Cert.SimRefIdeal.main (F := Ideal))) ⟨m', fun _ => 0, g'⟩ (fun r => ∀ c : Dev Cert.SimRefIdeal.nD,
          r.2.mem ((c.tc : Thread Cert.SimRefIdeal.nD Cert.SimRefIdeal.τ).loc Cert.SimRefIdeal.main_v9) = v0 c
          ∧ r.2.mem ((c.tc : Thread Cert.SimRefIdeal.nD Cert.SimRefIdeal.τ).loc Cert.SimRefIdeal.main_arg0) = m' ((c.tc : Thread Cert.SimRefIdeal.nD Cert.SimRefIdeal.τ).loc Cert.SimRefIdeal.main_arg0)
          ∧ r.2.mem ((c.tc : Thread Cert.SimRefIdeal.nD Cert.SimRefIdeal.τ).loc Cert.SimRefIdeal.main_arg1) = m' ((c.tc : Thread Cert.SimRefIdeal.nD Cert.SimRefIdeal.τ).loc Cert.SimRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v31) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4))

def preserves_Attn_AttnIdeal : Prop :=
  True

def algebraic_AttnIdeal_AttnRefIdeal_pre_finite_queries_keys [hAttnIdeal : Cert.AttnIdeal.Facts] [hAttnRefIdeal : Cert.AttnRefIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v28) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_TopK_TopKIdeal : Prop :=
  True

def algebraic_TopKIdeal_TopKRefIdeal_pre_above_mask [hTopKIdeal : Cert.TopKIdeal.Facts] [hTopKRefIdeal : Cert.TopKRefIdeal.Facts] [hPre_above_mask : Cert.Pre_above_mask.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKRefIdeal.nD Cert.TopKRefIdeal.τ Cert.TopKRefIdeal.sig) → Buf (Elt Ideal) ℓ) (g' : Dev Cert.TopKRefIdeal.nD → PrngReg), Pre_TopKIdeal_above_mask m →
    (∀ c : Dev Cert.TopKIdeal.nD,
      m' ((c.tc : Thread Cert.TopKRefIdeal.nD Cert.TopKRefIdeal.τ).loc Cert.TopKRefIdeal.main_arg0) = m ((c.tc : Thread Cert.TopKIdeal.nD Cert.TopKIdeal.τ).loc Cert.TopKIdeal.main_arg0)) →
    ∃ (v0 : (c : Dev Cert.TopKIdeal.nD) → Buf (Elt Ideal) ((c.tc : Thread Cert.TopKIdeal.nD Cert.TopKIdeal.τ).loc Cert.TopKIdeal.main_v0_0)) (v1 : (c : Dev Cert.TopKIdeal.nD) → Buf (Elt Ideal) ((c.tc : Thread Cert.TopKIdeal.nD Cert.TopKIdeal.τ).loc Cert.TopKIdeal.main_v0_1)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v0_0) = v0 c
          ∧ r.2.mem ((c.tc : Thread Cert.TopKIdeal.nD Cert.TopKIdeal.τ).loc Cert.TopKIdeal.main_v0_1) = v1 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ θ_run (Cert.TopKRefIdeal.defs (F := Ideal)) (onTc (τ := Cert.TopKRefIdeal.τ) (Cert.TopKRefIdeal.main (F := Ideal))) ⟨m', fun _ => 0, g'⟩ (fun r => ∀ c : Dev Cert.TopKRefIdeal.nD,
          r.2.mem ((c.tc : Thread Cert.TopKRefIdeal.nD Cert.TopKRefIdeal.τ).loc Cert.TopKRefIdeal.main_indices) = v0 c
          ∧ r.2.mem ((c.tc : Thread Cert.TopKRefIdeal.nD Cert.TopKRefIdeal.τ).loc Cert.TopKRefIdeal.main_v10) = v1 c
          ∧ r.2.mem ((c.tc : Thread Cert.TopKRefIdeal.nD Cert.TopKRefIdeal.τ).loc Cert.TopKRefIdeal.main_arg0) = m' ((c.tc : Thread Cert.TopKRefIdeal.nD Cert.TopKRefIdeal.τ).loc Cert.TopKRefIdeal.main_arg0))

def Claim : Prop :=
  ∃ (hKernel : Cert.Kernel.Facts) (hKernelIdeal : Cert.KernelIdeal.Facts) (hReferenceIdeal : Cert.ReferenceIdeal.Facts) (hReference : Cert.Reference.Facts) (hCombine : Cert.Combine.Facts) (hCombineIdeal : Cert.CombineIdeal.Facts) (hCombineRefIdeal : Cert.CombineRefIdeal.Facts) (hHead : Cert.Head.Facts) (hHeadIdeal : Cert.HeadIdeal.Facts) (hHeadRefIdeal : Cert.HeadRefIdeal.Facts) (hQkv0 : Cert.Qkv0.Facts) (hQkv0Ideal : Cert.Qkv0Ideal.Facts) (hQkv0RefIdeal : Cert.Qkv0RefIdeal.Facts) (hQkv1 : Cert.Qkv1.Facts) (hQkv1Ideal : Cert.Qkv1Ideal.Facts) (hQkv1RefIdeal : Cert.Qkv1RefIdeal.Facts) (hMean : Cert.Mean.Facts) (hMeanIdeal : Cert.MeanIdeal.Facts) (hMeanRefIdeal : Cert.MeanRefIdeal.Facts) (hSim : Cert.Sim.Facts) (hSimIdeal : Cert.SimIdeal.Facts) (hSimRefIdeal : Cert.SimRefIdeal.Facts) (hPost : Cert.Post.Facts) (hPostIdeal : Cert.PostIdeal.Facts) (hPostRefIdeal : Cert.PostRefIdeal.Facts) (hAttn : Cert.Attn.Facts) (hAttnIdeal : Cert.AttnIdeal.Facts) (hAttnRefIdeal : Cert.AttnRefIdeal.Facts) (hTopK : Cert.TopK.Facts) (hTopKIdeal : Cert.TopKIdeal.Facts) (hTopKRefIdeal : Cert.TopKRefIdeal.Facts) (hPre_ids_in_range : Cert.Pre_ids_in_range.Facts) (hPre_rows_in_range : Cert.Pre_rows_in_range.Facts) (hPre_finite_queries_keys : Cert.Pre_finite_queries_keys.Facts) (hPre_above_mask : Cert.Pre_above_mask.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ quiescent_Reference (hReference := hReference) (hPre_ids_in_range := hPre_ids_in_range)
    ∧ quiescent_Combine (hCombine := hCombine) (hPre_rows_in_range := hPre_rows_in_range)
    ∧ quiescent_CombineIdeal (hCombineIdeal := hCombineIdeal) (hPre_rows_in_range := hPre_rows_in_range)
    ∧ quiescent_CombineRefIdeal (hCombineRefIdeal := hCombineRefIdeal)
    ∧ quiescent_CombineRefIdeal_pre_rows_in_range (hCombineRefIdeal := hCombineRefIdeal) (hPre_rows_in_range := hPre_rows_in_range)
    ∧ quiescent_Head (hHead := hHead)
    ∧ quiescent_HeadIdeal (hHeadIdeal := hHeadIdeal)
    ∧ quiescent_HeadRefIdeal (hHeadRefIdeal := hHeadRefIdeal)
    ∧ quiescent_Qkv0 (hQkv0 := hQkv0)
    ∧ quiescent_Qkv0Ideal (hQkv0Ideal := hQkv0Ideal)
    ∧ quiescent_Qkv0RefIdeal (hQkv0RefIdeal := hQkv0RefIdeal)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ quiescent_Mean (hMean := hMean)
    ∧ quiescent_MeanIdeal (hMeanIdeal := hMeanIdeal)
    ∧ quiescent_MeanRefIdeal (hMeanRefIdeal := hMeanRefIdeal)
    ∧ quiescent_Sim (hSim := hSim)
    ∧ quiescent_SimIdeal (hSimIdeal := hSimIdeal)
    ∧ quiescent_SimRefIdeal (hSimRefIdeal := hSimRefIdeal)
    ∧ quiescent_Post (hPost := hPost)
    ∧ quiescent_PostIdeal (hPostIdeal := hPostIdeal)
    ∧ quiescent_PostRefIdeal (hPostRefIdeal := hPostRefIdeal)
    ∧ quiescent_Attn (hAttn := hAttn)
    ∧ quiescent_AttnIdeal (hAttnIdeal := hAttnIdeal)
    ∧ quiescent_AttnIdeal_pre_finite_queries_keys (hAttnIdeal := hAttnIdeal) (hPre_finite_queries_keys := hPre_finite_queries_keys)
    ∧ quiescent_AttnRefIdeal (hAttnRefIdeal := hAttnRefIdeal)
    ∧ quiescent_AttnRefIdeal_pre_finite_queries_keys (hAttnRefIdeal := hAttnRefIdeal) (hPre_finite_queries_keys := hPre_finite_queries_keys)
    ∧ quiescent_TopK (hTopK := hTopK)
    ∧ quiescent_TopKIdeal (hTopKIdeal := hTopKIdeal)
    ∧ quiescent_TopKIdeal_pre_above_mask (hTopKIdeal := hTopKIdeal) (hPre_above_mask := hPre_above_mask)
    ∧ quiescent_TopKRefIdeal (hTopKRefIdeal := hTopKRefIdeal)
    ∧ quiescent_TopKRefIdeal_pre_above_mask (hTopKRefIdeal := hTopKRefIdeal) (hPre_above_mask := hPre_above_mask)
    ∧ preserves_Kernel_KernelIdeal
    ∧ algebraic_KernelIdeal_ReferenceIdeal (hKernelIdeal := hKernelIdeal) (hReferenceIdeal := hReferenceIdeal) (hPre_ids_in_range := hPre_ids_in_range)
    ∧ bitexact_Kernel_Reference (hKernel := hKernel) (hReference := hReference) (hPre_ids_in_range := hPre_ids_in_range)
    ∧ preserves_Combine_CombineIdeal
    ∧ algebraic_CombineIdeal_CombineRefIdeal (hCombineIdeal := hCombineIdeal) (hCombineRefIdeal := hCombineRefIdeal) (hPre_rows_in_range := hPre_rows_in_range)
    ∧ preserves_Head_HeadIdeal
    ∧ algebraic_HeadIdeal_HeadRefIdeal (hHeadIdeal := hHeadIdeal) (hHeadRefIdeal := hHeadRefIdeal)
    ∧ preserves_Qkv0_Qkv0Ideal
    ∧ algebraic_Qkv0Ideal_Qkv0RefIdeal (hQkv0Ideal := hQkv0Ideal) (hQkv0RefIdeal := hQkv0RefIdeal)
    ∧ preserves_Qkv1_Qkv1Ideal
    ∧ algebraic_Qkv1Ideal_Qkv1RefIdeal (hQkv1Ideal := hQkv1Ideal) (hQkv1RefIdeal := hQkv1RefIdeal)
    ∧ preserves_Mean_MeanIdeal
    ∧ algebraic_MeanIdeal_MeanRefIdeal (hMeanIdeal := hMeanIdeal) (hMeanRefIdeal := hMeanRefIdeal)
    ∧ preserves_Sim_SimIdeal
    ∧ algebraic_SimIdeal_SimRefIdeal (hSimIdeal := hSimIdeal) (hSimRefIdeal := hSimRefIdeal)
    ∧ preserves_Post_PostIdeal
    ∧ algebraic_PostIdeal_PostRefIdeal (hPostIdeal := hPostIdeal) (hPostRefIdeal := hPostRefIdeal)
    ∧ preserves_Attn_AttnIdeal
    ∧ algebraic_AttnIdeal_AttnRefIdeal_pre_finite_queries_keys (hAttnIdeal := hAttnIdeal) (hAttnRefIdeal := hAttnRefIdeal) (hPre_finite_queries_keys := hPre_finite_queries_keys)
    ∧ preserves_TopK_TopKIdeal
    ∧ algebraic_TopKIdeal_TopKRefIdeal_pre_above_mask (hTopKIdeal := hTopKIdeal) (hTopKRefIdeal := hTopKRefIdeal) (hPre_above_mask := hPre_above_mask)
-- ==== Pre_above_mask.lean ====
abbrev S2x65536 : Shape := ⟨2, ![2, 65536]⟩
abbrev S_ : Shape := ⟨0, ![]⟩

class Facts : Prop where
  bcast_S_S2x65536 : S_.BroadcastsInDim S2x65536 (![] : Fin 0 → Fin S2x65536.rank)
  reducesTo_S2x65536_S_d0_1 : S2x65536.ReducesTo [0, 1] S_
  h_S_ : 0 < S_.numel

variable [Facts]

def fn {F : FTy → Type} [FloatOps F] (main_arg0 : FVec F S2x65536 .f32) : IVec S_ 1 :=
  let main_cst : FVec F S_ .f32 := constant S_ .f32 0xF149F2CA#32
  let main_v0 : FVec F S2x65536 .f32 := broadcastInDim S2x65536 ![] bcast_S_S2x65536 main_cst
  let main_v1 : IVec S2x65536 1 := cmpf .ogt main_arg0 main_v0
  let main_c : IVec S_ 1 := constantI S_ 1 1#1
  let main_v2 : IVec S_ 1 := (fun x v => Host.reduce IntOp.andi x v reducesTo_S2x65536_S_d0_1 h_S_) main_v1 main_c
  main_v2
-- ==== Pre_finite_queries_keys.lean ====
abbrev S4096x768 : Shape := ⟨2, ![4096, 768]⟩
abbrev S768x4096 : Shape := ⟨2, ![768, 4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768x4096 : S_.BroadcastsInDim S768x4096 (![] : Fin 0 → Fin S768x4096.rank)
  reducesTo_S768x4096_S_d0_1 : S768x4096.ReducesTo [0, 1] S_

variable [Facts]

def fn {F : FTy → Type} [FloatOps F] (main_arg0 : FVec F S4096x768 .bf16) (main_arg1 : FVec F S768x4096 .bf16) (main_arg2 : FVec F S4096x768 .bf16) : IVec S_ 1 :=
  let main_v0 : FVec F S4096x768 .bf16 := Host.absf main_arg0
  let main_cst : FVec F S_ .bf16 := constant S_ .bf16 0x7F80#16
  let main_v1 : FVec F S4096x768 .bf16 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S768x4096 .bf16 := Host.absf main_arg1
  let main_cst_0 : FVec F S_ .bf16 := constant S_ .bf16 0x7F80#16
  let main_v5 : FVec F S768x4096 .bf16 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  main_v8
-- ==== Pre_ids_in_range.lean ====
abbrev S2x2048 : Shape := ⟨2, ![2, 2048]⟩
abbrev S32000x768 : Shape := ⟨2, ![32000, 768]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel

variable [Facts]

def fn {F : FTy → Type} [FloatOps F] (main_arg0 : IVec S2x2048 32) (main_arg1 : FVec F S32000x768 .f32) : IVec S_ 1 :=
  let main_c : IVec S_ 32 := constantI S_ 32 0#32
  let main_v0 : IVec S2x2048 32 := broadcastInDim S2x2048 ![] bcast_S_S2x2048 main_c
  let main_v1 : IVec S2x2048 1 := cmpi .sge main_arg0 main_v0
  let main_c_0 : IVec S_ 32 := constantI S_ 32 32000#32
  let main_v2 : IVec S2x2048 32 := broadcastInDim S2x2048 ![] bcast_S_S2x2048 main_c_0
  let main_v3 : IVec S2x2048 1 := cmpi .slt main_arg0 main_v2
  let main_v4 : IVec S2x2048 1 := andi main_v1 main_v3
  let main_c_1 : IVec S_ 1 := constantI S_ 1 1#1
  let main_v5 : IVec S_ 1 := (fun x v => Host.reduce IntOp.andi x v reducesTo_S2x2048_S_d0_1 h_S_) main_v4 main_c_1
  main_v5
-- ==== Pre_rows_in_range.lean ====
abbrev S65536x768 : Shape := ⟨2, ![65536, 768]⟩
abbrev S16 : Shape := ⟨1, ![16]⟩
abbrev S2x8 : Shape := ⟨2, ![2, 8]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S65536x768 .f32) (main_arg1 : IVec S16 32) (main_arg2 : FVec F S2x8 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 65536#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S2x2048 : Shape := ⟨2, ![2, 2048]⟩
abbrev S32000x768 : Shape := ⟨2, ![32000, 768]⟩
abbrev S1x4096 : Shape := ⟨2, ![1, 4096]⟩
abbrev S192000x128 : Shape := ⟨2, ![192000, 128]⟩
abbrev S4096 : Shape := ⟨1, ![4096]⟩
abbrev S4096x1 : Shape := ⟨2, ![4096, 1]⟩
abbrev S_ : Shape := ⟨0, ![]⟩
abbrev S6 : Shape := ⟨1, ![6]⟩
abbrev S1x6 : Shape := ⟨2, ![1, 6]⟩
abbrev S4096x6 : Shape := ⟨2, ![4096, 6]⟩
abbrev S1x24576 : Shape := ⟨2, ![1, 24576]⟩
abbrev S24576x128 : Shape := ⟨2, ![24576, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S4096x768 : Shape := ⟨2, ![4096, 768]⟩

abbrev nBuf : Table → Nat
  | .hbm => 17
  | .local .scVector .vmem => 2
  | _ => 0

abbrev bufTy : (tb : Table) → Fin (nBuf tb) → BufTy
  | .hbm, ⟨0, _⟩ => ⟨S2x2048, .i32⟩
  | .hbm, ⟨1, _⟩ => ⟨S32000x768, .f32⟩
  | .hbm, ⟨2, _⟩ => ⟨S1x4096, .i32⟩
  | .hbm, ⟨3, _⟩ => ⟨S192000x128, .f32⟩
  | .hbm, ⟨4, _⟩ => ⟨S4096, .i32⟩
  | .hbm, ⟨5, _⟩ => ⟨S4096x1, .i32⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S6, .i32⟩
  | .hbm, ⟨10, _⟩ => ⟨S1x6, .i32⟩
  | .hbm, ⟨11, _⟩ => ⟨S4096x6, .i32⟩
  | .hbm, ⟨12, _⟩ => ⟨S4096x6, .i32⟩
  | .hbm, ⟨13, _⟩ => ⟨S4096x6, .i32⟩
  | .hbm, ⟨14, _⟩ => ⟨S1x24576, .i32⟩
  | .hbm, ⟨15, _⟩ => ⟨S24576x128, .f32⟩
  | .hbm, ⟨16, _⟩ => ⟨S4096x768, .f32⟩
  | .local .scVector .vmem, ⟨0, _⟩ => ⟨S2x1x128, .i32⟩
  | .local .scVector .vmem, ⟨1, _⟩ => ⟨S2x128x128, .f32⟩
  | _, _ => ⟨S2x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v1_scv : Ref sig .scVector := ⟨.hbm, 3, rfl⟩
abbrev main_v11_scv : Ref sig .scVector := ⟨.hbm, 14, rfl⟩
abbrev main_v12_scv : Ref sig .scVector := ⟨.hbm, 15, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c6_i32_27_r0 : BitVec 32 := 6#32
  let v32_r0 : BitVec 32 := Scalar.addi c0_i32_26_r0 c6_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c6_i32_62_r0 : BitVec 32 := 6#32
  let v74_r0 : BitVec 1 := Scalar.cmpi .eq v73_r0 c6_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c5_i32_68_r0 : BitVec 32 := 5#32
  let v83_r0 : BitVec 1 := Scalar.cmpi .sge arg5_r0 c5_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c6_i32_62_r0 : BitVec 32 := 6#32
  let v74_r0 : BitVec 1 := Scalar.cmpi .eq v73_r0 c6_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c5_i32_59_r0 : BitVec 32 := 5#32
  let v70_r0 : BitVec 32 := Scalar.select v69_r0 c5_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c6_i32_62_r0 : BitVec 32 := 6#32
  let v74_r0 : BitVec 1 := Scalar.cmpi .eq v73_r0 c6_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c5_i32_55_r0 : BitVec 32 := 5#32
  let v65_r0 : BitVec 1 := Scalar.cmpi .eq arg5_r0 c5_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c5_i32_59_r0 : BitVec 32 := 5#32
  let v70_r0 : BitVec 32 := Scalar.select v69_r0 c5_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c5_i32_59_r0 : BitVec 32 := 5#32
  let v70_r0 : BitVec 32 := Scalar.select v69_r0 c5_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x24576.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x24576.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S24576x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S24576x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x24576.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x24576.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S24576x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S24576x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c5_i32_33_r0 : BitVec 32 := 5#32
  let v37_r0 : BitVec 32 := Scalar.select v36_r0 c5_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S24576x128.size a)
theorem k0_off19_inb : ∀ (i : grid0.Coords) (v33_4_r0 : BitVec 32) (k0_hw5 : k0_chk5 i v33_4_r0), ∀ a, (k0_off19 i v33_4_r0) a + S128x128.size a ≤ S24576x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x2048 : Shape := ⟨2, ![2, 2048]⟩
abbrev S32000x768 : Shape := ⟨2, ![32000, 768]⟩
abbrev S_ : Shape := ⟨0, ![]⟩
abbrev S2x2048x1 : Shape := ⟨3, ![2, 2048, 1]⟩
abbrev S2x2048x768 : Shape := ⟨3, ![2, 2048, 768]⟩
abbrev S4096x768 : Shape := ⟨2, ![4096, 768]⟩

abbrev nBuf : Space → Nat
  | .hbm => 12
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S32000x768, .f32⟩
  | .hbm, ⟨2, _⟩ => ⟨S_, .i32⟩
  | .hbm, ⟨3, _⟩ => ⟨S2x2048, .i32⟩
  | .hbm, ⟨4, _⟩ => ⟨S2x2048, .i1⟩
  | .hbm, ⟨5, _⟩ => ⟨S_, .i32⟩
  | .hbm, ⟨6, _⟩ => ⟨S2x2048, .i32⟩
  | .hbm, ⟨7, _⟩ => ⟨S2x2048, .i32⟩
  | .hbm, ⟨8, _⟩ => ⟨S2x2048, .i32⟩
  | .hbm, ⟨9, _⟩ => ⟨S2x2048x1, .i32⟩
  | .hbm, ⟨10, _⟩ => ⟨S2x2048x768, .f32⟩
  | .hbm, ⟨11, _⟩ => ⟨S4096x768, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Combine.lean ====
abbrev S65536x768 : Shape := ⟨2, ![65536, 768]⟩
abbrev S16 : Shape := ⟨1, ![16]⟩
abbrev S2x8 : Shape := ⟨2, ![2, 8]⟩
abbrev S2x768 : Shape := ⟨2, ![2, 768]⟩
abbrev S16x768 : Shape := ⟨2, ![16, 768]⟩
abbrev S1 : Shape := ⟨1, ![1]⟩
abbrev S_ : Shape := ⟨0, ![]⟩
abbrev S1x768 : Shape := ⟨2, ![1, 768]⟩
abbrev S2x16 : Shape := ⟨2, ![2, 16]⟩

abbrev nBuf : Space → Nat
  | .hbm => 3
  | .vmem => 3
  | .smem => 1
  | _ => 0

abbrev bufTy : (tb : Table) → Fin (tcTables nBuf tb) → BufTy
  | .hbm, ⟨0, _⟩ => ⟨S65536x768, .f32⟩
  | .hbm, ⟨1, _⟩ => ⟨S2x8, .f32⟩
  | .hbm, ⟨2, _⟩ => ⟨S2x768, .f32⟩
  | .local _ .vmem, ⟨0, _⟩ => ⟨S2x8, .f32⟩
  | .local _ .vmem, ⟨1, _⟩ => ⟨S2x768, .f32⟩
  | .local _ .vmem, ⟨2, _⟩ => ⟨S16x768, .f32⟩
  | .local _ .smem, ⟨0, _⟩ => ⟨S16, .i32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c0_i32_2 : BitVec 32 := 0#32
  ![v0.toNat, 0]

def k0_chk1 (v0 : BitVec 32) : Prop :=
  (∀ a, (k0_off1 v0) a + S1x768.size a ≤ S65536x768.size a)
theorem k0_off1_inb : ∀ (v0 : BitVec 32) (k0_hw1 : k0_chk1 v0), ∀ a, (k0_off1 v0) a + S1x768.size a ≤ S65536x768.size a := fun v0 k0_hw1 => k0_hw1

def k0_off2 (v5 : BitVec 32) : Fin 2 → Nat :=
  let c0_i32_5 : BitVec 32 := 0#32
  ![v5.toNat, 0]

def k0_chk2 (v5 : BitVec 32) : Prop :=
  (∀ a, (k0_off2 v5) a + S1x768.size a ≤ S65536x768.size a)
theorem k0_off2_inb : ∀ (v5 : BitVec 32) (k0_hw2 : k0_chk2 v5), ∀ a, (k0_off2 v5) a + S1x768.size a ≤ S65536x768.size a := fun v5 k0_hw2 => k0_hw2

def k0_off3 (v10 : BitVec 32) : Fin 2 → Nat :=
  let c0_i32_8 : BitVec 32 := 0#32
  ![v10.toNat, 0]

def k0_chk3 (v10 : BitVec 32) : Prop :=
  (∀ a, (k0_off3 v10) a + S1x768.size a ≤ S65536x768.size a)
theorem k0_off3_inb : ∀ (v10 : BitVec 32) (k0_hw3 : k0_chk3 v10), ∀ a, (k0_off3 v10) a + S1x768.size a ≤ S65536x768.size a := fun v10 k0_hw3 => k0_hw3

def k0_off4 (v15 : BitVec 32) : Fin 2 → Nat :=
  let c0_i32_11 : BitVec 32 := 0#32
  ![v15.toNat, 0]

def k0_chk4 (v15 : BitVec 32) : Prop :=
  (∀ a, (k0_off4 v15) a + S1x768.size a ≤ S65536x768.size a)
theorem k0_off4_inb : ∀ (v15 : BitVec 32) (k0_hw4 : k0_chk4 v15), ∀ a, (k0_off4 v15) a + S1x768.size a ≤ S65536x768.size a := fun v15 k0_hw4 => k0_hw4

def k0_off5 (v20 : BitVec 32) : Fin 2 → Nat :=
  let c0_i32_14 : BitVec 32 := 0#32
  ![v20.toNat, 0]

def k0_chk5 (v20 : BitVec 32) : Prop :=
  (∀ a, (k0_off5 v20) a + S1x768.size a ≤ S65536x768.size a)
theorem k0_off5_inb : ∀ (v20 : BitVec 32) (k0_hw5 : k0_chk5 v20), ∀ a, (k0_off5 v20) a + S1x768.size a ≤ S65536x768.size a := fun v20 k0_hw5 => k0_hw5

def k0_off6 (v25 : BitVec 32) : Fin 2 → Nat :=
  let c0_i32_17 : BitVec 32 := 0#32
  ![v25.toNat, 0]

def k0_chk6 (v25 : BitVec 32) : Prop :=
  (∀ a, (k0_off6 v25) a + S1x768.size a ≤ S65536x768.size a)
theorem k0_off6_inb : ∀ (v25 : BitVec 32) (k0_hw6 : k0_chk6 v25), ∀ a, (k0_off6 v25) a + S1x768.size a ≤ S65536x768.size a := fun v25 k0_hw6 => k0_hw6

def k0_off7 (v30 : BitVec 32) : Fin 2 → Nat :=
  let c0_i32_20 : BitVec 32 := 0#32
  ![v30.toNat, 0]

def k0_chk7 (v30 : BitVec 32) : Prop :=
  (∀ a, (k0_off7 v30) a + S1x768.size a ≤ S65536x768.size a)
theorem k0_off7_inb : ∀ (v30 : BitVec 32) (k0_hw7 : k0_chk7 v30), ∀ a, (k0_off7 v30) a + S1x768.size a ≤ S65536x768.size a := fun v30 k0_hw7 => k0_hw7

def k0_off8 (v35 : BitVec 32) : Fin 2 → Nat :=
  let c0_i32_23 : BitVec 32 := 0#32
  ![v35.toNat, 0]

def k0_chk8 (v35 : BitVec 32) : Prop :=
  (∀ a, (k0_off8 v35) a + S1x768.size a ≤ S65536x768.size a)
theorem k0_off8_inb : ∀ (v35 : BitVec 32) (k0_hw8 : k0_chk8 v35), ∀ a, (k0_off8 v35) a + S1x768.size a ≤ S65536x768.size a := fun v35 k0_hw8 => k0_hw8

def k0_off9 (v40 : BitVec 32) : Fin 2 → Nat :=
  let c0_i32_26 : BitVec 32 := 0#32
  ![v40.toNat, 0]

def k0_chk9 (v40 : BitVec 32) : Prop :=
  (∀ a, (k0_off9 v40) a + S1x768.size a ≤ S65536x768.size a)
theorem k0_off9_inb : ∀ (v40 : BitVec 32) (k0_hw9 : k0_chk9 v40), ∀ a, (k0_off9 v40) a + S1x768.size a ≤ S65536x768.size a := fun v40 k0_hw9 => k0_hw9

def k0_off10 (v45 : BitVec 32) : Fin 2 → Nat :=
  let c0_i32_29 : BitVec 32 := 0#32
  ![v45.toNat, 0]

def k0_chk10 (v45 : BitVec 32) : Prop :=
  (∀ a, (k0_off10 v45) a + S1x768.size a ≤ S65536x768.size a)
theorem k0_off10_inb : ∀ (v45 : BitVec 32) (k0_hw10 : k0_chk10 v45), ∀ a, (k0_off10 v45) a + S1x768.size a ≤ S65536x768.size a := fun v45 k0_hw10 => k0_hw10

def k0_off11 (v50 : BitVec 32) : Fin 2 → Nat :=
  let c0_i32_32 : BitVec 32 := 0#32
  ![v50.toNat, 0]

def k0_chk11 (v50 : BitVec 32) : Prop :=
  (∀ a, (k0_off11 v50) a + S1x768.size a ≤ S65536x768.size a)
theorem k0_off11_inb : ∀ (v50 : BitVec 32) (k0_hw11 : k0_chk11 v50), ∀ a, (k0_off11 v50) a + S1x768.size a ≤ S65536x768.size a := fun v50 k0_hw11 => k0_hw11

def k0_off12 (v55 : BitVec 32) : Fin 2 → Nat :=
  let c0_i32_35 : BitVec 32 := 0#32
  ![v55.toNat, 0]

def k0_chk12 (v55 : BitVec 32) : Prop :=
  (∀ a, (k0_off12 v55) a + S1x768.size a ≤ S65536x768.size a)
theorem k0_off12_inb : ∀ (v55 : BitVec 32) (k0_hw12 : k0_chk12 v55), ∀ a, (k0_off12 v55) a + S1x768.size a ≤ S65536x768.size a := fun v55 k0_hw12 => k0_hw12

def k0_off13 (v60 : BitVec 32) : Fin 2 → Nat :=
  let c0_i32_38 : BitVec 32 := 0#32
  ![v60.toNat, 0]

def k0_chk13 (v60 : BitVec 32) : Prop :=
  (∀ a, (k0_off13 v60) a + S1x768.size a ≤ S65536x768.size a)
theorem k0_off13_inb : ∀ (v60 : BitVec 32) (k0_hw13 : k0_chk13 v60), ∀ a, (k0_off13 v60) a + S1x768.size a ≤ S65536x768.size a := fun v60 k0_hw13 => k0_hw13

def k0_off14 (v65 : BitVec 32) : Fin 2 → Nat :=
  let c0_i32_41 : BitVec 32 := 0#32
  ![v65.toNat, 0]

def k0_chk14 (v65 : BitVec 32) : Prop :=
  (∀ a, (k0_off14 v65) a + S1x768.size a ≤ S65536x768.size a)
theorem k0_off14_inb : ∀ (v65 : BitVec 32) (k0_hw14 : k0_chk14 v65), ∀ a, (k0_off14 v65) a + S1x768.size a ≤ S65536x768.size a := fun v65 k0_hw14 => k0_hw14

def k0_off15 (v70 : BitVec 32) : Fin 2 → Nat :=
  let c0_i32_44 : BitVec 32 := 0#32
  ![v70.toNat, 0]

def k0_chk15 (v70 : BitVec 32) : Prop :=
  (∀ a, (k0_off15 v70) a + S1x768.size a ≤ S65536x768.size a)
theorem k0_off15_inb : ∀ (v70 : BitVec 32) (k0_hw15 : k0_chk15 v70), ∀ a, (k0_off15 v70) a + S1x768.size a ≤ S65536x768.size a := fun v70 k0_hw15 => k0_hw15

def k0_off16 (v75 : BitVec 32) : Fin 2 → Nat :=
  let c0_i32_47 : BitVec 32 := 0#32
  ![v75.toNat, 0]

def k0_chk16 (v75 : BitVec 32) : Prop :=
  (∀ a, (k0_off16 v75) a + S1x768.size a ≤ S65536x768.size a)
theorem k0_off16_inb : ∀ (v75 : BitVec 32) (k0_hw16 : k0_chk16 v75), ∀ a, (k0_off16 v75) a + S1x768.size a ≤ S65536x768.size a := fun v75 k0_hw16 => k0_hw16

def k0_off17 (v80 : BitVec 32) : Fin 2 → Nat :=
  let c0_i32_52 : BitVec 32 := 0#32
  ![v80.toNat, 0]

def k0_chk17 (v80 : BitVec 32) : Prop :=
  (∀ a, (k0_off17 v80) a + S1x768.size a ≤ S65536x768.size a)
theorem k0_off17_inb : ∀ (v80 : BitVec 32) (k0_hw17 : k0_chk17 v80), ∀ a, (k0_off17 v80) a + S1x768.size a ≤ S65536x768.size a := fun v80 k0_hw17 => k0_hw17

def k0_off18 (v85 : BitVec 32) : Fin 2 → Nat :=
  let c0_i32_57 : BitVec 32 := 0#32
  ![v85.toNat, 0]

def k0_chk18 (v85 : BitVec 32) : Prop :=
  (∀ a, (k0_off18 v85) a + S1x768.size a ≤ S65536x768.size a)
theorem k0_off18_inb : ∀ (v85 : BitVec 32) (k0_hw18 : k0_chk18 v85), ∀ a, (k0_off18 v85) a + S1x768.size a ≤ S65536x768.size a := fun v85 k0_hw18 => k0_hw18

def k0_off19 (v90 : BitVec 32) : Fin 2 → Nat :=
  let c0_i32_62 : BitVec 32 := 0#32
  ![v90.toNat, 0]

def k0_chk19 (v90 : BitVec 32) : Prop :=
  (∀ a, (k0_off19 v90) a + S1x768.size a ≤ S65536x768.size a)
theorem k0_off19_inb : ∀ (v90 : BitVec 32) (k0_hw19 : k0_chk19 v90), ∀ a, (k0_off19 v90) a + S1x768.size a ≤ S65536x768.size a := fun v90 k0_hw19 => k0_hw19

def k0_off20 (v95 : BitVec 32) : Fin 2 → Nat :=
  let c0_i32_67 : BitVec 32 := 0#32
  ![v95.toNat, 0]

def k0_chk20 (v95 : BitVec 32) : Prop :=
  (∀ a, (k0_off20 v95) a + S1x768.size a ≤ S65536x768.size a)
theorem k0_off20_inb : ∀ (v95 : BitVec 32) (k0_hw20 : k0_chk20 v95), ∀ a, (k0_off20 v95) a + S1x768.size a ≤ S65536x768.size a := fun v95 k0_hw20 => k0_hw20

def k0_off21 (v100 : BitVec 32) : Fin 2 → Nat :=
  let c0_i32_72 : BitVec 32 := 0#32
  ![v100.toNat, 0]

def k0_chk21 (v100 : BitVec 32) : Prop :=
  (∀ a, (k0_off21 v100) a + S1x768.size a ≤ S65536x768.size a)
theorem k0_off21_inb : ∀ (v100 : BitVec 32) (k0_hw21 : k0_chk21 v100), ∀ a, (k0_off21 v100) a + S1x768.size a ≤ S65536x768.size a := fun v100 k0_hw21 => k0_hw21

def k0_off22 (v105 : BitVec 32) : Fin 2 → Nat :=
  let c0_i32_77 : BitVec 32 := 0#32
  ![v105.toNat, 0]

def k0_chk22 (v105 : BitVec 32) : Prop :=
  (∀ a, (k0_off22 v105) a + S1x768.size a ≤ S65536x768.size a)
theorem k0_off22_inb : ∀ (v105 : BitVec 32) (k0_hw22 : k0_chk22 v105), ∀ a, (k0_off22 v105) a + S1x768.size a ≤ S65536x768.size a := fun v105 k0_hw22 => k0_hw22

def k0_off23 (v110 : BitVec 32) : Fin 2 → Nat :=
  let c0_i32_82 : BitVec 32 := 0#32
  ![v110.toNat, 0]

def k0_chk23 (v110 : BitVec 32) : Prop :=
  (∀ a, (k0_off23 v110) a + S1x768.size a ≤ S65536x768.size a)
theorem k0_off23_inb : ∀ (v110 : BitVec 32) (k0_hw23 : k0_chk23 v110), ∀ a, (k0_off23 v110) a + S1x768.size a ≤ S65536x768.size a := fun v110 k0_hw23 => k0_hw23

def k0_off24 (v115 : BitVec 32) : Fin 2 → Nat :=
  let c0_i32_87 : BitVec 32 := 0#32
  ![v115.toNat, 0]

def k0_chk24 (v115 : BitVec 32) : Prop :=
  (∀ a, (k0_off24 v115) a + S1x768.size a ≤ S65536x768.size a)
theorem k0_off24_inb : ∀ (v115 : BitVec 32) (k0_hw24 : k0_chk24 v115), ∀ a, (k0_off24 v115) a + S1x768.size a ≤ S65536x768.size a := fun v115 k0_hw24 => k0_hw24

def k0_off25 (v120 : BitVec 32) : Fin 2 → Nat :=
  let c0_i32_92 : BitVec 32 := 0#32
  ![v120.toNat, 0]

def k0_chk25 (v120 : BitVec 32) : Prop :=
  (∀ a, (k0_off25 v120) a + S1x768.size a ≤ S65536x768.size a)
theorem k0_off25_inb : ∀ (v120 : BitVec 32) (k0_hw25 : k0_chk25 v120), ∀ a, (k0_off25 v120) a + S1x768.size a ≤ S65536x768.size a := fun v120 k0_hw25 => k0_hw25

def k0_off26 (v125 : BitVec 32) : Fin 2 → Nat :=
  let c0_i32_97 : BitVec 32 := 0#32
  ![v125.toNat, 0]

def k0_chk26 (v125 : BitVec 32) : Prop :=
  (∀ a, (k0_off26 v125) a + S1x768.size a ≤ S65536x768.size a)
theorem k0_off26_inb : ∀ (v125 : BitVec 32) (k0_hw26 : k0_chk26 v125), ∀ a, (k0_off26 v125) a + S1x768.size a ≤ S65536x768.size a := fun v125 k0_hw26 => k0_hw26

def k0_off27 (v130 : BitVec 32) : Fin 2 → Nat :=
  let c0_i32_102 : BitVec 32 := 0#32
  ![v130.toNat, 0]

def k0_chk27 (v130 : BitVec 32) : Prop :=
  (∀ a, (k0_off27 v130) a + S1x768.size a ≤ S65536x768.size a)
theorem k0_off27_inb : ∀ (v130 : BitVec 32) (k0_hw27 : k0_chk27 v130), ∀ a, (k0_off27 v130) a + S1x768.size a ≤ S65536x768.size a := fun v130 k0_hw27 => k0_hw27

def k0_off28 (v135 : BitVec 32) : Fin 2 → Nat :=
  let c0_i32_107 : BitVec 32 := 0#32
  ![v135.toNat, 0]

def k0_chk28 (v135 : BitVec 32) : Prop :=
  (∀ a, (k0_off28 v135) a + S1x768.size a ≤ S65536x768.size a)
theorem k0_off28_inb : ∀ (v135 : BitVec 32) (k0_hw28 : k0_chk28 v135), ∀ a, (k0_off28 v135) a + S1x768.size a ≤ S65536x768.size a := fun v135 k0_hw28 => k0_hw28

def k0_off29 (v140 : BitVec 32) : Fin 2 → Nat :=
  let c0_i32_112 : BitVec 32 := 0#32
  ![v140.toNat, 0]

def k0_chk29 (v140 : BitVec 32) : Prop :=
  (∀ a, (k0_off29 v140) a + S1x768.size a ≤ S65536x768.size a)
theorem k0_off29_inb : ∀ (v140 : BitVec 32) (k0_hw29 : k0_chk29 v140), ∀ a, (k0_off29 v140) a + S1x768.size a ≤ S65536x768.size a := fun v140 k0_hw29 => k0_hw29

def k0_off30 (v145 : BitVec 32) : Fin 2 → Nat :=
  let c0_i32_117 : BitVec 32 := 0#32
  ![v145.toNat, 0]

def k0_chk30 (v145 : BitVec 32) : Prop :=
  (∀ a, (k0_off30 v145) a + S1x768.size a ≤ S65536x768.size a)
theorem k0_off30_inb : ∀ (v145 : BitVec 32) (k0_hw30 : k0_chk30 v145), ∀ a, (k0_off30 v145) a + S1x768.size a ≤ S65536x768.size a := fun v145 k0_hw30 => k0_hw30

def k0_off31 (v150 : BitVec 32) : Fin 2 → Nat :=
  let c0_i32_122 : BitVec 32 := 0#32
  ![v150.toNat, 0]

def k0_chk31 (v150 : BitVec 32) : Prop :=
  (∀ a, (k0_off31 v150) a + S1x768.size a ≤ S65536x768.size a)
theorem k0_off31_inb : ∀ (v150 : BitVec 32) (k0_hw31 : k0_chk31 v150), ∀ a, (k0_off31 v150) a + S1x768.size a ≤ S65536x768.size a := fun v150 k0_hw31 => k0_hw31

def k0_off32 (v155 : BitVec 32) : Fin 2 → Nat :=
  let c0_i32_127 : BitVec 32 := 0#32
  ![v155.toNat, 0]

def k0_chk32 (v155 : BitVec 32) : Prop :=
  (∀ a, (k0_off32 v155) a + S1x768.size a ≤ S65536x768.size a)
theorem k0_off32_inb : ∀ (v155 : BitVec 32) (k0_hw32 : k0_chk32 v155), ∀ a, (k0_off32 v155) a + S1x768.size a ≤ S65536x768.size a := fun v155 k0_hw32 => k0_hw32

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== CombineRefIdeal.lean ====
abbrev S65536x768 : Shape := ⟨2, ![65536, 768]⟩
abbrev S16 : Shape := ⟨1, ![16]⟩
abbrev S2x8 : Shape := ⟨2, ![2, 8]⟩
abbrev S_ : Shape := ⟨0, ![]⟩
abbrev S2x8x1 : Shape := ⟨3, ![2, 8, 1]⟩
abbrev S2x8x768 : Shape := ⟨3, ![2, 8, 768]⟩
abbrev S2x768 : Shape := ⟨2, ![2, 768]⟩

abbrev nBuf : Space → Nat
  | .hbm => 18
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S16, .i32⟩
  | .hbm, ⟨2, _⟩ => ⟨S2x8, .f32⟩
  | .hbm, ⟨3, _⟩ => ⟨S2x8, .i32⟩
  | .hbm, ⟨4, _⟩ => ⟨S_, .i32⟩
  | .hbm, ⟨5, _⟩ => ⟨S2x8, .i32⟩
  | .hbm, ⟨6, _⟩ => ⟨S2x8, .i1⟩
  | .hbm, ⟨7, _⟩ => ⟨S_, .i32⟩
  | .hbm, ⟨8, _⟩ => ⟨S2x8, .i32⟩
  | .hbm, ⟨9, _⟩ => ⟨S2x8, .i32⟩
  | .hbm, ⟨10, _⟩ => ⟨S2x8, .i32⟩
  | .hbm, ⟨11, _⟩ => ⟨S2x8x1, .i32⟩
  | .hbm, ⟨12, _⟩ => ⟨S2x8x768, .f32⟩
  | .hbm, ⟨13, _⟩ => ⟨S2x8x1, .f32⟩
  | .hbm, ⟨14, _⟩ => ⟨S2x8x768, .f32⟩
  | .hbm, ⟨15, _⟩ => ⟨S2x8x768, .f32⟩
  | .hbm, ⟨16, _⟩ => ⟨S_, .f32⟩
  | .hbm, ⟨17, _⟩ => ⟨S2x768, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Head.lean ====
abbrev S4096x768 : Shape := ⟨2, ![4096, 768]⟩
abbrev S2x768 : Shape := ⟨2, ![2, 768]⟩
abbrev S768x32000 : Shape := ⟨2, ![768, 32000]⟩
abbrev S2x1x768 : Shape := ⟨3, ![2, 1, 768]⟩
abbrev S4096x32000 : Shape := ⟨2, ![4096, 32000]⟩
abbrev S512x768 : Shape := ⟨2, ![512, 768]⟩
abbrev S1x1x768 : Shape := ⟨3, ![1, 1, 768]⟩
abbrev S768x3200 : Shape := ⟨2, ![768, 3200]⟩
abbrev S512x3200 : Shape := ⟨2, ![512, 3200]⟩
abbrev S1x768 : Shape := ⟨2, ![1, 768]⟩

abbrev nBuf : Space → Nat
  | .hbm => 5
  | .vmem => 8
  | .smem => 0
  | _ => 0

abbrev bufTy : (tb : Table) → Fin (tcTables nBuf tb) → BufTy
  | .hbm, ⟨0, _⟩ => ⟨S4096x768, .f32⟩
  | .hbm, ⟨1, _⟩ => ⟨S2x768, .f32⟩
  | .hbm, ⟨2, _⟩ => ⟨S768x32000, .f32⟩
  | .hbm, ⟨3, _⟩ => ⟨S2x1x768, .f32⟩
  | .hbm, ⟨4, _⟩ => ⟨S4096x32000, .f32⟩
  | .local _ .vmem, ⟨0, _⟩ => ⟨S512x768, .f32⟩
  | .local _ .vmem, ⟨1, _⟩ => ⟨S512x768, .f32⟩
  | .local _ .vmem, ⟨2, _⟩ => ⟨S1x1x768, .f32⟩
  | .local _ .vmem, ⟨3, _⟩ => ⟨S1x1x768, .f32⟩
  | .local _ .vmem, ⟨4, _⟩ => ⟨S768x3200, .f32⟩
  | .local _ .vmem, ⟨5, _⟩ => ⟨S768x3200, .f32⟩
  | .local _ .vmem, ⟨6, _⟩ => ⟨S512x3200, .f32⟩
  | .local _ .vmem, ⟨7, _⟩ => ⟨S512x3200, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HeadRefIdeal.lean ====
abbrev S4096x768 : Shape := ⟨2, ![4096, 768]⟩
abbrev S2x768 : Shape := ⟨2, ![2, 768]⟩
abbrev S768x32000 : Shape := ⟨2, ![768, 32000]⟩
abbrev S2x2048x768 : Shape := ⟨3, ![2, 2048, 768]⟩
abbrev S2x1x768 : Shape := ⟨3, ![2, 1, 768]⟩
abbrev S4096x32000 : Shape := ⟨2, ![4096, 32000]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S2x768, .f32⟩
  | .hbm, ⟨2, _⟩ => ⟨S768x32000, .f32⟩
  | .hbm, ⟨3, _⟩ => ⟨S2x2048x768, .f32⟩
  | .hbm, ⟨4, _⟩ => ⟨S2x1x768, .f32⟩
  | .hbm, ⟨5, _⟩ => ⟨S2x2048x768, .f32⟩
  | .hbm, ⟨6, _⟩ => ⟨S2x2048x768, .f32⟩
  | .hbm, ⟨7, _⟩ => ⟨S4096x768, .f32⟩
  | .hbm, ⟨8, _⟩ => ⟨S4096x32000, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Qkv0.lean ====
abbrev S4096x768 : Shape := ⟨2, ![4096, 768]⟩
abbrev S768x768 : Shape := ⟨2, ![768, 768]⟩
abbrev S768x4096 : Shape := ⟨2, ![768, 4096]⟩
abbrev S512x768 : Shape := ⟨2, ![512, 768]⟩
abbrev S768x512 : Shape := ⟨2, ![768, 512]⟩

abbrev nBuf : Space → Nat
  | .hbm => 9
  | .vmem => 15
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S4096x768, .f32⟩
  | .hbm, ⟨6, _⟩ => ⟨S4096x768, .bf16⟩
  | .hbm, ⟨7, _⟩ => ⟨S768x4096, .bf16⟩
  | .hbm, ⟨8, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S768x768, .f32⟩
  | .local _ .vmem, ⟨5, _⟩ => ⟨S768x768, .f32⟩
  | .local _ .vmem, ⟨6, _⟩ => ⟨S768x768, .f32⟩
  | .local _ .vmem, ⟨7, _⟩ => ⟨S512x768, .f32⟩
  | .local _ .vmem, ⟨8, _⟩ => ⟨S512x768, .f32⟩
  | .local _ .vmem, ⟨9, _⟩ => ⟨S512x768, .bf16⟩
  | .local _ .vmem, ⟨10, _⟩ => ⟨S512x768, .bf16⟩
  | .local _ .vmem, ⟨11, _⟩ => ⟨S768x512, .bf16⟩
  | .local _ .vmem, ⟨12, _⟩ => ⟨S768x512, .bf16⟩
  | .local _ .vmem, ⟨13, _⟩ => ⟨S512x768, .bf16⟩
  | .local _ .vmem, ⟨14, _⟩ => ⟨S512x768, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Qkv0RefIdeal.lean ====
abbrev S4096x768 : Shape := ⟨2, ![4096, 768]⟩
abbrev S768x768 : Shape := ⟨2, ![768, 768]⟩
abbrev S2x2048x768 : Shape := ⟨3, ![2, 2048, 768]⟩
abbrev S2048x768 : Shape := ⟨2, ![2048, 768]⟩
abbrev S1x2048x768 : Shape := ⟨3, ![1, 2048, 768]⟩
abbrev S768x4096 : Shape := ⟨2, ![768, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S2x2048x768, .f32⟩
  | .hbm, ⟨6, _⟩ => ⟨S2048x768, .f32⟩
  | .hbm, ⟨7, _⟩ => ⟨S1x2048x768, .f32⟩
  | .hbm, ⟨8, _⟩ => ⟨S2x2048x768, .f32⟩
  | .hbm, ⟨9, _⟩ => ⟨S2x2048x768, .f32⟩
  | .hbm, ⟨10, _⟩ => ⟨S4096x768, .f32⟩
  | .hbm, ⟨11, _⟩ => ⟨S4096x768, .f32⟩
  | .hbm, ⟨12, _⟩ => ⟨S4096x768, .bf16⟩
  | .hbm, ⟨13, _⟩ => ⟨S4096x768, .f32⟩
  | .hbm, ⟨14, _⟩ => ⟨S768x4096, .f32⟩
  | .hbm, ⟨15, _⟩ => ⟨S768x4096, .bf16⟩
  | .hbm, ⟨16, _⟩ => ⟨S4096x768, .f32⟩
  | .hbm, ⟨17, _⟩ => ⟨S4096x768, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Qkv1.lean ====
abbrev S4096x768 : Shape := ⟨2, ![4096, 768]⟩
abbrev S768x768 : Shape := ⟨2, ![768, 768]⟩
abbrev S768x4096 : Shape := ⟨2, ![768, 4096]⟩
abbrev S512x768 : Shape := ⟨2, ![512, 768]⟩
abbrev S768x512 : Shape := ⟨2, ![768, 512]⟩

abbrev nBuf : Space → Nat
  | .hbm => 7
  | .vmem => 11
  | .smem => 0
  | _ => 0

abbrev bufTy : (tb : Table) → Fin (tcTables nBuf tb) → BufTy
  | .hbm, ⟨0, _⟩ => ⟨S4096x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S4096x768, .bf16⟩
  | .hbm, ⟨5, _⟩ => ⟨S768x4096, .bf16⟩
  | .hbm, ⟨6, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S512x768, .bf16⟩
  | .local _ .vmem, ⟨6, _⟩ => ⟨S512x768, .bf16⟩
  | .local _ .vmem, ⟨7, _⟩ => ⟨S768x512, .bf16⟩
  | .local _ .vmem, ⟨8, _⟩ => ⟨S768x512, .bf16⟩
  | .local _ .vmem, ⟨9, _⟩ => ⟨S512x768, .bf16⟩
  | .local _ .vmem, ⟨10, _⟩ => ⟨S512x768, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Qkv1RefIdeal.lean ====
abbrev S4096x768 : Shape := ⟨2, ![4096, 768]⟩
abbrev S768x768 : Shape := ⟨2, ![768, 768]⟩
abbrev S768x4096 : Shape := ⟨2, ![768, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S4096x768, .f32⟩
  | .hbm, ⟨5, _⟩ => ⟨S4096x768, .bf16⟩
  | .hbm, ⟨6, _⟩ => ⟨S4096x768, .f32⟩
  | .hbm, ⟨7, _⟩ => ⟨S768x4096, .f32⟩
  | .hbm, ⟨8, _⟩ => ⟨S768x4096, .bf16⟩
  | .hbm, ⟨9, _⟩ => ⟨S4096x768, .f32⟩
  | .hbm, ⟨10, _⟩ => ⟨S4096x768, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Mean.lean ====
abbrev S2x2048x768 : Shape := ⟨3, ![2, 2048, 768]⟩
abbrev S2x768 : Shape := ⟨2, ![2, 768]⟩
abbrev S2 : Shape := ⟨1, ![2]⟩
abbrev S2x1 : Shape := ⟨2, ![2, 1]⟩

abbrev nBuf : Space → Nat
  | .hbm => 2
  | .vmem => 2
  | .smem => 0
  | _ => 0

abbrev bufTy : (tb : Table) → Fin (tcTables nBuf tb) → BufTy
  | .hbm, ⟨0, _⟩ => ⟨S2x2048x768, .f32⟩
  | .hbm, ⟨1, _⟩ => ⟨S2x768, .f32⟩
  | .local _ .vmem, ⟨0, _⟩ => ⟨S2x2048x768, .f32⟩
  | .local _ .vmem, ⟨1, _⟩ => ⟨S2x768, .f32⟩
  | _, _ => ⟨S2x2048x768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== MeanRefIdeal.lean ====
abbrev S2x2048x768 : Shape := ⟨3, ![2, 2048, 768]⟩
abbrev S_ : Shape := ⟨0, ![]⟩
abbrev S2x768 : Shape := ⟨2, ![2, 768]⟩
abbrev S2 : Shape := ⟨1, ![2]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S_, .f32⟩
  | .hbm, ⟨2, _⟩ => ⟨S2x768, .f32⟩
  | .hbm, ⟨3, _⟩ => ⟨S_, .f32⟩
  | .hbm, ⟨4, _⟩ => ⟨S2x768, .f32⟩
  | .hbm, ⟨5, _⟩ => ⟨S2x768, .f32⟩
  | .hbm, ⟨6, _⟩ => ⟨S2x768, .f32⟩
  | .hbm, ⟨7, _⟩ => ⟨S_, .f32⟩
  | .hbm, ⟨8, _⟩ => ⟨S2, .f32⟩
  | .hbm, ⟨9, _⟩ => ⟨S2x1, .f32⟩
  | .hbm, ⟨10, _⟩ => ⟨S2x1, .f32⟩
  | .hbm, ⟨11, _⟩ => ⟨S_, .f32⟩
  | .hbm, ⟨12, _⟩ => ⟨S2x1, .f32⟩
  | .hbm, ⟨13, _⟩ => ⟨S2x1, .f32⟩
  | .hbm, ⟨14, _⟩ => ⟨S2x768, .f32⟩
  | .hbm, ⟨15, _⟩ => ⟨S2x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Sim.lean ====
abbrev S65536x768 : Shape := ⟨2, ![65536, 768]⟩
abbrev S768x2 : Shape := ⟨2, ![768, 2]⟩
abbrev S65536x2 : Shape := ⟨2, ![65536, 2]⟩
abbrev S4096x768 : Shape := ⟨2, ![4096, 768]⟩
abbrev S4096x2 : Shape := ⟨2, ![4096, 2]⟩
abbrev S4096 : Shape := ⟨1, ![4096]⟩
abbrev S4096x1 : Shape := ⟨2, ![4096, 1]⟩

abbrev nBuf : Space → Nat
  | .hbm => 3
  | .vmem => 5
  | .smem => 0
  | _ => 0

abbrev bufTy : (tb : Table) → Fin (tcTables nBuf tb) → BufTy
  | .hbm, ⟨0, _⟩ => ⟨S65536x768, .f32⟩
  | .hbm, ⟨1, _⟩ => ⟨S768x2, .bf16⟩
  | .hbm, ⟨2, _⟩ => ⟨S65536x2, .f32⟩
  | .local _ .vmem, ⟨0, _⟩ => ⟨S4096x768, .f32⟩
  | .local _ .vmem, ⟨1, _⟩ => ⟨S4096x768, .f32⟩
  | .local _ .vmem, ⟨2, _⟩ => ⟨S768x2, .bf16⟩
  | .local _ .vmem, ⟨3, _⟩ => ⟨S4096x2, .f32⟩
  | .local _ .vmem, ⟨4, _⟩ => ⟨S4096x2, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SimIdeal.lean ====
variable {F : FTy → Type} [FloatOps F] [Named F]
def κ : String → Option EReal := fun
  | "floor_squared" => some ((5316911940649 / 5316911983139663491615228241121378304 : ℝ) : EReal)
  | _ => none
-- ==== SimRefIdeal.lean ====
abbrev S65536x768 : Shape := ⟨2, ![65536, 768]⟩
abbrev S768x2 : Shape := ⟨2, ![768, 2]⟩
abbrev S_ : Shape := ⟨0, ![]⟩
abbrev S65536 : Shape := ⟨1, ![65536]⟩
abbrev S65536x1 : Shape := ⟨2, ![65536, 1]⟩
abbrev S2x768 : Shape := ⟨2, ![2, 768]⟩
abbrev S768x65536 : Shape := ⟨2, ![768, 65536]⟩
abbrev S2x65536 : Shape := ⟨2, ![2, 65536]⟩
abbrev S65536x2 : Shape := ⟨2, ![65536, 2]⟩

abbrev nBuf : Space → Nat
  | .hbm => 17
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S768x2, .bf16⟩
  | .hbm, ⟨2, _⟩ => ⟨S65536x768, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x768, .f32⟩
  | .hbm, ⟨11, _⟩ => ⟨S65536x768, .f32⟩
  | .hbm, ⟨12, _⟩ => ⟨S2x768, .bf16⟩
  | .hbm, ⟨13, _⟩ => ⟨S2x768, .f32⟩
  | .hbm, ⟨14, _⟩ => ⟨S768x65536, .f32⟩
  | .hbm, ⟨15, _⟩ => ⟨S2x65536, .f32⟩
  | .hbm, ⟨16, _⟩ => ⟨S65536x2, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Post.lean ====
abbrev S4096x768 : Shape := ⟨2, ![4096, 768]⟩
abbrev S768x768 : Shape := ⟨2, ![768, 768]⟩
abbrev S768x3072 : Shape := ⟨2, ![768, 3072]⟩
abbrev S3072x768 : Shape := ⟨2, ![3072, 768]⟩
abbrev S512x768 : Shape := ⟨2, ![512, 768]⟩
abbrev S512 : Shape := ⟨1, ![512]⟩
abbrev S512x1 : Shape := ⟨2, ![512, 1]⟩
abbrev S512x3072 : Shape := ⟨2, ![512, 3072]⟩

abbrev nBuf : Space → Nat
  | .hbm => 6
  | .vmem => 9
  | .smem => 0
  | _ => 0

abbrev bufTy : (tb : Table) → Fin (tcTables nBuf tb) → BufTy
  | .hbm, ⟨0, _⟩ => ⟨S4096x768, .bf16⟩
  | .hbm, ⟨1, _⟩ => ⟨S768x768, .f32⟩
  | .hbm, ⟨2, _⟩ => ⟨S4096x768, .f32⟩
  | .hbm, ⟨3, _⟩ => ⟨S768x3072, .f32⟩
  | .hbm, ⟨4, _⟩ => ⟨S3072x768, .f32⟩
  | .hbm, ⟨5, _⟩ => ⟨S4096x768, .f32⟩
  | .local _ .vmem, ⟨0, _⟩ => ⟨S512x768, .bf16⟩
  | .local _ .vmem, ⟨1, _⟩ => ⟨S512x768, .bf16⟩
  | .local _ .vmem, ⟨2, _⟩ => ⟨S768x768, .f32⟩
  | .local _ .vmem, ⟨3, _⟩ => ⟨S512x768, .f32⟩
  | .local _ .vmem, ⟨4, _⟩ => ⟨S512x768, .f32⟩
  | .local _ .vmem, ⟨5, _⟩ => ⟨S768x3072, .f32⟩
  | .local _ .vmem, ⟨6, _⟩ => ⟨S3072x768, .f32⟩
  | .local _ .vmem, ⟨7, _⟩ => ⟨S512x768, .f32⟩
  | .local _ .vmem, ⟨8, _⟩ => ⟨S512x768, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostRefIdeal.lean ====
abbrev S4096x768 : Shape := ⟨2, ![4096, 768]⟩
abbrev S768x768 : Shape := ⟨2, ![768, 768]⟩
abbrev S768x3072 : Shape := ⟨2, ![768, 3072]⟩
abbrev S3072x768 : Shape := ⟨2, ![3072, 768]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩

abbrev nBuf : Space → Nat
  | .hbm => 90
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x768, .f32⟩
  | .hbm, ⟨2, _⟩ => ⟨S4096x768, .f32⟩
  | .hbm, ⟨3, _⟩ => ⟨S768x3072, .f32⟩
  | .hbm, ⟨4, _⟩ => ⟨S3072x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .i32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x768, .f32⟩
  | .hbm, ⟨22, _⟩ => ⟨S4096x768, .f32⟩
  | .hbm, ⟨23, _⟩ => ⟨S4096x768, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x768, .f32⟩
  | .hbm, ⟨39, _⟩ => ⟨S4096x768, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x768, .f32⟩
  | .hbm, ⟨45, _⟩ => ⟨S4096x768, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | .hbm, ⟨50, _⟩ => ⟨S4096x768, .f32⟩
  | .hbm, ⟨51, _⟩ => ⟨S4096x768, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .i32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x768, .f32⟩
  | .hbm, ⟨66, _⟩ => ⟨S4096x768, .f32⟩
  | .hbm, ⟨67, _⟩ => ⟨S4096x768, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x768, .f32⟩
  | .hbm, ⟨83, _⟩ => ⟨S4096x768, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x768, .f32⟩
  | .hbm, ⟨89, _⟩ => ⟨S4096x768, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_cst_3 : Ref sig .tc := ⟨.hbm, 76, rfl⟩
abbrev main_call1_v13 : Ref sig .tc := ⟨.hbm, 77, rfl⟩
abbrev main_call1_cst_4 : Ref sig .tc := ⟨.hbm, 78, rfl⟩
abbrev main_call1_call0_v0 : Ref sig .tc := ⟨.hbm, 79, rfl⟩
abbrev main_call1_call0_v1 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_cst_6 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩

abbrev nD : Nat := 1
abbrev τ : Topo := Topo.v7x

variable {F : FTy → Type} [FloatOps F]
-- ==== Attn.lean ====
abbrev S4096x768 : Shape := ⟨2, ![4096, 768]⟩
abbrev S768x4096 : Shape := ⟨2, ![768, 4096]⟩
abbrev S1024x128 : Shape := ⟨2, ![1024, 128]⟩
abbrev S128x2048 : Shape := ⟨2, ![128, 2048]⟩
abbrev S2048x128 : Shape := ⟨2, ![2048, 128]⟩
abbrev S1024x64 : Shape := ⟨2, ![1024, 64]⟩
abbrev S64x2048 : Shape := ⟨2, ![64, 2048]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x768, .bf16⟩
  | .hbm, ⟨1, _⟩ => ⟨S768x4096, .bf16⟩
  | .hbm, ⟨2, _⟩ => ⟨S4096x768, .bf16⟩
  | .hbm, ⟨3, _⟩ => ⟨S4096x768, .bf16⟩
  | .local _ .vmem, ⟨0, _⟩ => ⟨S1024x128, .bf16⟩
  | .local _ .vmem, ⟨1, _⟩ => ⟨S1024x128, .bf16⟩
  | .local _ .vmem, ⟨2, _⟩ => ⟨S128x2048, .bf16⟩
  | .local _ .vmem, ⟨3, _⟩ => ⟨S128x2048, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 6, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S4096x768 : Shape := ⟨2, ![4096, 768]⟩
abbrev S768x4096 : Shape := ⟨2, ![768, 4096]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x4096, .bf16⟩
  | .hbm, ⟨2, _⟩ => ⟨S4096x768, .bf16⟩
  | .hbm, ⟨3, _⟩ => ⟨S4096x768, .f32⟩
  | .hbm, ⟨4, _⟩ => ⟨S2x2048x12x64, .f32⟩
  | .hbm, ⟨5, _⟩ => ⟨S2x12x2048x64, .f32⟩
  | .hbm, ⟨6, _⟩ => ⟨S4096x768, .bf16⟩
  | .hbm, ⟨7, _⟩ => ⟨S4096x768, .f32⟩
  | .hbm, ⟨8, _⟩ => ⟨S2x2048x12x64, .f32⟩
  | .hbm, ⟨9, _⟩ => ⟨S2x12x2048x64, .f32⟩
  | .hbm, ⟨10, _⟩ => ⟨S4096x768, .f32⟩
  | .hbm, ⟨11, _⟩ => ⟨S2x2048x12x64, .f32⟩
  | .hbm, ⟨12, _⟩ => ⟨S2x12x2048x64, .f32⟩
  | .hbm, ⟨13, _⟩ => ⟨S2x12x2048x2048, .f32⟩
  | .hbm, ⟨14, _⟩ => ⟨S_, .f32⟩
  | .hbm, ⟨15, _⟩ => ⟨S_, .f32⟩
  | .hbm, ⟨16, _⟩ => ⟨S2x12x2048x2048, .f32⟩
  | .hbm, ⟨17, _⟩ => ⟨S2x12x2048x2048, .f32⟩
  | .hbm, ⟨18, _⟩ => ⟨S_, .f32⟩
  | .hbm, ⟨19, _⟩ => ⟨S2x12x2048, .f32⟩
  | .hbm, ⟨20, _⟩ => ⟨S_, .f32⟩
  | .hbm, ⟨21, _⟩ => ⟨S2x12x2048, .f32⟩
  | .hbm, ⟨22, _⟩ => ⟨S2x12x2048, .f32⟩
  | .hbm, ⟨23, _⟩ => ⟨S2x12x2048x1, .f32⟩
  | .hbm, ⟨24, _⟩ => ⟨S2x12x2048x2048, .f32⟩
  | .hbm, ⟨25, _⟩ => ⟨S2x12x2048x2048, .f32⟩
  | .hbm, ⟨26, _⟩ => ⟨S2x12x2048x2048, .f32⟩
  | .hbm, ⟨27, _⟩ => ⟨S_, .f32⟩
  | .hbm, ⟨28, _⟩ => ⟨S2x12x2048, .f32⟩
  | .hbm, ⟨29, _⟩ => ⟨S2x12x2048x1, .f32⟩
  | .hbm, ⟨30, _⟩ => ⟨S2x12x2048x2048, .f32⟩
  | .hbm, ⟨31, _⟩ => ⟨S2x12x2048x2048, .f32⟩
  | .hbm, ⟨32, _⟩ => ⟨S2x12x2048x64, .f32⟩
  | .hbm, ⟨33, _⟩ => ⟨S2x2048x12x64, .f32⟩
  | .hbm, ⟨34, _⟩ => ⟨S4096x768, .f32⟩
  | .hbm, ⟨35, _⟩ => ⟨S4096x768, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== TopK.lean ====
abbrev S2x65536 : Shape := ⟨2, ![2, 65536]⟩
abbrev S2x8 : Shape := ⟨2, ![2, 8]⟩
abbrev S2 : Shape := ⟨1, ![2]⟩
abbrev S2x1 : Shape := ⟨2, ![2, 1]⟩

abbrev nBuf : Space → Nat
  | .hbm => 3
  | .vmem => 3
  | .smem => 0
  | _ => 0

abbrev bufTy : (tb : Table) → Fin (tcTables nBuf tb) → BufTy
  | .hbm, ⟨0, _⟩ => ⟨S2x65536, .f32⟩
  | .hbm, ⟨1, _⟩ => ⟨S2x8, .i32⟩
  | .hbm, ⟨2, _⟩ => ⟨S2x8, .f32⟩
  | .local _ .vmem, ⟨0, _⟩ => ⟨S2x65536, .f32⟩
  | .local _ .vmem, ⟨1, _⟩ => ⟨S2x8, .i32⟩
  | .local _ .vmem, ⟨2, _⟩ => ⟨S2x8, .f32⟩
  | _, _ => ⟨S2x65536, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x65536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== TopKRefIdeal.lean ====
abbrev S2x65536 : Shape := ⟨2, ![2, 65536]⟩
abbrev S2x8 : Shape := ⟨2, ![2, 8]⟩
abbrev S_ : Shape := ⟨0, ![]⟩
abbrev S2 : Shape := ⟨1, ![2]⟩
abbrev S2x1 : Shape := ⟨2, ![2, 1]⟩

abbrev nBuf : Space → Nat
  | .hbm => 17
  | .vmem => 0
  | .smem => 0
  | _ => 0

abbrev bufTy : (tb : Table) → Fin (tcTables nBuf tb) → BufTy
  | .hbm, ⟨0, _⟩ => ⟨S2x65536, .f32⟩
  | .hbm, ⟨1, _⟩ => ⟨S2x8, .f32⟩
  | .hbm, ⟨2, _⟩ => ⟨S2x8, .i32⟩
  | .hbm, ⟨3, _⟩ => ⟨S_, .f32⟩
  | .hbm, ⟨4, _⟩ => ⟨S2, .f32⟩
  | .hbm, ⟨5, _⟩ => ⟨S_, .f32⟩
  | .hbm, ⟨6, _⟩ => ⟨S2, .f32⟩
  | .hbm, ⟨7, _⟩ => ⟨S2, .f32⟩
  | .hbm, ⟨8, _⟩ => ⟨S2x1, .f32⟩
  | .hbm, ⟨9, _⟩ => ⟨S2x8, .f32⟩
  | .hbm, ⟨10, _⟩ => ⟨S2x8, .f32⟩
  | .hbm, ⟨11, _⟩ => ⟨S2x8, .f32⟩
  | .hbm, ⟨12, _⟩ => ⟨S_, .f32⟩
  | .hbm, ⟨13, _⟩ => ⟨S2, .f32⟩
  | .hbm, ⟨14, _⟩ => ⟨S2x1, .f32⟩
  | .hbm, ⟨15, _⟩ => ⟨S2x8, .f32⟩
  | .hbm, ⟨16, _⟩ => ⟨S2x8, .f32⟩
  | _, _ => ⟨S2x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Offsets.lean ====
/-
  The arithmetic of the gather kernel's words in closed form. One vector subcore `(L 0, L 1)` runs six trips; the five
  words its loop carries are, at the start of trip `t`, an explicit function of `t` (`carried`), and every offset the
  body computes from them is a slot number modulo two or the position of one of the subcore's six blocks.
-/
module

public import proofs.«01_k».proof.Proof.Gen.KernelIdeal
public import proofs.«01_k».proof.Proof.Gen.KernelIdeal.Skeleton

@[expose] public section

noncomputable section

namespace Cert.Proof.Embed

open Cert.KernelIdeal Cert.KernelIdeal.Gen
open Idealize.ShloMosaic

/-- The coordinates of the subcore numbered `s` on SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- The block of 128 rows a subcore works on at trip `t`: six consecutive blocks to a subcore. -/
def blk (L : grid0.Coords) (t : ℕ) : ℕ := 6 * ((L 1).val + 16 * (L 0).val) + t

/-- What the loop carries at the start of trip `t`: the next index slot to fill, the index slot to read, the row slot to
    fill, the row slot to drain, the trip within the subcore's run of blocks. -/
def carried (t : ℕ) : BitVec 32 × BitVec 32 × BitVec 32 × BitVec 32 × BitVec 32 :=
  (BitVec.ofNat 32 (min (t + 1) 6), BitVec.ofNat 32 t, BitVec.ofNat 32 t, BitVec.ofNat 32 (t - 1), BitVec.ofNat 32 (t % 6))

abbrev nextIn (t : ℕ) : BitVec 32 := BitVec.ofNat 32 (min (t + 1) 6)
abbrev curIn (t : ℕ) : BitVec 32 := BitVec.ofNat 32 t
abbrev drain (t : ℕ) : BitVec 32 := BitVec.ofNat 32 (t - 1)
abbrev pos (t : ℕ) : BitVec 32 := BitVec.ofNat 32 (t % 6)

theorem trips_eq : k0_t1_loop.trips = 6 := by decide

/-- A statement about every subcore from its instances. -/
theorem coords_ind {p : grid0.Coords → Prop} (h : ∀ c s, p (coords c s)) (L : grid0.Coords) : p L := by
  have e : coords (L 0) (L 1) = L := by
    funext a
    match a with
    | 0 => rfl
    | 1 => rfl
  exact e ▸ h (L 0) (L 1)

theorem blk_lt (L : grid0.Coords) {t : ℕ} (ht : t < 6) : blk L t < 192 := by
  have h0 : (L 0).val < 2 := (L 0).isLt
  have h1 : (L 1).val < 16 := (L 1).isLt
  unfold blk; omega

/-! ## Before the loop -/

theorem first_slot : k0_off1 = ![0, 0, 0] := by decide
theorem first_sem : k0_off3 = ![0] := by decide
theorem first_block (L : grid0.Coords) : k0_off2 L = ![0, 128 * blk L 0] :=
  coords_ind (p := fun L => k0_off2 L = ![0, 128 * blk L 0]) (by decide +kernel) L

/-! ## In trip `t` -/

/-- The next block's indices are fetched on every trip but the last. -/
theorem fetch_iff (L : grid0.Coords) : ∀ t : Fin k0_t1_loop.trips, k0_cond1 L t (pos t) = 1#1 ↔ t.val < 5 :=
  coords_ind (p := fun L => ∀ t : Fin k0_t1_loop.trips, k0_cond1 L t (pos t) = 1#1 ↔ t.val < 5) (by decide +kernel) L
theorem await_always (L : grid0.Coords) : ∀ t : Fin k0_t1_loop.trips, k0_cond2 L t (pos t) = 1#1 :=
  coords_ind (p := fun L => ∀ t : Fin k0_t1_loop.trips, k0_cond2 L t (pos t) = 1#1) (by decide +kernel) L
theorem put_always (L : grid0.Coords) : ∀ t : Fin k0_t1_loop.trips, k0_cond5 L t (pos t) = 1#1 :=
  coords_ind (p := fun L => ∀ t : Fin k0_t1_loop.trips, k0_cond5 L t (pos t) = 1#1) (by decide +kernel) L
/-- The previous block's rows are waited for on every trip but the first. -/
theorem drain_iff (L : grid0.Coords) : ∀ t : Fin k0_t1_loop.trips, k0_cond7 L t (pos t) = 1#1 ↔ t.val ≠ 0 :=
  coords_ind (p := fun L => ∀ t : Fin k0_t1_loop.trips, k0_cond7 L t (pos t) = 1#1 ↔ t.val ≠ 0) (by decide +kernel) L

theorem next_slot : ∀ t : Fin k0_t1_loop.trips, t.val < 5 → k0_off4 (nextIn t) = ![(t.val + 1) % 2, 0, 0] := by decide +kernel
theorem next_sem : ∀ t : Fin k0_t1_loop.trips, t.val < 5 → k0_off6 (nextIn t) = ![(t.val + 1) % 2] := by decide +kernel
theorem next_block (L : grid0.Coords) : ∀ t : Fin k0_t1_loop.trips, t.val < 5 → k0_off5 L (pos t) = ![0, 128 * blk L (t + 1)] :=
  coords_ind (p := fun L => ∀ t : Fin k0_t1_loop.trips, t.val < 5 → k0_off5 L (pos t) = ![0, 128 * blk L (t + 1)]) (by decide +kernel) L

theorem await_slot : ∀ t : Fin k0_t1_loop.trips, k0_off7 (curIn t) = ![t.val % 2, 0, 0] := by decide +kernel
theorem await_sem : ∀ t : Fin k0_t1_loop.trips, k0_off9 (curIn t) = ![t.val % 2] := by decide +kernel
theorem await_block (L : grid0.Coords) : ∀ t : Fin k0_t1_loop.trips, k0_off8 L (pos t) = ![0, 128 * blk L t] :=
  coords_ind (p := fun L => ∀ t : Fin k0_t1_loop.trips, k0_off8 L (pos t) = ![0, 128 * blk L t]) (by decide +kernel) L

theorem row_slot : ∀ t : Fin k0_t1_loop.trips, k0_off10 (curIn t) = ![t.val % 2, 0, 0] := by decide +kernel
theorem list_slot : ∀ t : Fin k0_t1_loop.trips, k0_off11 (curIn t) = ![t.val % 2, 0, 0] := by decide +kernel

theorem put_slot : ∀ t : Fin k0_t1_loop.trips, k0_off12 (curIn t) = ![t.val % 2, 0, 0] := by decide +kernel
theorem put_sem : ∀ t : Fin k0_t1_loop.trips, k0_off14 (curIn t) = ![t.val % 2] := by decide +kernel
theorem put_block (L : grid0.Coords) : ∀ t : Fin k0_t1_loop.trips, k0_off13 L (pos t) = ![128 * blk L t, 0] :=
  coords_ind (p := fun L => ∀ t : Fin k0_t1_loop.trips, k0_off13 L (pos t) = ![128 * blk L t, 0]) (by decide +kernel) L

theorem drain_slot : ∀ t : Fin k0_t1_loop.trips, k0_off15 (drain t) = ![(t.val - 1) % 2, 0, 0] := by decide +kernel
theorem drain_sem : ∀ t : Fin k0_t1_loop.trips, k0_off17 (drain t) = ![(t.val - 1) % 2] := by decide +kernel
theorem drain_block (L : grid0.Coords) : ∀ t : Fin k0_t1_loop.trips, t.val ≠ 0 → k0_off16 L (pos t) = ![128 * blk L (t - 1), 0] :=
  coords_ind (p := fun L => ∀ t : Fin k0_t1_loop.trips, t.val ≠ 0 → k0_off16 L (pos t) = ![128 * blk L (t - 1), 0]) (by decide +kernel) L

/-- The three checks of a trip pass. -/
theorem check_list : ∀ t : Fin k0_t1_loop.trips, k0_chk3 (curIn t) := by decide +kernel
theorem check_rows : ∀ t : Fin k0_t1_loop.trips, k0_chk2 (curIn t) := by decide +kernel
theorem check_trip (L : grid0.Coords) : ∀ t : Fin k0_t1_loop.trips, k0_chk1 L t (nextIn t) (curIn t) (curIn t) (drain t) (pos t) :=
  coords_ind (p := fun L => ∀ t : Fin k0_t1_loop.trips, k0_chk1 L t (nextIn t) (curIn t) (curIn t) (drain t) (pos t)) (by decide +kernel) L

/-! ## After the loop -/

theorem last_slot : k0_off21 (drain 6) = ![1, 0, 0] := by decide +kernel
theorem last_sem : k0_off20 (drain 6) = ![1] := by decide +kernel
theorem last_block (L : grid0.Coords) : k0_off19 L (pos 6) = ![128 * blk L 5, 0] :=
  coords_ind (p := fun L => k0_off19 L (pos 6) = ![128 * blk L 5, 0]) (by decide +kernel) L
theorem check_last_sem : k0_chk4 (drain 6) := by decide +kernel
theorem check_last_block (L : grid0.Coords) : k0_chk5 L (pos 6) :=
  coords_ind (p := fun L => k0_chk5 L (pos 6)) (by decide +kernel) L

end Cert.Proof.Embed

end
-- ==== Proof.Pieces.lean ====
/-
  The pieces the gather kernel's copies move, at any offset: a slot of the index buffer, a slot of the row buffer, a block
  of the indices, a block of the output. Each piece's elements are a set given by one coordinate, and what a copy leaves in
  a piece is a function of the table and the indices alone (`idxVal`, `rowVal`, `outVal`).
-/
module

public import proofs.«01_k».proof.Proof.Offsets
public import Idealize.ShloMosaic.Lib.SparseCore.Ops
public import Idealize.ShloMosaic.Lib.SparseCore.Stream
public import Idealize.ShloMosaic.Lib.ViewIndex
public import Idealize.ShloMosaic.Lib.Pointwise

@[expose] public section

noncomputable section

namespace Cert.Proof.Embed

open Cert.KernelIdeal Cert.KernelIdeal.Gen
open Idealize.ShloMosaic

variable {F : FTy → Type}

/-- A position in an array of rank two is its two coordinates. -/
theorem at_ext {d : Fin 2 → ℕ} {x y : (⟨2, d⟩ : Shape).Idx} (h0 : (x 0).val = (y 0).val) (h1 : (x 1).val = (y 1).val) : x = y := by
  funext a
  refine Fin.ext ?_
  match a with
  | 0 => exact h0
  | 1 => exact h1

/-! ## The buffers and their pieces -/

abbrev tabM : Memref sig .scVector .hbm S192000x128 .f32 := Memref.whole main_v1_scv
abbrev idsM : Memref sig .scVector .hbm S1x24576 .i32 := Memref.whole main_v11_scv
abbrev outM : Memref sig .scVector .hbm S24576x128 .f32 := Memref.whole main_v12_scv
abbrev slotM : Memref sig .scVector .vmem S2x1x128 .i32 := Memref.whole cc0_scoped0
abbrev rowM : Memref sig .scVector .vmem S2x128x128 .f32 := Memref.whole cc0_scoped2

abbrev tabAll : Memref sig .scVector .hbm S192000x128 .f32 :=
  tabM.slice (Rect.unit (s := S192000x128) ![0, 0] S192000x128.size inb_S192000x128_S192000x128_0_0) (fun _ => rfl)
abbrev slotAt (o : Fin 3 → ℕ) (h : ∀ a, o a + S1x1x128.size a ≤ S2x1x128.size a) : Memref sig .scVector .vmem S1x128 .i32 :=
  (slotM.slice (Rect.unit (s := S2x1x128) o S1x1x128.size h) (fun _ => rfl)).squeeze S1x128 squeezes_S1x1x128_S1x128
abbrev listAt (o : Fin 3 → ℕ) (h : ∀ a, o a + S1x1x128.size a ≤ S2x1x128.size a) : Memref sig .scVector .vmem S128 .i32 :=
  ((slotAt o h).slice (Rect.unit (s := S1x128) ![0, 0] S1x128.size inb_S1x128_S1x128_0_0) (fun _ => rfl)).squeeze S128 squeezes_S1x128_S128
abbrev rowAt (o : Fin 3 → ℕ) (h : ∀ a, o a + S1x128x128.size a ≤ S2x128x128.size a) : Memref sig .scVector .vmem S128x128 .f32 :=
  (rowM.slice (Rect.unit (s := S2x128x128) o S1x128x128.size h) (fun _ => rfl)).squeeze S128x128 squeezes_S1x128x128_S128x128
abbrev idsAt (o : Fin 2 → ℕ) (h : ∀ a, o a + S1x128.size a ≤ S1x24576.size a) : Memref sig .scVector .hbm S1x128 .i32 :=
  idsM.slice (Rect.unit (s := S1x24576) o S1x128.size h) (fun _ => rfl)
abbrev outAt (o : Fin 2 → ℕ) (h : ∀ a, o a + S128x128.size a ≤ S24576x128.size a) : Memref sig .scVector .hbm S128x128 .f32 :=
  outM.slice (Rect.unit (s := S24576x128) o S128x128.size h) (fun _ => rfl)

/-- Cell `o 0` of a pair of counters. -/
abbrev cellAt (A : DmaSems sig S2) (o : Fin 1 → ℕ) (h : ∀ a, o a + S1.size a ≤ S2.size a) : DmaSem sig :=
  ((A.slice (Rect.unit (s := S2) o S1.size h)).squeeze S_ squeezes_S1_S_).sem

/-! ## Their elements -/

def slotSet (k : ℕ) : Finset S2x1x128.Idx := {i | (i 0).val = k}
def rowSet (k : ℕ) : Finset S2x128x128.Idx := {i | (i 0).val = k}
def idsSet (b : ℕ) : Finset S1x24576.Idx := {i | (i 1).val / 128 = b}
def outSet (b : ℕ) : Finset S24576x128.Idx := {i | (i 0).val / 128 = b}

theorem mem_slotSet {k : ℕ} {i : S2x1x128.Idx} : i ∈ slotSet k ↔ (i 0).val = k := by simp [slotSet]
theorem mem_rowSet {k : ℕ} {i : S2x128x128.Idx} : i ∈ rowSet k ↔ (i 0).val = k := by simp [rowSet]
theorem mem_idsSet {b : ℕ} {i : S1x24576.Idx} : i ∈ idsSet b ↔ (i 1).val / 128 = b := by simp [idsSet]
theorem mem_outSet {b : ℕ} {i : S24576x128.Idx} : i ∈ outSet b ↔ (i 0).val / 128 = b := by simp [outSet]

section Coordinates

variable {o3 : Fin 3 → ℕ} {o2 : Fin 2 → ℕ}

/-- Where element `x` of a slot of the index buffer lies. -/
theorem slot_emb (h : ∀ a, o3 a + S1x1x128.size a ≤ S2x1x128.size a) (x : S1x128.Idx) :
    (((slotAt o3 h).view.emb x) 0).val = o3 0 ∧ (((slotAt o3 h).view.emb x) 2).val = o3 2 + (x 1).val := by
  have e : (slotAt o3 h).view.emb x = (Rect.unit (s := S2x1x128) o3 S1x1x128.size h).emb
      (Shape.reshapeEquiv squeezes_S1x1x128_S1x128.numel_eq x) := rfl
  have hr := Shape.rowMajor_reshapeEquiv squeezes_S1x1x128_S1x128.numel_eq x
  rw [Shape.rowMajor_val_three, Shape.rowMajor_val_two] at hr
  rw [e, Rect.emb_apply, Rect.emb_apply]
  generalize Shape.reshapeEquiv squeezes_S1x1x128_S1x128.numel_eq x = y at hr ⊢
  have y0 : (y 0).val < 1 := (y 0).isLt
  have y1 : (y 1).val < 1 := (y 1).isLt
  have x0 : (x 0).val < 1 := (x 0).isLt
  have hr' : ((y 0).val * 1 + (y 1).val) * 128 + (y 2).val = (x 0).val * 128 + (x 1).val := hr
  exact ⟨show o3 0 + 1 * (y 0).val = _ by omega, show o3 2 + 1 * (y 2).val = _ by omega⟩

/-- Where element `x` of a slot's list of 128 words lies. -/
theorem list_emb (h : ∀ a, o3 a + S1x1x128.size a ≤ S2x1x128.size a) (x : S128.Idx) :
    (((listAt o3 h).view.emb x) 0).val = o3 0 ∧ (((listAt o3 h).view.emb x) 2).val = o3 2 + (x 0).val := by
  have e : (listAt o3 h).view.emb x = (slotAt o3 h).view.emb ((Rect.unit (s := S1x128) ![0, 0] S1x128.size inb_S1x128_S1x128_0_0).emb
      (Shape.reshapeEquiv squeezes_S1x128_S128.numel_eq x)) := rfl
  have hr := Shape.rowMajor_reshapeEquiv squeezes_S1x128_S128.numel_eq x
  rw [Shape.rowMajor_val_two, Shape.rowMajor_val_one] at hr
  rw [e]
  refine ⟨(slot_emb h _).1, (slot_emb h _).2.trans ?_⟩
  rw [Rect.emb_apply]
  generalize Shape.reshapeEquiv squeezes_S1x128_S128.numel_eq x = y at hr ⊢
  have y0 : (y 0).val < 1 := (y 0).isLt
  have hr' : (y 0).val * 128 + (y 1).val = (x 0).val := hr
  show o3 2 + (0 + 1 * (y 1).val) = _
  omega

/-- Where element `x` of a slot of the row buffer lies. -/
theorem row_emb (h : ∀ a, o3 a + S1x128x128.size a ≤ S2x128x128.size a) (x : S128x128.Idx) :
    (((rowAt o3 h).view.emb x) 0).val = o3 0 ∧ (((rowAt o3 h).view.emb x) 1).val = o3 1 + (x 0).val
      ∧ (((rowAt o3 h).view.emb x) 2).val = o3 2 + (x 1).val := by
  have e : (rowAt o3 h).view.emb x = (Rect.unit (s := S2x128x128) o3 S1x128x128.size h).emb
      (Shape.reshapeEquiv squeezes_S1x128x128_S128x128.numel_eq x) := rfl
  have hr := Shape.rowMajor_reshapeEquiv squeezes_S1x128x128_S128x128.numel_eq x
  rw [Shape.rowMajor_val_three, Shape.rowMajor_val_two] at hr
  rw [e, Rect.emb_apply, Rect.emb_apply, Rect.emb_apply]
  generalize Shape.reshapeEquiv squeezes_S1x128x128_S128x128.numel_eq x = y at hr ⊢
  have y0 : (y 0).val < 1 := (y 0).isLt
  have y1 : (y 1).val < 128 := (y 1).isLt
  have y2 : (y 2).val < 128 := (y 2).isLt
  have x0 : (x 0).val < 128 := (x 0).isLt
  have x1 : (x 1).val < 128 := (x 1).isLt
  have hr' : ((y 0).val * 128 + (y 1).val) * 128 + (y 2).val = (x 0).val * 128 + (x 1).val := hr
  exact ⟨show o3 0 + 1 * (y 0).val = _ by omega, show o3 1 + 1 * (y 1).val = _ by omega, show o3 2 + 1 * (y 2).val = _ by omega⟩

theorem ids_emb (h : ∀ a, o2 a + S1x128.size a ≤ S1x24576.size a) (x : S1x128.Idx) :
    (((idsAt o2 h).view.emb x) 1).val = o2 1 + (x 1).val := by
  show o2 1 + 1 * (x 1).val = _
  omega

theorem out_emb (h : ∀ a, o2 a + S128x128.size a ≤ S24576x128.size a) (x : S128x128.Idx) :
    (((outAt o2 h).view.emb x) 0).val = o2 0 + (x 0).val ∧ (((outAt o2 h).view.emb x) 1).val = o2 1 + (x 1).val :=
  ⟨show o2 0 + 1 * (x 0).val = _ by omega, show o2 1 + 1 * (x 1).val = _ by omega⟩

theorem tab_emb (x : S192000x128.Idx) : tabAll.view.emb x = x := by
  funext a
  refine Fin.ext ?_
  match a with
  | 0 => show 0 + 1 * (x 0).val = _; omega
  | 1 => show 0 + 1 * (x 1).val = _; omega

end Coordinates

/-! ## The pieces' elements are those sets -/

theorem slot_set (k : ℕ) (h : ∀ a, (![k, 0, 0] : Fin 3 → ℕ) a + S1x1x128.size a ≤ S2x1x128.size a) :
    (slotAt ![k, 0, 0] h).view.set = slotSet k := by
  show ((View.slice _ _).reshape _ _).set = _
  rw [View.set_reshape]
  refine (View.set_slice_whole cc0_scoped0 _).trans ?_
  ext i
  rw [mem_slotSet]
  refine Rect.mem_set_unit.trans ⟨fun H => ?_, fun H a => ?_⟩
  · have := H 0
    have h1 : k ≤ (i 0).val ∧ (i 0).val < k + 1 := this
    omega
  · match a with
    | 0 => show k ≤ (i 0).val ∧ (i 0).val < k + 1; omega
    | 1 => show 0 ≤ (i 1).val ∧ (i 1).val < 0 + 1; have : (i 1).val < 1 := (i 1).isLt; omega
    | 2 => show 0 ≤ (i 2).val ∧ (i 2).val < 0 + 128; have : (i 2).val < 128 := (i 2).isLt; omega

theorem list_set (k : ℕ) (h : ∀ a, (![k, 0, 0] : Fin 3 → ℕ) a + S1x1x128.size a ≤ S2x1x128.size a) :
    (listAt ![k, 0, 0] h).view.set = slotSet k := by
  rw [← slot_set k h]
  show ((View.slice _ _).reshape _ _).set = _
  rw [View.set_reshape, View.set_slice]
  have hall : (Rect.unit (s := S1x128) ![0, 0] S1x128.size inb_S1x128_S1x128_0_0).set = Finset.univ := by
    ext i
    refine ⟨fun _ => Finset.mem_univ _, fun _ => Rect.mem_set_unit.mpr fun a => ?_⟩
    match a with
    | 0 => show 0 ≤ (i 0).val ∧ (i 0).val < 0 + 1; have : (i 0).val < 1 := (i 0).isLt; omega
    | 1 => show 0 ≤ (i 1).val ∧ (i 1).val < 0 + 128; have : (i 1).val < 128 := (i 1).isLt; omega
  rw [hall]; rfl

theorem row_set (k : ℕ) (h : ∀ a, (![k, 0, 0] : Fin 3 → ℕ) a + S1x128x128.size a ≤ S2x128x128.size a) :
    (rowAt ![k, 0, 0] h).view.set = rowSet k := by
  show ((View.slice _ _).reshape _ _).set = _
  rw [View.set_reshape]
  refine (View.set_slice_whole cc0_scoped2 _).trans ?_
  ext i
  rw [mem_rowSet]
  refine Rect.mem_set_unit.trans ⟨fun H => ?_, fun H a => ?_⟩
  · have := H 0
    have h1 : k ≤ (i 0).val ∧ (i 0).val < k + 1 := this
    omega
  · match a with
    | 0 => show k ≤ (i 0).val ∧ (i 0).val < k + 1; omega
    | 1 => show 0 ≤ (i 1).val ∧ (i 1).val < 0 + 128; have : (i 1).val < 128 := (i 1).isLt; omega
    | 2 => show 0 ≤ (i 2).val ∧ (i 2).val < 0 + 128; have : (i 2).val < 128 := (i 2).isLt; omega

theorem ids_set (b : ℕ) (h : ∀ a, (![0, 128 * b] : Fin 2 → ℕ) a + S1x128.size a ≤ S1x24576.size a) :
    (idsAt ![0, 128 * b] h).view.set = idsSet b := by
  refine (View.set_slice_whole main_v11_scv _).trans ?_
  ext i
  rw [mem_idsSet]
  refine Rect.mem_set_unit.trans ⟨fun H => ?_, fun H a => ?_⟩
  · have h1 : 128 * b ≤ (i 1).val ∧ (i 1).val < 128 * b + 128 := H 1
    omega
  · match a with
    | 0 => show 0 ≤ (i 0).val ∧ (i 0).val < 0 + 1; have : (i 0).val < 1 := (i 0).isLt; omega
    | 1 => show 128 * b ≤ (i 1).val ∧ (i 1).val < 128 * b + 128; omega

theorem out_set (b : ℕ) (h : ∀ a, (![128 * b, 0] : Fin 2 → ℕ) a + S128x128.size a ≤ S24576x128.size a) :
    (outAt ![128 * b, 0] h).view.set = outSet b := by
  refine (View.set_slice_whole main_v12_scv _).trans ?_
  ext i
  rw [mem_outSet]
  refine Rect.mem_set_unit.trans ⟨fun H => ?_, fun H a => ?_⟩
  · have h1 : 128 * b ≤ (i 0).val ∧ (i 0).val < 128 * b + 128 := H 0
    omega
  · match a with
    | 0 => show 128 * b ≤ (i 0).val ∧ (i 0).val < 128 * b + 128; omega
    | 1 => show 0 ≤ (i 1).val ∧ (i 1).val < 0 + 128; have : (i 1).val < 128 := (i 1).isLt; omega

/-! ## What the copies leave -/

section Contents

variable (tab : S192000x128.Idx → Elt F .f32) (ids : S1x24576.Idx → Elt F .i32)

/-- Index `n` of the list of 24576. -/
def idAt (n : ℕ) : BitVec 32 := ids (ix2 (0 : Fin 1) (⟨n % 24576, Nat.mod_lt _ (by decide)⟩ : Fin 24576))
/-- The output: row `r` is the table's row named by index `r`. -/
def outVal : S24576x128.Idx → Elt F .f32 := fun i =>
  tab (ix2 (⟨(idAt ids (i 0).val).toNat % 192000, Nat.mod_lt _ (by decide)⟩ : Fin 192000) (i 1 : Fin 128))
/-- An index slot once block `b` has been fetched to it. -/
def idxVal (b : ℕ) : S2x1x128.Idx → Elt F .i32 := fun i => idAt ids (128 * b + (i 2).val)
/-- A row slot once the rows block `b` names have been gathered to it. -/
def rowVal (b : ℕ) : S2x128x128.Idx → Elt F .f32 := fun i =>
  tab (ix2 (⟨(idAt ids (128 * b + (i 1).val)).toNat % 192000, Nat.mod_lt _ (by decide)⟩ : Fin 192000) (i 2 : Fin 128))

/-- Every index names a row of the table. -/
def InTable : Prop := ∀ i, (ids i).toNat < 192000

variable {tab ids}

theorem idAt_eq {n : ℕ} (i : S1x24576.Idx) (h : (i 1).val = n) : ids i = idAt ids n := by
  subst h
  refine congrArg ids (at_ext ?_ ?_)
  · have : (i 0).val < 1 := (i 0).isLt
    show (i 0).val = 0
    omega
  · show (i 1).val = (i 1).val % 24576
    exact (Nat.mod_eq_of_lt (i 1).isLt).symm

/-- Block `b` of the indices, fetched to slot `k`. -/
theorem fetched (k b : ℕ) (h : ∀ a, (![k, 0, 0] : Fin 3 → ℕ) a + S1x1x128.size a ≤ S2x1x128.size a)
    (h' : ∀ a, (![0, 128 * b] : Fin 2 → ℕ) a + S1x128.size a ≤ S1x24576.size a) (fd : S2x1x128.Idx → Elt F .i32) :
    ∀ i ∈ slotSet k, (slotAt ![k, 0, 0] h).view.write (Elt F) fd (ReadAs.same.apply ((idsAt ![0, 128 * b] h').view.read (Elt F) ids)) Finset.univ i
      = idxVal ids b i := by
  intro i hi
  rw [← slot_set k h] at hi
  obtain ⟨x, -, rfl⟩ := Finset.mem_map.mp hi
  refine (View.write_emb_of_mem _ _ (Finset.mem_univ _)).trans ?_
  refine (show _ = ids ((idsAt ![0, 128 * b] h').view.emb x) from rfl).trans ?_
  refine idAt_eq _ ?_
  rw [ids_emb, (slot_emb h x).2]
  show 128 * b + _ = 128 * b + (0 + _)
  omega

/-- The list in slot `k` after that fetch. -/
theorem list_read (k b : ℕ) (h : ∀ a, (![k, 0, 0] : Fin 3 → ℕ) a + S1x1x128.size a ≤ S2x1x128.size a) (x : S128.Idx) :
    (listAt ![k, 0, 0] h).view.read (Elt F) (idxVal ids b) x = idAt ids (128 * b + (x 0).val) := by
  refine (show _ = idxVal ids b ((listAt ![k, 0, 0] h).view.emb x) from rfl).trans ?_
  show idAt ids (128 * b + _) = _
  rw [(list_emb h x).2]
  show idAt ids (128 * b + (0 + _)) = _
  rw [Nat.zero_add]

theorem list_inTable (hin : InTable ids) (k b : ℕ) (h : ∀ a, (![k, 0, 0] : Fin 3 → ℕ) a + S1x1x128.size a ≤ S2x1x128.size a) (x : S128.Idx) :
    ((listAt ![k, 0, 0] h).view.read (Elt F) (idxVal ids b) x).toNat < S192000x128.size gathers_S192000x128_S128x128.axis := by
  rw [list_read]
  exact hin _

/-- The rows block `b` names, gathered to slot `k`. -/
theorem gathered (hin : InTable ids) (k b : ℕ) (h : ∀ a, (![k, 0, 0] : Fin 3 → ℕ) a + S1x128x128.size a ≤ S2x128x128.size a)
    (k' : ℕ) (h' : ∀ a, (![k', 0, 0] : Fin 3 → ℕ) a + S1x1x128.size a ≤ S2x1x128.size a) (fd : S2x128x128.Idx → Elt F .f32) (hn) :
    ∀ i ∈ rowSet k, (rowAt ![k, 0, 0] h).view.write (Elt F) fd (SparseCore.gatherPayload gathers_S192000x128_S128x128 (tabAll.view.read (Elt F) tab)
        (SparseCore.rows ((listAt ![k', 0, 0] h').view.read (Elt F) (idxVal ids b)) hn (list_inTable hin k' b h'))) Finset.univ i
      = rowVal tab ids b i := by
  intro i hi
  rw [← row_set k h] at hi
  obtain ⟨x, -, rfl⟩ := Finset.mem_map.mp hi
  refine (View.write_emb_of_mem _ _ (Finset.mem_univ _)).trans ?_
  set r := SparseCore.rows ((listAt ![k', 0, 0] h').view.read (Elt F) (idxVal ids b)) hn (list_inTable hin k' b h') with hr
  refine (show _ = tab (tabAll.view.emb (gathers_S192000x128_S128x128.idx r x)) from rfl).trans ?_
  rw [tab_emb]
  refine congrArg tab (at_ext ?_ ?_)
  · have h0 : gathers_S192000x128_S128x128.idx r x 0 = r (x 0) := Shape.Gathers.idx_axis gathers_S192000x128_S128x128 r x
    rw [h0, hr]
    show ((listAt ![k', 0, 0] h').view.read (Elt F) (idxVal ids b) _).toNat = (idAt ids (128 * b + _)).toNat % 192000
    rw [list_read, (row_emb h x).2.1]
    have hx : (S128.rowMajor.symm (((x 0 : Fin 128)).cast hn.symm) 0).val = (x 0).val := by
      rw [← Shape.rowMajor_val_one, Equiv.apply_symm_apply]
      rfl
    rw [hx]
    show _ = (idAt ids (128 * b + (0 + _))).toNat % 192000
    rw [Nat.zero_add]
    exact (Nat.mod_eq_of_lt (show (idAt ids _).toNat < 192000 from hin _)).symm
  · have h1 := Shape.Gathers.idx_of_ne gathers_S192000x128_S128x128 r x 1 (by decide)
    rw [h1]
    show (x 1).val = (((rowAt ![k, 0, 0] h).view.emb x) 2).val
    rw [(row_emb h x).2.2]
    exact (Nat.zero_add _).symm

/-- Those rows, put to block `b` of the output. -/
theorem put (k b : ℕ) (h : ∀ a, (![k, 0, 0] : Fin 3 → ℕ) a + S1x128x128.size a ≤ S2x128x128.size a)
    (h' : ∀ a, (![128 * b, 0] : Fin 2 → ℕ) a + S128x128.size a ≤ S24576x128.size a) (fd : S24576x128.Idx → Elt F .f32) :
    ∀ i ∈ outSet b, (outAt ![128 * b, 0] h').view.write (Elt F) fd (ReadAs.same.apply ((rowAt ![k, 0, 0] h).view.read (Elt F) (rowVal tab ids b))) Finset.univ i
      = outVal tab ids i := by
  intro i hi
  rw [← out_set b h'] at hi
  obtain ⟨x, -, rfl⟩ := Finset.mem_map.mp hi
  refine (View.write_emb_of_mem _ _ (Finset.mem_univ _)).trans ?_
  refine (show _ = rowVal tab ids b ((rowAt ![k, 0, 0] h).view.emb x) from rfl).trans ?_
  refine congrArg tab (at_ext ?_ ?_)
  · show (idAt ids (128 * b + _)).toNat % 192000 = (idAt ids _).toNat % 192000
    rw [(row_emb h x).2.1, (out_emb h' x).1]
    show (idAt ids (128 * b + (0 + _))).toNat % 192000 = (idAt ids (128 * b + _)).toNat % 192000
    rw [Nat.zero_add]
  · show (((rowAt ![k, 0, 0] h).view.emb x) 2).val = (((outAt ![128 * b, 0] h').view.emb x) 1).val
    rw [(row_emb h x).2.2, (out_emb h' x).2]
    rfl

end Contents

end Cert.Proof.Embed
-- ==== Proof.Steps.lean ====
/-
  The gather kernel's copies, one lemma each. A subcore that owns a slot and holds its counter at zero issues the copy and
  goes on with the copy in flight; the wait gives back the slot holding the values named in `Pieces`, the source, and the
  counter at zero.
-/
module

public import proofs.«01_k».proof.Defs
public import proofs.«01_k».proof.Proof.Pieces
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The counters and the amounts -/

/-- The counter of index slot `k`. -/
def inCell (k : ℕ) : DmaSem sig := ⟨k % 2, (Nat.mod_lt k (by decide)).trans (by decide)⟩
/-- The counter of row slot `k`. -/
def outCell (k : ℕ) : DmaSem sig := ⟨2 + k % 2, (Nat.add_lt_add_left (Nat.mod_lt k (by decide)) 2).trans (by decide)⟩
/-- The counter of the gather. -/
def gatherCell : DmaSem sig := cc0_scoped4.sem

theorem cell_in {k : ℕ} (hk : k < 2) {o : Fin 1 → ℕ} (e : o = ![k]) (h : ∀ a, o a + S1.size a ≤ S2.size a) : cellAt cc0_scoped1 o h = inCell k := by
  subst e
  obtain rfl | rfl : k = 0 ∨ k = 1 := by omega
  · revert h; decide
  · revert h; decide
theorem cell_out {k : ℕ} (hk : k < 2) {o : Fin 1 → ℕ} (e : o = ![k]) (h : ∀ a, o a + S1.size a ≤ S2.size a) : cellAt cc0_scoped3 o h = outCell k := by
  subst e
  obtain rfl | rfl : k = 0 ∨ k = 1 := by omega
  · revert h; decide
  · revert h; decide

abbrev amtIn : ℕ := (slotAt ![0, 0, 0] (by decide)).view.dmaCredit
abbrev amtRow : ℕ := (rowAt ![0, 0, 0] (by decide)).view.dmaCredit
abbrev amtOut : ℕ := (outAt ![0, 0] (by decide)).view.dmaCredit

theorem slot_amt (o h) : (slotAt o h).view.dmaCredit = amtIn := rfl
theorem row_amt (o h) : (rowAt o h).view.dmaCredit = amtRow := rfl
theorem out_amt (o h) : (outAt o h).view.dmaCredit = amtOut := rfl
theorem amtIn_pos : 0 < amtIn := by decide
theorem amtOut_pos : 0 < amtOut := by decide
theorem row_sum (o h) : (∑ j, ((rowAt o h).slice (S128x128.rowRect gathers_S192000x128_S128x128.axis' j)
    (S128x128.stride_rowRect gathers_S192000x128_S128x128.axis' j)).view.dmaCredit) = amtRow := by
  have e : ∀ j, ((rowAt o h).slice (S128x128.rowRect gathers_S192000x128_S128x128.axis' j)
    (S128x128.stride_rowRect gathers_S192000x128_S128x128.axis' j)).view.dmaCredit
     = ((rowAt ![0,0,0] (by decide)).slice (S128x128.rowRect gathers_S192000x128_S128x128.axis' j)
    (S128x128.stride_rowRect gathers_S192000x128_S128x128.axis' j)).view.dmaCredit := fun _ => rfl
  rw [Finset.sum_congr rfl fun j _ => e j]
  decide

/-! ## The resources of one subcore -/

section Tile

variable (d : Dev nD) (L : grid0.Coords)

abbrev cV (L : grid0.Coords) : Fin τ.nSC := (L 0).castLE hcore0
abbrev jV (L : grid0.Coords) : Fin τ.nSub := (L 1).castLE hsub0
/-- The subcore's thread. -/
abbrev me (d : Dev nD) (L : grid0.Coords) : Thread nD τ := V d (cV L) (jV L)

abbrev slotP (k : ℕ) (f : S2x1x128.Idx → Elt F .i32) : sProp 𝕄 := slotM.view.loc (me d L) ↦[slotSet k]{fullShare} f
abbrev rowP (k : ℕ) (f : S2x128x128.Idx → Elt F .f32) : sProp 𝕄 := rowM.view.loc (me d L) ↦[rowSet k]{fullShare} f
abbrev idsP (b : ℕ) (f : S1x24576.Idx → Elt F .i32) : sProp 𝕄 := idsM.view.loc (me d L) ↦[idsSet b]{fullShare} f
abbrev outP (b : ℕ) (f : S24576x128.Idx → Elt F .f32) : sProp 𝕄 := outM.view.loc (me d L) ↦[outSet b]{fullShare} f
abbrev tabP (q : PosShare TreeShare) (f : S192000x128.Idx → Elt F .f32) : sProp 𝕄 := tabM.view.loc (me d L) ↦{q} f
abbrev zeroP (c : DmaSem sig) : sProp 𝕄 := semVal (me d L, SemLoc.dma c) 0

/-- What the subcore owes to the launch, every wait since the start of the body being on a copy of its own. -/
def Owing (O : CellTallies nD τ sig (HIx 1)) (W : Waits sig (HIx 1)) : sProp 𝕄 :=
  iprop(∃ W', ⌜∀ p ∈ W', p ∈ W ∨ p.2 = none⌝ ∗ owes (me d L) O W')

/-- Block `b` of the indices on its way to slot `k`. -/
def Fetching (ids : S1x24576.Idx → Elt F .i32) (k b : ℕ) : sProp 𝕄 :=
  Transfers.Flight countersEmb (me d L) (.dma (inCell k)) (default : HIx 1) amtIn iprop(slotP d L k (idxVal ids b) ∗ idsP d L b ids)
/-- The rows in slot `k` on their way to block `b` of the output. -/
def Putting (tab : S192000x128.Idx → Elt F .f32) (ids : S1x24576.Idx → Elt F .i32) (k b : ℕ) : sProp 𝕄 :=
  Transfers.Flight countersEmb (me d L) (.dma (outCell k)) (default : HIx 1) amtOut iprop(outP d L b (outVal tab ids) ∗ rowP d L k (rowVal tab ids b))

variable [FloatOps F]
variable {α : Type} {Qp : α → sProp (MT nD τ sig (HIx 1) (Elt F) ℕ UU ℕ)} {kk : PUnit → Prog (TpuEff nD τ sig (Elt F) Λ₀ (.scVector (cV L) (jV L))) α}
variable {tab : S192000x128.Idx → Elt F .f32} {ids : S1x24576.Idx → Elt F .i32}

/-- The subcore runs `p` to `Q`. -/
abbrev Runs (p : Prog (TpuEff nD τ sig (Elt F) Λ₀ (.scVector (cV L) (jV L))) α) (Q : α → sProp 𝕄) : sProp 𝕄 :=
  wp frame (wpE (defs₀ (F := F)) 𝒱₀ (me d L) none) Set.univ p Q

theorem fetch_step {k b : ℕ} (hk : k < 2) {o3 : Fin 3 → ℕ} {o2 : Fin 2 → ℕ} {o1 : Fin 1 → ℕ} (e3 : o3 = ![k, 0, 0]) (e2 : o2 = ![0, 128 * b]) (e1 : o1 = ![k])
    {h3 h2 h1} {f : S2x1x128.Idx → Elt F .i32} {hsrc hdst hsem} :
    iprop(idsP d L b ids ∗ slotP d L k f ∗ zeroP d L (inCell k))
      ⊢ iprop((Fetching d L ids k b -∗ Runs d L (kk ⟨⟩) Qp)
          -∗ Runs d L (.op (.enqueueDma (idsAt o2 h2) (.here (slotAt o3 h3)) (.dma (cellAt cc0_scoped1 o1 h1)) hsrc hdst hsem) kk) Qp) := by
  unfold Fetching
  subst e3 e2 e1
  revert hsem
  rw [cell_in hk rfl h1]
  intro hsem
  iintro ⟨Hi, Hs, Hz⟩ Hk
  ihave Hi := (Entails.of_eq (show idsP d L b ids = ((idsAt ![0, 128 * b] h2).view.loc (me d L) ↦[(idsAt ![0, 128 * b] h2).view.set]{fullShare} ids : sProp 𝕄) by
    rw [ids_set])) $$ Hi
  ihave Hs := (Entails.of_eq (show slotP d L k f = ((slotAt ![k, 0, 0] h3).view.loc (me d L) ↦[(slotAt ![k, 0, 0] h3).view.set]{fullShare} f : sProp 𝕄) by
    rw [slot_set])) $$ Hs
  iapply (Transfers.wp_dmaLocal countersEmb 𝒱₀ (me d L) none (default : HIx 1) amtIn rfl amtIn_pos (Finset.Subset.refl _)) $$ [Hi Hs Hz]
  · isplitl [Hi]; · iexact Hi
    isplitl [Hs]; · iexact Hs
    iexact Hz
  iintro Hf
  iapply Hk
  have hD : iprop(((slotAt ![k, 0, 0] h3).view.loc (me d L) ↦[(slotAt ![k, 0, 0] h3).view.set]{fullShare}
        (slotAt ![k, 0, 0] h3).view.write (Elt F) f (ReadAs.same.apply ((idsAt ![0, 128 * b] h2).view.read (Elt F) ids)) Finset.univ)
        ∗ ((idsAt ![0, 128 * b] h2).view.loc (me d L) ↦[(idsAt ![0, 128 * b] h2).view.set]{fullShare} ids))
      ⊢ (iprop(slotP d L k (idxVal ids b) ∗ idsP d L b ids) : sProp 𝕄) := by
    rw [slot_set, ids_set]
    exact sep_mono (Entails.of_eq (pointsTo_congr (fetched k b h3 h2 f))) .rfl
  iapply (Transfers.Flight_mono countersEmb (me d L) hD) $$ Hf

theorem put_step {k b : ℕ} (hk : k < 2) {o3 : Fin 3 → ℕ} {o2 : Fin 2 → ℕ} {o1 : Fin 1 → ℕ} (e3 : o3 = ![k, 0, 0]) (e2 : o2 = ![128 * b, 0]) (e1 : o1 = ![k])
    {h3 h2 h1} {f : S24576x128.Idx → Elt F .f32} {hsrc hdst hsem} :
    iprop(rowP d L k (rowVal tab ids b) ∗ outP d L b f ∗ zeroP d L (outCell k))
      ⊢ iprop((Putting d L tab ids k b -∗ Runs d L (kk ⟨⟩) Qp)
          -∗ Runs d L (.op (.enqueueDma (rowAt o3 h3) (.here (outAt o2 h2)) (.dma (cellAt cc0_scoped3 o1 h1)) hsrc hdst hsem) kk) Qp) := by
  unfold Putting
  subst e3 e2 e1
  revert hsem
  rw [cell_out hk rfl h1]
  intro hsem
  iintro ⟨Hr, Ho, Hz⟩ Hk
  ihave Hr := (Entails.of_eq (show rowP d L k (rowVal tab ids b) = ((rowAt ![k, 0, 0] h3).view.loc (me d L) ↦[(rowAt ![k, 0, 0] h3).view.set]{fullShare} rowVal tab ids b : sProp 𝕄) by
    rw [row_set])) $$ Hr
  ihave Ho := (Entails.of_eq (show outP d L b f = ((outAt ![128 * b, 0] h2).view.loc (me d L) ↦[(outAt ![128 * b, 0] h2).view.set]{fullShare} f : sProp 𝕄) by
    rw [out_set])) $$ Ho
  iapply (Transfers.wp_dmaLocal countersEmb 𝒱₀ (me d L) none (default : HIx 1) amtOut rfl amtOut_pos (Finset.Subset.refl _)) $$ [Hr Ho Hz]
  · isplitl [Hr]; · iexact Hr
    isplitl [Ho]; · iexact Ho
    iexact Hz
  iintro Hf
  iapply Hk
  have hD : iprop(((outAt ![128 * b, 0] h2).view.loc (me d L) ↦[(outAt ![128 * b, 0] h2).view.set]{fullShare}
        (outAt ![128 * b, 0] h2).view.write (Elt F) f (ReadAs.same.apply ((rowAt ![k, 0, 0] h3).view.read (Elt F) (rowVal tab ids b))) Finset.univ)
        ∗ ((rowAt ![k, 0, 0] h3).view.loc (me d L) ↦[(rowAt ![k, 0, 0] h3).view.set]{fullShare} rowVal tab ids b))
      ⊢ (iprop(outP d L b (outVal tab ids) ∗ rowP d L k (rowVal tab ids b)) : sProp 𝕄) := by
    rw [row_set, out_set]
    exact sep_mono (Entails.of_eq (pointsTo_congr (put k b h3 h2 f))) .rfl
  iapply (Transfers.Flight_mono countersEmb (me d L) hD) $$ Hf

variable {O : CellTallies nD τ sig (HIx 1)} {W : Waits sig (HIx 1)}

/-- A wait on a copy of the subcore's own. -/
theorem wait_step (hO : ∀ g, O g none = 0) {s' s : Shape} {e' e : EltTy} {sp' sp : Space} {κ : Kind} {N : ℕ} {A : sProp 𝕄} {c c' : DmaSem sig} (hc : c = c')
    {src : Memref sig (me d L).2.kind sp' s' e'} {dst : Memref sig κ sp s e} {hsrc hdst} (hN : dst.view.dmaCredit = N) :
    iprop(levAts (K (F := F)).L (K (F := F)).lev ∗ Transfers.Flight countersEmb (me d L) (.dma c') (default : HIx 1) N A ∗ Owing d L O W)
      ⊢ iprop((iprop(A ∗ zeroP d L c' ∗ Owing d L O W) -∗ Runs d L (kk ⟨⟩) Qp) -∗ Runs d L (.op (.waitDma2 c src dst hsrc hdst) kk) Qp) := by
  subst hc
  unfold Owing
  iintro ⟨Hlv, Hf, %W', %hW, HO⟩ Hk
  ihave Hmw := (show levAts (K (F := F)).L (K (F := F)).lev ⊢ Transfers.MayWaits (me d L) (default : HIx 1) O from
    (K (F := F)).mayWaits_none (thr := me d L) hO) $$ Hlv
  iapply (Transfers.wp_waitLocalO countersEmb 𝒱₀ (me d L) none (default : HIx 1) hN) $$ [Hf HO Hmw]
  · isplitl [Hf]; · iexact Hf
    isplitl [HO]; · iexact HO
    iapply (Transfers.MayWaits.elim (SemLoc.dma c)) $$ Hmw
  iintro ⟨HA, Hz, HO⟩
  iapply Hk
  isplitl [HA]; · iexact HA
  isplitl [Hz]; · iexact Hz
  iexists _
  isplitr
  swap
  · iexact HO
  ipureintro
  intro p hp
  rcases Finset.mem_insert.mp hp with hp | hp
  · exact .inr (hp ▸ rfl)
  · exact hW p hp

/-- The gather: the list in index slot `k'` names rows of the table, which come to row slot `k`. -/
theorem gather_step (hin : InTable ids) (hO : ∀ g, O g none = 0) {k k' b : ℕ} {o3 o3' : Fin 3 → ℕ} (e3 : o3 = ![k, 0, 0]) (e3' : o3' = ![k', 0, 0]) {h3 h3'}
    {q : PosShare TreeShare} {f : S2x128x128.Idx → Elt F .f32} {hp hn hsrc he hsp hr hsrc' hdst'} :
    iprop(levAts (K (F := F)).L (K (F := F)).lev ∗ tabP d L q tab ∗ slotP d L k' (idxVal ids b) ∗ rowP d L k f ∗ zeroP d L gatherCell ∗ Owing d L O W)
      ⊢ iprop((iprop(tabP d L q tab ∗ slotP d L k' (idxVal ids b) ∗ rowP d L k (rowVal tab ids b) ∗ zeroP d L gatherCell ∗ Owing d L O W) -∗ Runs d L (kk ⟨⟩) Qp)
          -∗ Runs d L (SparseCore.enqueueIndirectGather hp tabAll (rowAt o3 h3) gathers_S192000x128_S128x128 (listAt o3' h3') hn gatherCell hsrc he hsp hr
              >>= fun _ => SparseCore.waitIndirectGather gatherCell tabAll (rowAt o3 h3) hsrc' hdst' >>= kk) Qp) := by
  subst e3 e3'
  iintro ⟨Hlv, Ht, Hs, Hr, Hz, HO⟩ Hk
  ihave Hs := (Entails.of_eq (show slotP d L k' (idxVal ids b) = ((listAt ![k', 0, 0] h3').view.loc (me d L) ↦[(listAt ![k', 0, 0] h3').view.set]{fullShare} idxVal ids b : sProp 𝕄) by
    rw [list_set])) $$ Hs
  ihave Hr := (Entails.of_eq (show rowP d L k f = ((rowAt ![k, 0, 0] h3).view.loc (me d L) ↦[(rowAt ![k, 0, 0] h3).view.set]{fullShare} f : sProp 𝕄) by
    rw [row_set])) $$ Hr
  ihave Htt := (pointsTo_split_subset (q := q) (f := tab) (S := Finset.univ) (Finset.subset_univ tabAll.view.set)).1 $$ Ht
  icases Htt with ⟨Ht, Htr⟩
  iapply (SparseCore.wp_indirectGatherLocal countersEmb 𝒱₀ (me d L) none (default : HIx 1) amtRow (row_sum _ _) (by decide) (list_inTable hin k' b h3')) $$ [Ht Hr Hs Hz]
  · isplitl [Ht]; · iexact Ht
    isplitl [Hr]; · iexact Hr
    isplitl [Hs]; · iexact Hs
    iexact Hz
  iintro Hf
  iapply (wait_step d L hO (c := gatherCell) rfl (hN := row_amt _ _)) $$ [Hlv Hf HO]
  · isplitl [Hlv]; · iexact Hlv
    isplitl [Hf]; · iexact Hf
    iexact HO
  iintro ⟨⟨Hr, Ht, Hs⟩, Hz, HO⟩
  iapply Hk
  isplitl [Ht Htr]
  · iapply (pointsTo_split_subset (q := q) (f := tab) (S := Finset.univ) (Finset.subset_univ tabAll.view.set)).2
    isplitl [Ht]; · iexact Ht
    iexact Htr
  isplitl [Hs]
  · iapply (Entails.of_eq (show slotP d L k' (idxVal ids b) = ((listAt ![k', 0, 0] h3').view.loc (me d L) ↦[(listAt ![k', 0, 0] h3').view.set]{fullShare} idxVal ids b : sProp 𝕄) by
      rw [list_set]).symm)
    iexact Hs
  isplitl [Hr]
  · iapply (Entails.of_eq (pointsTo_congr (gathered (tab := tab) hin k b h3 k' h3' f hn)))
    iapply (Entails.of_eq (show ((rowAt ![k, 0, 0] h3).view.loc (me d L) ↦[(rowAt ![k, 0, 0] h3).view.set]{fullShare} _ : sProp 𝕄)
      = (rowM.view.loc (me d L) ↦[rowSet k]{fullShare} _ : sProp 𝕄) by rw [row_set]))
    iexact Hr
  isplitl [Hz]; · iexact Hz
  iexact HO

end Tile

end Cert.Proof.Embed
-- ==== Proof.Body.lean ====
/-
  One vector subcore's run of the gather kernel: six trips over six blocks of 128 indices, the fetch of the next block and
  the write-out of the previous one in flight beside the gather of the present one. The loop's invariant carries the values:
  the blocks written so far hold the rows their indices name.
-/
module

public import proofs.«01_k».proof.Proof.Steps

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the subcore holds between trips -/

section Tile

variable (d : Dev nD) (L : grid0.Coords)

/-- An index slot not in flight. -/
def freeSlot (k : ℕ) : sProp 𝕄 := iprop((∃ f, slotP d L k f) ∗ zeroP d L (inCell k))
/-- A row slot not in flight. -/
def freeRow (k : ℕ) : sProp 𝕄 := iprop((∃ f, rowP d L k f) ∗ zeroP d L (outCell k))

/-- The index slot of trip `t`, on its way to hold block `t`; free after the last trip. -/
def Incoming (ids : S1x24576.Idx → Elt F .i32) (t : ℕ) : sProp 𝕄 :=
  if t < 6 then Fetching d L ids (t % 2) (blk L t) else freeSlot d L (t % 2)
/-- The row slot of the trip before `t`, on its way to the output; free before the first trip. -/
def Outgoing (tab : S192000x128.Idx → Elt F .f32) (ids : S1x24576.Idx → Elt F .i32) (t : ℕ) : sProp 𝕄 :=
  if t = 0 then freeRow d L ((t + 1) % 2) else Putting d L tab ids ((t - 1) % 2) (blk L (t - 1))

/-- The subcore's blocks of the indices, but those in `S`. -/
abbrev idsBut (ids : S1x24576.Idx → Elt F .i32) (s : Finset ℕ) : sProp 𝕄 := bigSep s fun j => idsP d L (blk L j) ids
abbrev outDone (tab : S192000x128.Idx → Elt F .f32) (ids : S1x24576.Idx → Elt F .i32) (n : ℕ) : sProp 𝕄 :=
  bigSep (Finset.range n) fun j => outP d L (blk L j) (outVal tab ids)
abbrev outTodo (out0 : S24576x128.Idx → Elt F .f32) (t : ℕ) : sProp 𝕄 :=
  bigSep (Finset.Ico t 6) fun j => outP d L (blk L j) out0

variable (tab : S192000x128.Idx → Elt F .f32) (ids : S1x24576.Idx → Elt F .i32) (out0 : S24576x128.Idx → Elt F .f32) (q : PosShare TreeShare)
variable (O : CellTallies nD τ sig (HIx 1)) (W : Waits sig (HIx 1))

/-- At the start of trip `t`. -/
def Inv (t : ℕ) (acc : BitVec 32 × BitVec 32 × BitVec 32 × BitVec 32 × BitVec 32) : sProp 𝕄 :=
  iprop(⌜acc = carried t⌝ ∗ levAts (K (F := F)).L (K (F := F)).lev
    ∗ Incoming d L ids t ∗ freeSlot d L ((t + 1) % 2) ∗ idsBut d L ids ((Finset.range 6).erase t)
    ∗ Outgoing d L tab ids t ∗ freeRow d L (t % 2) ∗ outDone d L tab ids (t - 1) ∗ outTodo d L out0 t
    ∗ tabP d L q tab ∗ zeroP d L gatherCell ∗ Owing d L O W)

variable [FloatOps F]
variable {α : Type} {Qp : α → sProp (MT nD τ sig (HIx 1) (Elt F) ℕ UU ℕ)} {p : Prog (TpuEff nD τ sig (Elt F) Λ₀ (.scVector (cV L) (jV L))) α}
variable {tab ids out0 q O W}

/-- The next block's fetch, on every trip but the last. -/
theorem fetch_if (t : Fin k0_t1_loop.trips)
    {h5 : k0_cond1 L t (pos t) = 1#1 → ∀ a, k0_off5 L (pos t) a + S1x128.size a ≤ S1x24576.size a}
    {h4 : k0_cond1 L t (pos t) = 1#1 → ∀ a, k0_off4 (nextIn t) a + S1x1x128.size a ≤ S2x1x128.size a}
    {h6 : k0_cond1 L t (pos t) = 1#1 → ∀ a, k0_off6 (nextIn t) a + S1.size a ≤ S2.size a} :
    iprop(freeSlot d L ((t.val + 1) % 2) ∗ idsBut d L ids ((Finset.range 6).erase t))
      ⊢ iprop((iprop(Incoming d L ids (t.val + 1) ∗ idsBut d L ids (((Finset.range 6).erase t).erase (t.val + 1))) -∗ Runs d L p Qp)
          -∗ Runs d L (if h : k0_cond1 L t (pos t) = 1#1 then
              (.op (.enqueueDma (idsAt (k0_off5 L (pos t)) (h5 h)) (.here (slotAt (k0_off4 (nextIn t)) (h4 h)))
                (.dma (cellAt cc0_scoped1 (k0_off6 (nextIn t)) (h6 h))) (View.wordExact_bits rfl) ((View.wordExact_bits rfl).reshape _ _) ⟨Or.inl rfl, trivial⟩) fun _ => p)
              else p) Qp) := by
  have ht : t.val < 6 := lt_of_lt_of_eq t.isLt trips_eq
  by_cases h : k0_cond1 L t (pos t) = 1#1
  · have h5' := (fetch_iff L t).mp h
    rw [dif_pos h]
    have hmem : t.val + 1 ∈ (Finset.range 6).erase t := by simp; omega
    unfold idsBut
    rw [SparseCore.bigSep_erase' (Φ := fun j => (idsP d L (blk L j) ids : sProp 𝕄)) hmem]
    unfold freeSlot Incoming
    rw [if_pos (by omega)]
    iintro ⟨⟨⟨%f, Hs⟩, Hz⟩, Hi, Hids⟩ Hk
    iapply (fetch_step d L (Nat.mod_lt _ (by decide)) (next_slot t h5') (next_block L t h5') (next_sem t h5')) $$ [Hs Hz Hi]
    · isplitl [Hi]; · iexact Hi
      isplitl [Hs]; · iexact Hs
      iexact Hz
    iintro Hf
    iapply Hk
    isplitl [Hf]; · iexact Hf
    iexact Hids
  · have h5' : ¬ t.val < 5 := fun c => h ((fetch_iff L t).mpr c)
    rw [dif_neg h]
    have hnot : t.val + 1 ∉ (Finset.range 6).erase t := by simp; omega
    rw [Finset.erase_eq_of_notMem hnot]
    unfold Incoming
    rw [if_neg (by omega)]
    iintro H Hk
    iapply Hk
    iexact H

/-- The wait for the previous block's write-out, on every trip but the first. -/
theorem drain_if (hO : ∀ g, O g none = 0) (t : Fin k0_t1_loop.trips)
    {h16 : k0_cond7 L t (pos t) = 1#1 → ∀ a, k0_off16 L (pos t) a + S128x128.size a ≤ S24576x128.size a}
    {h15 : k0_cond7 L t (pos t) = 1#1 → ∀ a, k0_off15 (drain t) a + S1x128x128.size a ≤ S2x128x128.size a}
    {h17 : k0_cond7 L t (pos t) = 1#1 → ∀ a, k0_off17 (drain t) a + S1.size a ≤ S2.size a} :
    iprop(levAts (K (F := F)).L (K (F := F)).lev ∗ Outgoing d L tab ids t ∗ outDone d L tab ids (t.val - 1) ∗ Owing d L O W)
      ⊢ iprop((iprop(freeRow d L ((t.val + 1) % 2) ∗ outDone d L tab ids t.val ∗ Owing d L O W) -∗ Runs d L p Qp)
          -∗ Runs d L (if h : k0_cond7 L t (pos t) = 1#1 then
              (.op (.waitDma2 (cellAt cc0_scoped3 (k0_off17 (drain t)) (h17 h)) (rowAt (k0_off15 (drain t)) (h15 h))
                (outAt (k0_off16 L (pos t)) (h16 h)) ((View.wordExact_bits rfl).reshape _ _) (View.wordExact_bits rfl)) fun _ => p)
              else p) Qp) := by
  by_cases h : k0_cond7 L t (pos t) = 1#1
  · have h0 := (drain_iff L t).mp h
    obtain ⟨n, hn⟩ : ∃ n, n = t.val - 1 := ⟨_, rfl⟩
    have hr : Finset.range t.val = Finset.range (n + 1) := by congr 1; omega
    have hc : cellAt cc0_scoped3 (k0_off17 (drain t)) (h17 h) = outCell (n % 2) :=
      cell_out (Nat.mod_lt _ (by decide)) (by rw [drain_sem t, hn]) _
    rw [dif_pos h]
    have hpar : (t.val + 1) % 2 = n % 2 := by omega
    unfold Outgoing freeRow Putting
    rw [if_neg h0, hpar, ← hn]
    unfold outDone
    rw [hr, Finset.range_add_one, SparseCore.bigSep_insert' Finset.notMem_range_self]
    iintro ⟨Hlv, Hf, Hdone, HO⟩ Hk
    iapply (wait_step d L hO hc (hN := out_amt _ _)) $$ [Hlv Hf HO]
    · isplitl [Hlv]; · iexact Hlv
      isplitl [Hf]; · iexact Hf
      iexact HO
    iintro ⟨⟨Ho, Hr⟩, Hz, HO⟩
    iapply Hk
    isplitl [Hr Hz]
    · isplitl [Hr]; · iexists _; iexact Hr
      iexact Hz
    isplitl [Ho Hdone]
    · isplitl [Ho]; · iexact Ho
      iexact Hdone
    iexact HO
  · have h0 : t.val = 0 := by
      by_contra c
      exact h ((drain_iff L t).mpr c)
    rw [dif_neg h]
    unfold Outgoing
    rw [if_pos h0, h0]
    iintro ⟨-, Hf, Hdone, HO⟩ Hk
    iapply Hk
    isplitl [Hf]; · iexact Hf
    isplitl [Hdone]; · iexact Hdone
    iexact HO

/-- The row number of the subcore's first block, as the kernel computes it. -/
abbrev base (L : grid0.Coords) : BitVec 32 :=
  Scalar.muli (Scalar.addi (Scalar.addi 0#32 (Scalar.muli (BitVec.ofNat 32 (L 1).val) 1#32)) (Scalar.muli (BitVec.ofNat 32 (L 0).val) 16#32)) 6#32

/-- The values a trip's first part hands to the rest. -/
abbrev firstVals (L : grid0.Coords) (t : Fin k0_t1_loop.trips) : Σ' (_ : k0_chk3 (curIn t)) (_ : k0_chk2 (curIn t)) (_ : k0_chk1 L t (nextIn t) (curIn t) (curIn t) (drain t) (pos t))
    (_ : BitVec 32) (_ : BitVec 1) (_ : BitVec 1) (_ : BitVec 32) (_ : BitVec 32) (_ : BitVec 32) (_ : BitVec 32), BitVec 1 :=
  let iv : BitVec 32 := Scf.iv 0#32 1#32 t
  let cur : BitVec 32 := Scalar.addi (pos t) (base L)
  let back : BitVec 32 := Scalar.select 1#1 (Scalar.subi (pos t) 1#32) (pos t)
  let prev : BitVec 32 := Scalar.addi (Scalar.select (Scalar.cmpi .eq back 4294967295#32) 5#32 back) (base L)
  let fwd : BitVec 32 := Scalar.select 1#1 (Scalar.addi (pos t) 1#32) (pos t)
  let next : BitVec 32 := Scalar.addi (Scalar.select (Scalar.cmpi .eq fwd 6#32) 0#32 fwd) (base L)
  ⟨check_list t, check_rows t, check_trip L t, iv, Scalar.cmpi .eq iv 0#32, Scalar.cmpi .eq iv 5#32, cur, prev, next,
    Scalar.select (Scalar.andi (Scalar.andi (Scalar.cmpi .ne cur next) (Scalar.xori (Scalar.cmpi .sge iv 5#32) 1#1)) 1#1) (Scalar.addi (nextIn t) 1#32) (nextIn t),
    Scalar.cmpi .ne cur prev⟩

variable (t : Fin k0_t1_loop.trips)
variable {Rp : (Σ' (_ : k0_chk3 (curIn t)) (_ : k0_chk2 (curIn t)) (_ : k0_chk1 L t (nextIn t) (curIn t) (curIn t) (drain t) (pos t))
    (_ : BitVec 32) (_ : BitVec 1) (_ : BitVec 1) (_ : BitVec 32) (_ : BitVec 32) (_ : BitVec 32) (_ : BitVec 32), BitVec 1) → sProp (MT nD τ sig (HIx 1) (Elt F) ℕ UU ℕ)}

/-- The first part of a trip: the fetch of the next block. -/
theorem first_part :
    iprop(freeSlot d L ((t.val + 1) % 2) ∗ idsBut d L ids ((Finset.range 6).erase t))
      ⊢ iprop((iprop(Incoming d L ids (t.val + 1) ∗ idsBut d L ids (((Finset.range 6).erase t).erase (t.val + 1))) -∗ Rp (firstVals L t))
          -∗ Runs d L (k0_part1 L tabM (Memref.isWhole_whole _) idsM (Memref.isWhole_whole _) outM (Memref.isWhole_whole _) slotM (Memref.isWhole_whole _) cc0_scoped1
    rowM (Memref.isWhole_whole _) cc0_scoped3 cc0_scoped4 (base L) 0#32 1#32 t (nextIn t) (curIn t) (curIn t) (drain t) (pos t)) Rp) := by
  rw [k0_part1_eq_skeleton]
  unfold k0_part1_skel Runs
  simp only [bind_assoc, pure_bind, Prog.bind_lift]
  rw [wp_assume_of _ _ _ _ (check_list t), wp_assume_of _ _ _ _ (check_rows t), wp_assume_of _ _ _ _ (check_trip L t)]
  refine (fetch_if d L t (Qp := Rp) (p := pure (firstVals L t))).trans (wand_mono (wand_mono .rfl ?_) .rfl)
  unfold Runs
  rw [wp_pure]
  exact fupd_intro

/-- The second part of a trip: the present block's indices arrive, and the rows they name are gathered. -/
theorem second_part (hin : InTable ids) (hO : ∀ g, O g none = 0) {v64 v65 v96 : BitVec 1} {v5 v66 v71 v76 : BitVec 32} {h3 h2 h1} {Rp : PUnit → sProp 𝕄} :
    iprop(levAts (K (F := F)).L (K (F := F)).lev ∗ Incoming d L ids t ∗ freeRow d L (t.val % 2) ∗ tabP d L q tab ∗ zeroP d L gatherCell ∗ Owing d L O W)
      ⊢ iprop((iprop(freeSlot d L (t.val % 2) ∗ idsP d L (blk L t) ids ∗ rowP d L (t.val % 2) (rowVal tab ids (blk L t)) ∗ zeroP d L (outCell (t.val % 2))
            ∗ tabP d L q tab ∗ zeroP d L gatherCell ∗ Owing d L O W) -∗ Rp ⟨⟩)
          -∗ Runs d L (k0_part2 L tabM (Memref.isWhole_whole _) idsM (Memref.isWhole_whole _) outM (Memref.isWhole_whole _) slotM (Memref.isWhole_whole _) cc0_scoped1
    rowM (Memref.isWhole_whole _) cc0_scoped3 cc0_scoped4 t (nextIn t) (curIn t) (curIn t) (drain t) (pos t) h3 h2 h1 v5 v64 v65 v66 v71 v76 v96) Rp) := by
  have ht : t.val < 6 := lt_of_lt_of_eq t.isLt trips_eq
  rw [k0_part2_eq_skeleton]
  unfold k0_part2_skel Runs
  simp only [bind_assoc, pure_bind, Prog.bind_lift, ↓reduceDIte, await_always L t, ite_self]
  have hc : cellAt cc0_scoped1 (k0_off9 (curIn t)) (k0_off9_inb L t (nextIn t) (curIn t) (curIn t) (drain t) (pos t) h1 (await_always L t)) = inCell (t.val % 2) :=
    cell_in (Nat.mod_lt _ (by decide)) (await_sem t) _
  unfold Incoming Fetching freeSlot freeRow
  rw [if_pos ht]
  iintro ⟨#Hlv, Hf, ⟨⟨%f, Hr⟩, Hz⟩, Ht, Hg, HO⟩ Hk
  iapply (wait_step d L hO hc (hN := slot_amt _ _)) $$ [Hf HO]
  · isplitl []; · iexact Hlv
    isplitl [Hf]; · iexact Hf
    iexact HO
  iintro ⟨⟨Hs, Hi⟩, Hzi, HO⟩
  iapply (gather_step d L hin hO (row_slot t) (list_slot t)) $$ [Ht Hs Hr Hg HO]
  · isplitl []; · iexact Hlv
    isplitl [Ht]; · iexact Ht
    isplitl [Hs]; · iexact Hs
    isplitl [Hr]; · iexact Hr
    isplitl [Hg]; · iexact Hg
    iexact HO
  iintro ⟨Ht, Hs, Hr, Hg, HO⟩
  unfold Runs
  rw [wp_pure]
  imodintro
  iapply Hk
  isplitl [Hs Hzi]
  · isplitl [Hs]; · iexists _; iexact Hs
    iexact Hzi
  isplitl [Hi]; · iexact Hi
  isplitl [Hr]; · iexact Hr
  isplitl [Hz]; · iexact Hz
  isplitl [Ht]; · iexact Ht
  isplitl [Hg]; · iexact Hg
  iexact HO

/-- The words a trip leaves to the next, as the kernel computes them. -/
abbrev nextVals (L : grid0.Coords) (t : Fin k0_t1_loop.trips) : BitVec 32 × BitVec 32 × BitVec 32 × BitVec 32 × BitVec 32 :=
  let iv : BitVec 32 := Scf.iv 0#32 1#32 t
  let first : BitVec 1 := Scalar.cmpi .eq iv 0#32
  let last : BitVec 1 := Scalar.cmpi .eq iv 5#32
  let cur : BitVec 32 := Scalar.addi (pos t) (base L)
  let back : BitVec 32 := Scalar.select 1#1 (Scalar.subi (pos t) 1#32) (pos t)
  let prev : BitVec 32 := Scalar.addi (Scalar.select (Scalar.cmpi .eq back 4294967295#32) 5#32 back) (base L)
  let fwd : BitVec 32 := Scalar.select 1#1 (Scalar.addi (pos t) 1#32) (pos t)
  let next : BitVec 32 := Scalar.addi (Scalar.select (Scalar.cmpi .eq fwd 6#32) 0#32 fwd) (base L)
  (Scalar.select (Scalar.andi (Scalar.andi (Scalar.cmpi .ne cur next) (Scalar.xori (Scalar.cmpi .sge iv 5#32) 1#1)) 1#1) (Scalar.addi (nextIn t) 1#32) (nextIn t),
    Scalar.select (Scalar.ori (Scalar.cmpi .ne cur next) last) (Scalar.addi (curIn t) 1#32) (curIn t),
    Scalar.select (Scalar.andi (Scalar.ori (Scalar.cmpi .ne cur next) last) 1#1) (Scalar.addi (curIn t) 1#32) (curIn t),
    Scalar.select (Scalar.andi (Scalar.andi (Scalar.cmpi .ne cur prev) (Scalar.xori first 1#1)) 1#1) (Scalar.addi (drain t) 1#32) (drain t),
    Scalar.select (Scalar.cmpi .eq fwd 6#32) 0#32 fwd)

theorem nextVals_eq (L : grid0.Coords) : ∀ t : Fin k0_t1_loop.trips, nextVals L t = carried (t + 1) :=
  coords_ind (p := fun L => ∀ t : Fin k0_t1_loop.trips, nextVals L t = carried (t + 1)) (by decide +kernel) L

/-- One trip keeps the invariant. -/
theorem trip (hin : InTable ids) (hO : ∀ g, O g none = 0) (acc : BitVec 32 × BitVec 32 × BitVec 32 × BitVec 32 × BitVec 32) :
    Inv d L tab ids out0 q O W t acc
      ⊢ Runs d L (k0_t1_body L tabM (Memref.isWhole_whole _) idsM (Memref.isWhole_whole _) outM (Memref.isWhole_whole _) slotM (Memref.isWhole_whole _) cc0_scoped1
    rowM (Memref.isWhole_whole _) cc0_scoped3 cc0_scoped4 (base L) t acc) (Inv d L tab ids out0 q O W (t.val + 1)) := by
  have ht : t.val < 6 := lt_of_lt_of_eq t.isLt trips_eq
  rw [Inv]
  iintro ⟨%hacc, #Hlv, Hin, Hfree, Hids, Hout, Hrow, Hdone, Htodo, Ht, Hg, HO⟩
  subst hacc
  unfold carried k0_t1_body Runs
  simp only [wp_bind]
  iapply (first_part d L t) $$ [Hfree Hids]
  · isplitl [Hfree]; · iexact Hfree
    iexact Hids
  iintro ⟨Hnext, Hids⟩
  iapply (second_part d L t hin hO) $$ [Hin Hrow Ht Hg HO]
  · isplitl []; · iexact Hlv
    isplitl [Hin]; · iexact Hin
    isplitl [Hrow]; · iexact Hrow
    isplitl [Ht]; · iexact Ht
    isplitl [Hg]; · iexact Hg
    iexact HO
  iintro ⟨Hfree, Hblk, Hr, Hz, Ht, Hg, HO⟩
  simp only [↓reduceDIte, put_always L t, ite_self, wp_bind, wp_pure, Prog.bind_lift]
  have htodo : outTodo d L out0 t.val = iprop(outP d L (blk L t) out0 ∗ outTodo d L out0 (t.val + 1)) := by
    have e : Finset.Ico t.val 6 = insert t.val (Finset.Ico (t.val + 1) 6) := by
      rw [Finset.insert_Ico_add_one_left_eq_Ico ht]
    unfold outTodo
    rw [e, SparseCore.bigSep_insert' (by simp)]
  ihave Htodo := (Entails.of_eq htodo) $$ Htodo
  icases Htodo with ⟨Ho, Htodo⟩
  iapply (put_step d L (Nat.mod_lt _ (by decide)) (put_slot t) (put_block L t) (put_sem t)) $$ [Hr Ho Hz]
  · isplitl [Hr]; · iexact Hr
    isplitl [Ho]; · iexact Ho
    iexact Hz
  iintro Hput
  iapply (drain_if d L hO t (p := pure (nextVals L t))) $$ [Hout Hdone HO]
  · isplitl []; · iexact Hlv
    isplitl [Hout]; · iexact Hout
    isplitl [Hdone]; · iexact Hdone
    iexact HO
  iintro ⟨Hrow, Hdone, HO⟩
  unfold Runs
  rw [wp_pure]
  imodintro
  have hids : iprop(idsP d L (blk L t) ids ∗ idsBut d L ids (((Finset.range 6).erase t.val).erase (t.val + 1))) = idsBut d L ids ((Finset.range 6).erase (t.val + 1)) := by
    unfold idsBut
    rw [Finset.erase_right_comm]
    exact (SparseCore.bigSep_erase' (Φ := fun j => (idsP d L (blk L j) ids : sProp 𝕄)) (by simp; omega)).symm
  have hpar : (t.val + 1 + 1) % 2 = t.val % 2 := by omega
  unfold Inv Outgoing
  rw [if_neg (Nat.succ_ne_zero _), hpar, Nat.add_sub_cancel]
  isplitl []; · ipureintro; exact nextVals_eq L t
  isplitl []; · iexact Hlv
  isplitl [Hnext]; · iexact Hnext
  isplitl [Hfree]; · iexact Hfree
  isplitl [Hblk Hids]
  · iapply (Entails.of_eq hids)
    isplitl [Hblk]; · iexact Hblk
    iexact Hids
  isplitl [Hput]; · iexact Hput
  isplitl [Hrow]; · iexact Hrow
  isplitl [Hdone]; · iexact Hdone
  isplitl [Htodo]; · iexact Htodo
  isplitl [Ht]; · iexact Ht
  isplitl [Hg]; · iexact Hg
  iexact HO

/-- Before the loop: the fetch of the first block. -/
theorem head_part {Rp : BitVec 32 → sProp 𝕄} :
    iprop(freeSlot d L 0 ∗ idsP d L (blk L 0) ids)
      ⊢ iprop((Incoming d L ids 0 -∗ Rp (base L))
          -∗ Runs d L (k0_part3 L tabM (Memref.isWhole_whole _) idsM (Memref.isWhole_whole _) outM (Memref.isWhole_whole _) slotM (Memref.isWhole_whole _) cc0_scoped1
    rowM (Memref.isWhole_whole _) cc0_scoped3 cc0_scoped4) Rp) := by
  rw [k0_part3_eq_skeleton]
  unfold k0_part3_skel Runs Incoming freeSlot
  rw [if_pos (by decide)]
  simp only [bind_assoc, pure_bind, Prog.bind_lift]
  iintro ⟨⟨⟨%f, Hs⟩, Hz⟩, Hi⟩ Hk
  iapply (fetch_step d L (k := 0) (by decide) first_slot (first_block L) first_sem) $$ [Hs Hz Hi]
  · isplitl [Hi]; · iexact Hi
    isplitl [Hs]; · iexact Hs
    iexact Hz
  iintro Hf
  unfold Runs
  rw [wp_pure]
  imodintro
  iapply Hk
  iexact Hf

/-- The loop. -/
theorem loop_part (hin : InTable ids) (hO : ∀ g, O g none = 0)
    {Rp : (Σ' (v3 : BitVec 32) (v4 : BitVec 32) (_ : k0_chk5 L v4), k0_chk4 v3) → sProp (MT nD τ sig (HIx 1) (Elt F) ℕ UU ℕ)} :
    Inv d L tab ids out0 q O W 0 (carried 0)
      ⊢ iprop((Inv d L tab ids out0 q O W 6 (carried 6) -∗ Rp ⟨drain 6, pos 6, check_last_block L, check_last_sem⟩)
          -∗ Runs d L (k0_part4 L tabM (Memref.isWhole_whole _) idsM (Memref.isWhole_whole _) outM (Memref.isWhole_whole _) slotM (Memref.isWhole_whole _) cc0_scoped1
    rowM (Memref.isWhole_whole _) cc0_scoped3 cc0_scoped4 (base L)) Rp) := by
  rw [k0_part4_eq_skeleton]
  unfold k0_part4_skel Runs
  iintro HI Hk
  iapply (Scf.wp_for_bind frame _ _ _ _ _ _ _ _ (Inv d L tab ids out0 q O W) (fun t acc => trip d L t hin hO acc)) $$ [HI]
  · iexact HI
  iintro %acc HI
  ihave HI := (show Inv d L tab ids out0 q O W k0_t1_loop.trips acc ⊢ iprop(⌜acc = carried 6⌝ ∗ Inv d L tab ids out0 q O W 6 acc) by
    rw [trips_eq]
    unfold Inv
    iintro ⟨%e, H⟩
    isplitr; · ipureintro; exact e
    isplitr; · ipureintro; exact e
    iexact H) $$ HI
  icases HI with ⟨%hacc, HI⟩
  subst hacc
  unfold carried
  simp only [Prog.bind_lift]
  rw [wp_assume_of _ _ _ _ (check_last_block L), wp_assume_of _ _ _ _ check_last_sem, wp_pure]
  imodintro
  iapply Hk
  iexact HI

/-- The whole run of one subcore. -/
theorem whole_run (hin : InTable ids) (hO : ∀ g, O g none = 0) {Rp : PUnit → sProp 𝕄} :
    iprop(levAts (K (F := F)).L (K (F := F)).lev ∗ (freeSlot d L 0 ∗ freeSlot d L 1) ∗ (freeRow d L 0 ∗ freeRow d L 1)
        ∗ idsBut d L ids (Finset.range 6) ∗ outTodo d L out0 0 ∗ tabP d L q tab ∗ zeroP d L gatherCell ∗ Owing d L O W)
      ⊢ iprop((iprop((freeSlot d L 0 ∗ freeSlot d L 1) ∗ (freeRow d L 0 ∗ freeRow d L 1)
        ∗ idsBut d L ids (Finset.range 6) ∗ outDone d L tab ids 6 ∗ tabP d L q tab ∗ zeroP d L gatherCell ∗ Owing d L O W) -∗ Rp ⟨⟩)
          -∗ Runs d L (cc0_k L tabM (Memref.isWhole_whole _) idsM (Memref.isWhole_whole _) outM (Memref.isWhole_whole _) slotM (Memref.isWhole_whole _) cc0_scoped1
    rowM (Memref.isWhole_whole _) cc0_scoped3 cc0_scoped4) Rp) := by
  rw [cc0_k_eq_skeleton]
  unfold cc0_k_skel Runs
  simp only [wp_bind, Prog.bind_lift]
  have hids : idsBut d L ids (Finset.range 6) = iprop(idsP d L (blk L 0) ids ∗ idsBut d L ids ((Finset.range 6).erase 0)) :=
    SparseCore.bigSep_erase' (Φ := fun j => (idsP d L (blk L j) ids : sProp 𝕄)) (by decide)
  iintro ⟨#Hlv, ⟨Hs0, Hs1⟩, ⟨Hr0, Hr1⟩, Hids, Ho, Ht, Hg, HO⟩ Hk
  ihave Hids := (Entails.of_eq hids) $$ Hids
  icases Hids with ⟨Hi, Hids⟩
  iapply (head_part d L) $$ [Hs0 Hi]
  · isplitl [Hs0]; · iexact Hs0
    iexact Hi
  iintro Hin
  iapply (loop_part (tab := tab) (out0 := out0) (q := q) (W := W) d L hin hO) $$ [Hin Hs1 Hr0 Hr1 Hids Ho Ht Hg HO]
  · unfold Inv Outgoing
    rw [if_pos rfl]
    isplitr; · ipureintro; rfl
    isplitr; · iexact Hlv
    isplitl [Hin]; · iexact Hin
    isplitl [Hs1]; · iexact Hs1
    isplitl [Hids]; · iexact Hids
    isplitl [Hr1]; · iexact Hr1
    isplitl [Hr0]; · iexact Hr0
    isplitr
    · unfold outDone
      rw [Finset.range_zero, bigSep_empty]
      iempintro
    isplitl [Ho]; · iexact Ho
    isplitl [Ht]; · iexact Ht
    isplitl [Hg]; · iexact Hg
    iexact HO
  unfold Inv Outgoing Putting Incoming
  rw [if_neg (by decide), if_neg (by decide)]
  iintro ⟨-, -, Hs0, Hs1, Hids, Hf, Hr0, Hdone, -, Ht, Hg, HO⟩
  have hc : cellAt cc0_scoped3 (k0_off20 (drain 6)) (k0_off20_inb (drain 6) check_last_sem) = outCell 1 := cell_out (by decide) last_sem _
  iapply (wait_step d L hO hc (hN := out_amt _ _)) $$ [Hf HO]
  · isplitr; · iexact Hlv
    isplitl [Hf]; · iexact Hf
    iexact HO
  iintro ⟨⟨Ho, Hr⟩, Hz, HO⟩
  unfold Runs
  rw [wp_pure]
  imodintro
  iapply Hk
  isplitl [Hs0 Hs1]
  · isplitl [Hs0]; · iexact Hs0
    iexact Hs1
  isplitl [Hr0 Hr Hz]
  · isplitl [Hr0]; · iexact Hr0
    unfold freeRow
    isplitl [Hr]; · iexists _; iexact Hr
    iexact Hz
  isplitl [Hids]
  · rw [Finset.erase_eq_of_notMem (by decide)]
    iexact Hids
  isplitl [Ho Hdone]
  · have e : outDone d L tab ids 6 = iprop(outP d L (blk L 5) (outVal tab ids) ∗ outDone d L tab ids 5) := by
      unfold outDone
      rw [Finset.range_add_one, SparseCore.bigSep_insert' Finset.notMem_range_self]
    iapply (Entails.of_eq e.symm)
    isplitl [Ho]; · iexact Ho
    iexact Hdone
  isplitl [Ht]; · iexact Ht
  isplitl [Hg]; · iexact Hg
  iexact HO

end Tile

end Cert.Proof.Embed
-- ==== Proof.Deal.lean ====
/-
  What the call deals to the subcores and gets back. The indices and the output, each one array held whole, are the 192
  blocks of the 2 × 16 subcores, six to a subcore; the table is read by all of them, a share to each. Every block comes
  back as it was dealt, except the output's, which come back holding the gathered rows.
-/
module

public import proofs.«01_k».proof.Proof.Body
public import Idealize.ShloMosaic.Lib.ShareLeaves

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The subcore numbered `i` on SparseCore `c`. -/
abbrev at' (c : Fin 2) (i : Fin 16) : grid0.Coords := coords c i

theorem blk_at (c : Fin 2) (i : Fin 16) (t : ℕ) : blk (at' c i) t = 6 * (i.val + 16 * c.val) + t := rfl

/-- An array cut in 192 pieces is, dealt, six pieces to each subcore. -/
theorem dealt {ℓ : Loc nD τ sig} (g : ℕ → Finset (Idx ℓ)) (hd : ∀ a b, a ≠ b → Disjoint (g a) (g b)) (hc : ∀ x, ∃ b < 192, x ∈ g b)
    (f : Buf (Elt F) ℓ) :
    (ℓ ↦{fullShare} f : sProp 𝕄)
      = bigSep Finset.univ fun c : Fin 2 => bigSep Finset.univ fun i : Fin 16 => bigSep (Finset.range 6) fun t => ℓ ↦[g (blk (at' c i) t)]{fullShare} f := by
  have h1 : ∀ (c : Fin 2) (i : Fin 16), (bigSep (Finset.range 6) fun t => ℓ ↦[g (blk (at' c i) t)]{fullShare} f : sProp 𝕄)
      = ℓ ↦[(Finset.range 6).biUnion fun t => g (blk (at' c i) t)]{fullShare} f := fun c i =>
    (pointsTo_biUnion (Finset.range 6) _ fun t _ t' _ h => hd _ _ (by rw [blk_at, blk_at]; omega)).symm
  have h2 : ∀ c : Fin 2, (bigSep Finset.univ fun i : Fin 16 => ℓ ↦[(Finset.range 6).biUnion fun t => g (blk (at' c i) t)]{fullShare} f : sProp 𝕄)
      = ℓ ↦[Finset.univ.biUnion fun i : Fin 16 => (Finset.range 6).biUnion fun t => g (blk (at' c i) t)]{fullShare} f := fun c =>
    (pointsTo_biUnion Finset.univ _ fun i _ i' _ h => by
      have hi : i.val ≠ i'.val := fun e => h (Fin.ext e)
      simp only [Finset.disjoint_biUnion_left, Finset.disjoint_biUnion_right, Finset.mem_range]
      exact fun t ht t' ht' => hd _ _ (by rw [blk_at, blk_at]; omega)).symm
  have h3 : (bigSep Finset.univ fun c : Fin 2 => ℓ ↦[Finset.univ.biUnion fun i : Fin 16 => (Finset.range 6).biUnion fun t => g (blk (at' c i) t)]{fullShare} f : sProp 𝕄)
      = ℓ ↦[Finset.univ.biUnion fun c : Fin 2 => Finset.univ.biUnion fun i : Fin 16 => (Finset.range 6).biUnion fun t => g (blk (at' c i) t)]{fullShare} f :=
    (pointsTo_biUnion Finset.univ _ fun c _ c' _ h => by
      have hn : c.val ≠ c'.val := fun e => h (Fin.ext e)
      simp only [Finset.disjoint_biUnion_left, Finset.disjoint_biUnion_right, Finset.mem_range, Finset.mem_univ, forall_true_left]
      exact fun i t ht i' t' ht' => hd _ _ (by rw [blk_at, blk_at]; omega)).symm
  have hu : (Finset.univ.biUnion fun c : Fin 2 => Finset.univ.biUnion fun i : Fin 16 => (Finset.range 6).biUnion fun t => g (blk (at' c i) t)) = Finset.univ := by
    ext x
    simp only [Finset.mem_biUnion, Finset.mem_univ, true_and, Finset.mem_range, iff_true]
    obtain ⟨b, hb, hx⟩ := hc x
    refine ⟨⟨b / 96, by omega⟩, ⟨b / 6 % 16, by omega⟩, b % 6, by omega, ?_⟩
    have e : blk (at' ⟨b / 96, by omega⟩ ⟨b / 6 % 16, by omega⟩) (b % 6) = b := by
      rw [blk_at]
      show 6 * (b / 6 % 16 + 16 * (b / 96)) + b % 6 = b
      omega
    rw [e]; exact hx
  rw [bigSep_congr fun c _ => (bigSep_congr fun i _ => h1 c i).trans (h2 c), h3, hu]

/-- The share of the table subcore `i` of SparseCore `c` reads. -/
abbrev tq (c : Fin 2) (i : Fin 16) : PosShare TreeShare := ShareLeaves.leaf 4 (ShareLeaves.leaf 1 fullShare c) i

theorem tab_dealt {ℓ : Loc nD τ sig} (f : Buf (Elt F) ℓ) :
    (ℓ ↦{fullShare} f : sProp 𝕄) = bigSep Finset.univ fun c : Fin 2 => bigSep Finset.univ fun i : Fin 16 => ℓ ↦{tq c i} f :=
  (ShareLeaves.pointsTo_leaves Finset.univ f 1 fullShare).trans
    (bigSep_congr fun c _ => ShareLeaves.pointsTo_leaves Finset.univ f 4 (ShareLeaves.leaf 1 fullShare c))

abbrev tLoc (d : Dev nD) : Loc nD τ sig := (SparseCore.T d).loc main_v1
abbrev iLoc (d : Dev nD) : Loc nD τ sig := (SparseCore.T d).loc main_v11
abbrev oLoc (d : Dev nD) : Loc nD τ sig := (SparseCore.T d).loc main_v12

variable (tab : Dev nD → S192000x128.Idx → Elt F .f32) (ids : Dev nD → S1x24576.Idx → Elt F .i32) (out0 : Dev nD → S24576x128.Idx → Elt F .f32)

/-- What a subcore is dealt: its blocks of the indices and of the output, its share of the table. -/
def goP (d : Dev nD) (c : Fin 2) (i : Fin 16) : sProp 𝕄 :=
  iprop(idsBut d (at' c i) (ids d) (Finset.range 6) ∗ outTodo d (at' c i) (out0 d) 0 ∗ tabP d (at' c i) (tq c i) (tab d))
/-- What it gives back. -/
def tdP (d : Dev nD) (c : Fin 2) (i : Fin 16) : sProp 𝕄 :=
  iprop(idsBut d (at' c i) (ids d) (Finset.range 6) ∗ outDone d (at' c i) (tab d) (ids d) 6 ∗ tabP d (at' c i) (tq c i) (tab d))

theorem ids_dealt (d : Dev nD) (f : S1x24576.Idx → Elt F .i32) :
    (iLoc d ↦{fullShare} f : sProp 𝕄)
      = bigSep Finset.univ fun c : Fin 2 => bigSep Finset.univ fun i : Fin 16 => idsBut d (at' c i) f (Finset.range 6) :=
  dealt (ℓ := iLoc d) idsSet
    (fun a b h => Finset.disjoint_left.mpr fun x hx hx' => h ((mem_idsSet.mp hx).symm.trans (mem_idsSet.mp hx')))
    (fun x => ⟨(x 1).val / 128, by have : (x 1).val < 24576 := (x 1).isLt; omega, mem_idsSet.mpr rfl⟩) f

theorem out_dealt (d : Dev nD) (f : S24576x128.Idx → Elt F .f32) :
    (oLoc d ↦{fullShare} f : sProp 𝕄)
      = bigSep Finset.univ fun c : Fin 2 => bigSep Finset.univ fun i : Fin 16 => bigSep (Finset.range 6) fun t => outP d (at' c i) (blk (at' c i) t) f :=
  dealt (ℓ := oLoc d) outSet
    (fun a b h => Finset.disjoint_left.mpr fun x hx hx' => h ((mem_outSet.mp hx).symm.trans (mem_outSet.mp hx')))
    (fun x => ⟨(x 0).val / 128, by have : (x 0).val < 24576 := (x 0).isLt; omega, mem_outSet.mpr rfl⟩) f

/-- All that is dealt is the three arrays whole. -/
theorem go_all (d : Dev nD) :
    (bigSep Finset.univ fun c : Fin 2 => bigSep Finset.univ fun i : Fin 16 => goP tab ids out0 d c i : sProp 𝕄)
      = iprop((iLoc d ↦{fullShare} ids d) ∗ (oLoc d ↦{fullShare} out0 d) ∗ (tLoc d ↦{fullShare} tab d)) := by
  rw [ids_dealt, out_dealt, tab_dealt]
  unfold goP
  simp only [bigSep_sep']
  unfold outTodo
  rw [Finset.range_eq_Ico]

theorem td_all (d : Dev nD) :
    (bigSep Finset.univ fun c : Fin 2 => bigSep Finset.univ fun i : Fin 16 => tdP tab ids d c i : sProp 𝕄)
      = iprop((iLoc d ↦{fullShare} ids d) ∗ (oLoc d ↦{fullShare} outVal (tab d) (ids d)) ∗ (tLoc d ↦{fullShare} tab d)) := by
  rw [ids_dealt, out_dealt, tab_dealt]
  unfold tdP
  simp only [bigSep_sep']

end Cert.Proof.Embed
-- ==== Proof.Launch.lean ====
/-
  The call as the launch sees it: what its messages carry, each subcore's task from what it is dealt to what it gives
  back (the run of the body, `whole_run`, with the subcore's own two buffers and five counters taken from and returned to
  its scratch), and the split of a SparseCore's share over its sixteen subcores.
-/
module

public import proofs.«01_k».proof.Proof.Deal

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : Dev nD → S192000x128.Idx → Elt F .f32) (ids : Dev nD → S1x24576.Idx → Elt F .i32) (out0 : Dev nD → S24576x128.Idx → Elt F .f32)

/-! ## What the call's messages carry -/

theorem nCore_eq : (K (F := F)).nCore 0 = 2 := rfl
theorem nSub_eq : (K (F := F)).nSub 0 = 16 := rfl

/-- A SparseCore is sent, and sends back, what its sixteen subcores are dealt and give back. -/
def P : (K (F := F)).Pay (nD := nD) (Val := Elt F) (Name := ℕ) (U := UU) where
  st := fun q d c => match q with | 0 => bigSep Finset.univ fun i : Fin 16 => goP tab ids out0 d (Fin.cast nCore_eq c) i
  dn := fun q d c => match q with | 0 => bigSep Finset.univ fun i : Fin 16 => tdP tab ids d (Fin.cast nCore_eq c) i
  go := fun q d c i => match q with | 0 => goP tab ids out0 d (Fin.cast nCore_eq c) (Fin.cast nSub_eq i)
  td := fun q d c i => match q with | 0 => tdP tab ids d (Fin.cast nCore_eq c) (Fin.cast nSub_eq i)
  x := fun _ _ => iprop(emp)

theorem bigSep_cast {n k : ℕ} (h : n = k) (Φ : Fin k → sProp 𝕄) :
    (bigSep Finset.univ fun c : Fin n => Φ (Fin.cast h c) : sProp 𝕄) = bigSep Finset.univ Φ := by
  subst h; rfl

/-- The two SparseCores' messages at the start are the three arrays. -/
theorem st_all (d : Dev nD) : (bigSep Finset.univ fun c : Fin ((K (F := F)).nCore 0) => (P tab ids out0).st 0 d c)
    = (iprop((iLoc d ↦{fullShare} ids d) ∗ (oLoc d ↦{fullShare} out0 d) ∗ (tLoc d ↦{fullShare} tab d)) : sProp 𝕄) := by
  rw [← go_all tab ids out0 d]
  show (bigSep Finset.univ fun c : Fin ((K (F := F)).nCore 0) => bigSep Finset.univ fun i : Fin 16 => goP tab ids out0 d (Fin.cast nCore_eq c) i : sProp 𝕄) = _
  exact bigSep_cast nCore_eq fun c => bigSep Finset.univ fun i : Fin 16 => goP tab ids out0 d c i

/-- And at the end, the output holding the gathered rows. -/
theorem dn_all (d : Dev nD) : (bigSep Finset.univ fun c : Fin ((K (F := F)).nCore 0) => (P tab ids out0).dn 0 d c)
    = (iprop((iLoc d ↦{fullShare} ids d) ∗ (oLoc d ↦{fullShare} outVal (tab d) (ids d)) ∗ (tLoc d ↦{fullShare} tab d)) : sProp 𝕄) := by
  rw [← td_all tab ids d]
  show (bigSep Finset.univ fun c : Fin ((K (F := F)).nCore 0) => bigSep Finset.univ fun i : Fin 16 => tdP tab ids d (Fin.cast nCore_eq c) i : sProp 𝕄) = _
  exact bigSep_cast nCore_eq fun c => bigSep Finset.univ fun i : Fin 16 => tdP tab ids d c i

instance goP_storable (d : Dev nD) (c : Fin 2) (i : Fin 16) : BI.Storable (upEmb : UEmb _ 𝕄) (goP tab ids out0 d c i) := by
  unfold goP idsBut outTodo; infer_instance
instance tdP_storable (d : Dev nD) (c : Fin 2) (i : Fin 16) : BI.Storable (upEmb : UEmb _ 𝕄) (tdP tab ids d c i) := by
  unfold tdP idsBut outDone; infer_instance

instance : (P tab ids out0).IsStorable where
  st q d c := match q with
    | 0 => (inferInstance : BI.Storable (upEmb : UEmb _ 𝕄) (bigSep Finset.univ fun i : Fin 16 => goP tab ids out0 d (Fin.cast nCore_eq c) i))
  dn q d c := match q with
    | 0 => (inferInstance : BI.Storable (upEmb : UEmb _ 𝕄) (bigSep Finset.univ fun i : Fin 16 => tdP tab ids d (Fin.cast nCore_eq c) i))
  go q d c i := match q with | 0 => goP_storable tab ids out0 d (Fin.cast nCore_eq c) (Fin.cast nSub_eq i)
  td q d c i := match q with | 0 => tdP_storable tab ids d (Fin.cast nCore_eq c) (Fin.cast nSub_eq i)

/-! ## A subcore's own buffers and counters -/

section Tile

variable (d : Dev nD) (L : grid0.Coords)

/-- A cell of the subcore, as the launch counts cells. -/
abbrev cellOf (s : DmaSem sig) : GSem nD τ sig := (me d L, SemLoc.dma s)

theorem cellOf_ne {a b : DmaSem sig} (h : (SemLoc.dma a : SemLoc sig) ≠ SemLoc.dma b) : cellOf d L a ≠ cellOf d L b :=
  fun e => h (congrArg Prod.snd e)

theorem cell_own {a : DmaSem sig} (h : (SemLoc.dma a : SemLoc sig).isScoped .scVector = true) : cellOf d L a ∈ ownCells (me d L) :=
  (mem_ownCells (g := cellOf d L a)).mpr ⟨rfl, h⟩

/-- The other counters of the subcore. -/
def otherSems : sProp 𝕄 :=
  bigSep ((((((ownCells (me d L)).erase (cellOf d L (inCell 0))).erase (cellOf d L (inCell 1))).erase (cellOf d L (outCell 0))).erase (cellOf d L (outCell 1))).erase
    (cellOf d L gatherCell)) fun g => semVal g 0

theorem ownSems_eq : (ownSems0 (me d L) : sProp 𝕄)
    = iprop(zeroP d L (inCell 0) ∗ zeroP d L (inCell 1) ∗ zeroP d L (outCell 0) ∗ zeroP d L (outCell 1) ∗ zeroP d L gatherCell ∗ otherSems (F := F) d L) := by
  unfold SparseCore.Cfg.ownSems0 otherSems
  have own : ∀ a : DmaSem sig, a ∈ [inCell 0, inCell 1, outCell 0, outCell 1, gatherCell] → cellOf d L a ∈ ownCells (me d L) := fun a ha =>
    cell_own d L ((show ∀ a ∈ [inCell 0, inCell 1, outCell 0, outCell 1, gatherCell], (SemLoc.dma a : SemLoc sig).isScoped .scVector = true by decide) a ha)
  rw [SparseCore.bigSep_erase' (own (inCell 0) (by decide)),
    SparseCore.bigSep_erase' (Finset.mem_erase.mpr ⟨cellOf_ne d L (by decide), own (inCell 1) (by decide)⟩),
    SparseCore.bigSep_erase' (Finset.mem_erase.mpr ⟨cellOf_ne d L (by decide), Finset.mem_erase.mpr ⟨cellOf_ne d L (by decide), own (outCell 0) (by decide)⟩⟩),
    SparseCore.bigSep_erase' (Finset.mem_erase.mpr ⟨cellOf_ne d L (by decide), Finset.mem_erase.mpr ⟨cellOf_ne d L (by decide),
      Finset.mem_erase.mpr ⟨cellOf_ne d L (by decide), own (outCell 1) (by decide)⟩⟩⟩),
    SparseCore.bigSep_erase' (Finset.mem_erase.mpr ⟨cellOf_ne d L (by decide), Finset.mem_erase.mpr ⟨cellOf_ne d L (by decide),
      Finset.mem_erase.mpr ⟨cellOf_ne d L (by decide), Finset.mem_erase.mpr ⟨cellOf_ne d L (by decide), own gatherCell (by decide)⟩⟩⟩⟩)]

/-- The other buffers of the subcore. -/
def otherBufs : sProp 𝕄 :=
  bigSep (((ownRefs (τ := τ) (.scVector (cV L) (jV L))).erase ((Proc.scVector (cV L) (jV L)).devRef cc0_scoped0)).erase
    ((Proc.scVector (cV L) (jV L)).devRef cc0_scoped2)) fun b => iprop(∃ f, ((d, b) : Loc nD τ sig) ↦{fullShare} f)

theorem ownBufs_eq : (ownBufs (me d L) : sProp 𝕄)
    = iprop((∃ f, (me d L).loc cc0_scoped0 ↦{fullShare} f) ∗ (∃ f, (me d L).loc cc0_scoped2 ↦{fullShare} f) ∗ otherBufs (F := F) d L) := by
  unfold SparseCore.Cfg.ownBufs otherBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- A buffer of two slots is its slots. -/
theorem two_slots {ℓ : Loc nD τ sig} (g : ℕ → Finset (Idx ℓ)) (hd : Disjoint (g 0) (g 1)) (hc : ∀ x, x ∈ g 0 ∨ x ∈ g 1) :
    (iprop(∃ f, ℓ ↦{fullShare} f) : sProp 𝕄) = iprop((∃ f, ℓ ↦[g 0]{fullShare} f) ∗ ∃ f, ℓ ↦[g 1]{fullShare} f) := by
  have hu : (Finset.univ : Finset (Idx ℓ)) = (Finset.range 2).biUnion g := by
    ext x
    simp only [Finset.mem_univ, Finset.mem_biUnion, Finset.mem_range, true_iff]
    exact (hc x).elim (fun h => ⟨0, by decide, h⟩) (fun h => ⟨1, by decide, h⟩)
  have hdis : ∀ t ∈ Finset.range 2, ∀ t' ∈ Finset.range 2, t ≠ t' → Disjoint (g t) (g t') := by
    intro t ht t' ht' h
    obtain ⟨rfl, rfl⟩ | ⟨rfl, rfl⟩ : t = 0 ∧ t' = 1 ∨ t = 1 ∧ t' = 0 := by
      have := Finset.mem_range.mp ht; have := Finset.mem_range.mp ht'; omega
    · exact hd
    · exact hd.symm
  have two : ∀ Φ : ℕ → sProp 𝕄, (bigSep (Finset.range 2) Φ : sProp 𝕄) = iprop(Φ 0 ∗ Φ 1) := fun Φ => by
    rw [show Finset.range 2 = {0, 1} by decide, SparseCore.bigSep_insert' (by decide), bigSep_singleton]
  have split : iprop(∃ f, ℓ ↦{fullShare} f) ⊢ (iprop((∃ f, ℓ ↦[g 0]{fullShare} f) ∗ ∃ f, ℓ ↦[g 1]{fullShare} f) : sProp 𝕄) := by
    iintro ⟨%f, H⟩
    ihave H := (Entails.of_eq (show (ℓ ↦{fullShare} f : sProp 𝕄) = iprop((ℓ ↦[g 0]{fullShare} f) ∗ ℓ ↦[g 1]{fullShare} f) by
      rw [hu, pointsTo_biUnion _ _ hdis, two])) $$ H
    icases H with ⟨H0, H1⟩
    isplitl [H0]
    · iexists f; iexact H0
    · iexists f; iexact H1
  have join : iprop((∃ f, ℓ ↦[g 0]{fullShare} f) ∗ ∃ f, ℓ ↦[g 1]{fullShare} f) ⊢ (iprop(∃ f, ℓ ↦{fullShare} f) : sProp 𝕄) := by
    iintro ⟨⟨%f, H0⟩, %f', H1⟩
    ihave H := (pointsTo_biUnion_join (Val := Elt F) (q := fullShare) (Finset.range 2) g (fun n => if n = 0 then f else f') f hdis) $$ [H0 H1]
    · rw [two]
      isplitl [H0]
      · iexact H0
      · iexact H1
    icases H with ⟨%h, -, H⟩
    iexists h
    rw [hu]
    iexact H
  exact Entails.antisymm split join

theorem slots_eq : (iprop(∃ f, (me d L).loc cc0_scoped0 ↦{fullShare} f) : sProp 𝕄) = iprop((∃ f, slotP d L 0 f) ∗ ∃ f, slotP d L 1 f) :=
  two_slots (ℓ := (me d L).loc cc0_scoped0) slotSet
    (Finset.disjoint_left.mpr fun x h h' => absurd ((mem_slotSet.mp h).symm.trans (mem_slotSet.mp h')) (by decide))
    (fun x => by
      have : (x 0).val < 2 := (x 0).isLt
      rcases (show (x 0).val = 0 ∨ (x 0).val = 1 by omega) with h | h
      · exact .inl (mem_slotSet.mpr h)
      · exact .inr (mem_slotSet.mpr h))

theorem rows_eq : (iprop(∃ f, (me d L).loc cc0_scoped2 ↦{fullShare} f) : sProp 𝕄) = iprop((∃ f, rowP d L 0 f) ∗ ∃ f, rowP d L 1 f) :=
  two_slots (ℓ := (me d L).loc cc0_scoped2) rowSet
    (Finset.disjoint_left.mpr fun x h h' => absurd ((mem_rowSet.mp h).symm.trans (mem_rowSet.mp h')) (by decide))
    (fun x => by
      have : (x 0).val < 2 := (x 0).isLt
      rcases (show (x 0).val = 0 ∨ (x 0).val = 1 by omega) with h | h
      · exact .inl (mem_rowSet.mpr h)
      · exact .inr (mem_rowSet.mpr h))

end Tile

/-! ## One subcore's task -/

section Task

variable [FloatOps F]

theorem tile_body (hin : ∀ d, InTable (ids d)) (d : Dev nD) (c : Fin 2) (i : Fin 16) (O : CellTallies nD τ sig (HIx 1)) (W : Waits sig (HIx 1)) (hO : ∀ g, O g none = 0) :
    iprop(levAts (K (F := F)).L (K (F := F)).lev ∗ emp ∗ goP tab ids out0 d c i
        ∗ scopedBufs (me d (at' c i)) ∗ scopedSems0 (me d (at' c i)) ∗ owes (me d (at' c i)) O W)
      ⊢ wp frame (wpE (defs₀ (F := F)) 𝒱₀ (me d (at' c i)) none) Set.univ
          (cc0_k (at' c i) tabM (Memref.isWhole_whole _) idsM (Memref.isWhole_whole _) outM (Memref.isWhole_whole _) slotM (Memref.isWhole_whole _) cc0_scoped1
            rowM (Memref.isWhole_whole _) cc0_scoped3 cc0_scoped4)
          fun _ => iprop(tdP tab ids d c i ∗ scopedBufs (me d (at' c i)) ∗ scopedSems0 (me d (at' c i))
            ∗ ∃ W', ⌜∀ p ∈ W', p ∈ W ∨ p.2 = none⌝ ∗ owes (me d (at' c i)) O W') := by
  rw [(K (F := F)).scopedBufs_V facts d (cV (at' c i)) (jV (at' c i)), SparseCore.Cfg.scopedSems0_V (Val := Elt F) d (cV (at' c i)) (jV (at' c i)),
    ownSems_eq, ownBufs_eq, slots_eq, rows_eq]
  unfold goP tdP
  iintro ⟨#Hlv, -, ⟨Hi, Ho, Ht⟩, ⟨⟨Hs0, Hs1⟩, ⟨Hr0, Hr1⟩, Hbufs⟩, ⟨Hi0, Hi1, Ho0, Ho1, Hg, Hsems⟩, HO⟩
  iapply (whole_run d (at' c i) (tab := tab d) (ids := ids d) (out0 := out0 d) (q := tq c i) (W := W) (hin d) hO) $$ [Hi Ho Ht Hs0 Hs1 Hr0 Hr1 Hi0 Hi1 Ho0 Ho1 Hg HO]
  · isplitr; · iexact Hlv
    unfold freeSlot freeRow Owing
    isplitl [Hs0 Hs1 Hi0 Hi1]
    · isplitl [Hs0 Hi0]
      · isplitl [Hs0]; · iexact Hs0
        iexact Hi0
      · isplitl [Hs1]; · iexact Hs1
        iexact Hi1
    isplitl [Hr0 Hr1 Ho0 Ho1]
    · isplitl [Hr0 Ho0]
      · isplitl [Hr0]; · iexact Hr0
        iexact Ho0
      · isplitl [Hr1]; · iexact Hr1
        iexact Ho1
    isplitl [Hi]; · iexact Hi
    isplitl [Ho]; · iexact Ho
    isplitl [Ht]; · iexact Ht
    isplitl [Hg]; · iexact Hg
    iexists W
    isplitr
    · ipureintro; exact fun p hp => .inl hp
    iexact HO
  unfold freeSlot freeRow Owing
  iintro ⟨⟨⟨Hs0, Hi0⟩, Hs1, Hi1⟩, ⟨⟨Hr0, Ho0⟩, Hr1, Ho1⟩, Hi, Ho, Ht, Hg, HO⟩
  isplitl [Hi Ho Ht]
  · isplitl [Hi]; · iexact Hi
    isplitl [Ho]; · iexact Ho
    iexact Ht
  isplitl [Hs0 Hs1 Hr0 Hr1 Hbufs]
  · isplitl [Hs0 Hs1]
    · isplitl [Hs0]; · iexact Hs0
      iexact Hs1
    isplitl [Hr0 Hr1]
    · isplitl [Hr0]; · iexact Hr0
      iexact Hr1
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg]; · iexact Hg
    iexact Hsems
  iexact HO

theorem defs₀_vector (c : Fin τ.nSC) (s : Fin τ.nSub) :
    defs₀ (F := F) (.scVector c s) 0 ()
      = SparseCore.onTile hcore0 hsub0 (fun c s => cc0_k (coords c s) tabM (Memref.isWhole_whole _) idsM (Memref.isWhole_whole _) outM (Memref.isWhole_whole _)
          slotM (Memref.isWhole_whole _) cc0_scoped1 rowM (Memref.isWhole_whole _) cc0_scoped3 cc0_scoped4) ⟨⟩ c s := rfl

theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono .rfl (sep_mono .rfl (sep_mono .rfl ?_))
  iintro ⟨%W', %h, H⟩
  iexists W'
  isplitr
  · ipureintro; exact fun p hp => (h p hp).imp_right Or.inl
  iexact H

set_option maxRecDepth 16384 in
theorem tileObl (hin : ∀ d, InTable (ids d)) : (K (F := F)).TileObl (D (F := F)) 𝒱 (P tab ids out0) v₀ 0 := by
  intro d c i O W hO _ _
  simp only [show (P tab ids out0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body tab ids out0 hin d ⟨_, hci.1⟩ ⟨_, hci.2⟩ O W hO).trans (wp_mono frame _ _ fun _ => waits_weaken)

theorem vecSplit : (K (F := F)).VecSplit' (P tab ids out0) 0 := by
  intro d c
  show (bigSep Finset.univ fun i : Fin 16 => goP tab ids out0 d (Fin.cast nCore_eq c) i) ⊢ |={Set.univ}=> iprop(
      (bigSep Finset.univ fun i : Fin 16 => goP tab ids out0 d (Fin.cast nCore_eq c) i)
      ∗ ((bigSep Finset.univ fun i : Fin 16 => tdP tab ids d (Fin.cast nCore_eq c) i) -∗ bigSep Finset.univ fun i : Fin 16 => tdP tab ids d (Fin.cast nCore_eq c) i))
  iintro H
  imodintro
  isplitl [H]; · iexact H
  iintro H
  iexact H

end Task

/-! ## The ghost state at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tab ids out0).x q thr) := by
  have none_x : (bigSep Finset.univ fun thr : Thread nD τ => bigSep Finset.univ fun q : Fin 1 => (P tab ids out0).x q thr) = (iprop(emp) : sProp 𝕄) := by
    rw [show (bigSep Finset.univ fun thr : Thread nD τ => bigSep Finset.univ fun q : Fin 1 => (P tab ids out0).x q thr)
        = bigSep Finset.univ fun _ : Thread nD τ => (iprop(emp) : sProp 𝕄) from bigSep_congr fun _ _ => bigSep_univ_of_subsingleton (0 : Fin 1)]
    exact bigSep_emp_const _
  rw [none_x, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

end Cert.Proof.Embed
-- ==== Proof.Run.lean ====
/-
  The whole program's run. The operations before the call make the table of 192000 rows of 128 and the list of 24576 row
  numbers; the call gathers; one reshape gives the result. Every weakly fair execution ends with the result at one term of
  the arguments (`resultOf`), the arguments as they were, and every counter at zero.
-/
module

public import proofs.«01_k».proof.Proof.Launch
public import Idealize.ShloMosaic.Lib.Pipeline.Frame

@[expose] public section

noncomputable section

namespace Cert.Proof.Embed

open Cert.KernelIdeal Cert.KernelIdeal.Gen

open Idealize.ShloMosaic Idealize.ShloMosaic.TcCoe Idealize.ShloMosaic.StableHlo
open Idealize.ShloMosaic.SparseCore.Cfg (HIx)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The operations around the call -/

/-- The operations before the call. -/
abbrev before : List (HloOp τ sig (Elt F)) :=
  [ reshape main_arg0 main_v0 (rfl : (.i32 : EltTy) = .i32) shapeCasts_S2x2048_S1x4096,
    reshape main_arg1 main_v1 (rfl : (.f32 : EltTy) = .f32) shapeCasts_S32000x768_S192000x128,
    reshape main_v0 main_v2 (rfl : (.i32 : EltTy) = .i32) shapeCasts_S1x4096_S4096,
    unary main_v2 main_v3 (broadcastInDim S4096x1 ![0] bcast_S4096_S4096x1_0 : (⟨S4096, .i32⟩ : BufTy).Contents (Elt F) → (⟨S4096x1, .i32⟩ : BufTy).Contents (Elt F)),
    nullary main_c (constantI S_ 32 6#32),
    unary main_c main_v4 (broadcastInDim S4096x1 ![] bcast_S_S4096x1 : (⟨S_, .i32⟩ : BufTy).Contents (Elt F) → (⟨S4096x1, .i32⟩ : BufTy).Contents (Elt F)),
    binary main_v3 main_v4 main_v5 (muli : (⟨S4096x1, .i32⟩ : BufTy).Contents (Elt F) → (⟨S4096x1, .i32⟩ : BufTy).Contents (Elt F) → (⟨S4096x1, .i32⟩ : BufTy).Contents (Elt F)),
    nullary main_v6 (iotaInDim S6 32 0),
    unary main_v6 main_v7 (broadcastInDim S1x6 ![1] bcast_S6_S1x6_1 : (⟨S6, .i32⟩ : BufTy).Contents (Elt F) → (⟨S1x6, .i32⟩ : BufTy).Contents (Elt F)),
    unary main_v5 main_v8 (broadcastInDim S4096x6 ![0, 1] bcast_S4096x1_S4096x6_0_1 : (⟨S4096x1, .i32⟩ : BufTy).Contents (Elt F) → (⟨S4096x6, .i32⟩ : BufTy).Contents (Elt F)),
    unary main_v7 main_v9 (broadcastInDim S4096x6 ![0, 1] bcast_S1x6_S4096x6_0_1 : (⟨S1x6, .i32⟩ : BufTy).Contents (Elt F) → (⟨S4096x6, .i32⟩ : BufTy).Contents (Elt F)),
    binary main_v8 main_v9 main_v10 (addi : (⟨S4096x6, .i32⟩ : BufTy).Contents (Elt F) → (⟨S4096x6, .i32⟩ : BufTy).Contents (Elt F) → (⟨S4096x6, .i32⟩ : BufTy).Contents (Elt F)),
    reshape main_v10 main_v11 (rfl : (.i32 : EltTy) = .i32) shapeCasts_S4096x6_S1x24576 ]

/-- The operation after it. -/
abbrev last : HloOp τ sig (Elt F) := reshape main_v12 main_v13 (rfl : (.f32 : EltTy) = .f32) shapeCasts_S24576x128_S4096x768

theorem main_eq (d : Dev nD) :
    main (F := F) d = (seq before >>= fun _ => (sc.run d 0 >>= fun _ => (hlo rfl last (fun _ => .ret PUnit.unit) >>= fun _ => pure PUnit.unit))) := rfl

theorem before_sub : (before : List (HloOp τ sig (Elt F))).Forall fun op => op.bufs ⊆ tcRefs τ sig :=
  ⟨reshape_bufs_sub .., reshape_bufs_sub .., reshape_bufs_sub .., unary_bufs_sub .., nullary_bufs_sub .., unary_bufs_sub .., binary_bufs_sub ..,
    nullary_bufs_sub .., unary_bufs_sub .., unary_bufs_sub .., unary_bufs_sub .., binary_bufs_sub .., reshape_bufs_sub ..⟩

theorem before_fresh : ∀ op ∈ (before : List (HloOp τ sig (Elt F))), op.fresh = ∅ := by
  intro _ h
  (repeat (cases h with | head => rfl | tail _ h => ?_))
  exact nomatch h

/-! ## What they compute -/

/-- The table in rows of 128: six to a row of the embedding. -/
def tabOf (e : S32000x768.Idx → Elt F .f32) : S192000x128.Idx → Elt F .f32 := shapeCast _ e shapeCasts_S32000x768_S192000x128

/-- The row numbers: `6 * id + j` for each identifier and each `j < 6`. -/
def idsOf (x : S2x2048.Idx → Elt F .i32) : S1x24576.Idx → Elt F .i32 :=
  shapeCast _ (addi (broadcastInDim S4096x6 ![0, 1] bcast_S4096x1_S4096x6_0_1
      (muli (broadcastInDim S4096x1 ![0] bcast_S4096_S4096x1_0 (shapeCast _ (shapeCast _ x shapeCasts_S2x2048_S1x4096) shapeCasts_S1x4096_S4096))
        (broadcastInDim S4096x1 ![] bcast_S_S4096x1 (constantI S_ 32 6#32))))
    (broadcastInDim S4096x6 ![0, 1] bcast_S1x6_S4096x6_0_1 (broadcastInDim S1x6 ![1] bcast_S6_S1x6_1 (iotaInDim S6 32 0)))) shapeCasts_S4096x6_S1x24576

/-- The result. -/
def resultOf (x : S2x2048.Idx → Elt F .i32) (e : S32000x768.Idx → Elt F .f32) : S4096x768.Idx → Elt F .f32 :=
  shapeCast _ (outVal (tabOf e) (idsOf (F := F) x)) shapeCasts_S24576x128_S4096x768

variable (m : (ℓ : Loc nD τ sig) → Buf (Elt F) ℓ) (ρ : Dev nD → PrngReg)

/-- The buffers when the call starts. -/
def V₁ (d : Dev nD) : Valuation τ sig (Elt F) := after before (launchContents m d)

abbrev xOf (d : Dev nD) : S2x2048.Idx → Elt F .i32 := m ((d.tc : Thread nD τ).loc main_arg0)
abbrev eOf (d : Dev nD) : S32000x768.Idx → Elt F .f32 := m ((d.tc : Thread nD τ).loc main_arg1)
abbrev tab₁ (d : Dev nD) : S192000x128.Idx → Elt F .f32 := V₁ m d main_v1
abbrev ids₁ (d : Dev nD) : S1x24576.Idx → Elt F .i32 := V₁ m d main_v11
abbrev out₁ (d : Dev nD) : S24576x128.Idx → Elt F .f32 := V₁ m d main_v12

/-- The buffers when it has ended. -/
def V₂ (d : Dev nD) : Valuation τ sig (Elt F) :=
  Function.update (V₁ m d) (Proc.devRef .tc main_v12 : DevRef τ sig) (outVal (tab₁ m d) (ids₁ m d))

/-- The buffers at the end. -/
def V₃ (d : Dev nD) : Valuation τ sig (Elt F) := (last (F := F)).result (V₂ m d)

theorem tab₁_eq (d : Dev nD) : tab₁ m d = tabOf (eOf m d) := by
  unfold tab₁ V₁ tabOf
  after_results <;> rfl
theorem ids₁_eq (d : Dev nD) : ids₁ m d = idsOf (F := F) (xOf m d) := by
  unfold ids₁ V₁ idsOf
  after_results <;> rfl

theorem V₃_arg0 (d : Dev nD) : V₃ m d main_arg0 = m ((d.tc : Thread nD τ).loc main_arg0) := by
  unfold V₃ V₂
  rw [reshape_result_ne (h := show main_arg0 ≠ main_v13 by decide), Function.update_of_ne (devRef_ne_of_ne (show main_arg0 ≠ main_v12 by decide))]
  unfold V₁
  after_results <;> rfl
theorem V₃_arg1 (d : Dev nD) : V₃ m d main_arg1 = m ((d.tc : Thread nD τ).loc main_arg1) := by
  unfold V₃ V₂
  rw [reshape_result_ne (h := show main_arg1 ≠ main_v13 by decide), Function.update_of_ne (devRef_ne_of_ne (show main_arg1 ≠ main_v12 by decide))]
  unfold V₁
  after_results <;> rfl
theorem V₃_result (d : Dev nD) : V₃ m d main_v13 = resultOf (xOf m d) (eOf m d) := by
  unfold V₃ resultOf
  rw [reshape_result']
  unfold V₂
  rw [Function.update_self, tab₁_eq, ids₁_eq]
  rfl

/-! ## The run of @main -/

abbrev tRef : DevRef τ sig := Proc.devRef .tc main_v1
abbrev iRef : DevRef τ sig := Proc.devRef .tc main_v11
abbrev oRef : DevRef τ sig := Proc.devRef .tc main_v12

/-- The three arrays the call is given. -/
def given : Finset (DevRef τ sig) := {iRef, oRef, tRef}

theorem given_sub : given ⊆ ucRefs τ sig := by
  unfold given
  intro b hb
  simp only [Finset.mem_insert, Finset.mem_singleton] at hb
  rcases hb with rfl | rfl | rfl <;> exact Finset.mem_filter.mpr ⟨devRef_mem_tcRefs _, by decide⟩

theorem held_given (d : Dev nD) (W : Valuation τ sig (Elt F)) :
    (held (d.tc : Thread nD τ) given W : sProp 𝕄)
      = iprop((iLoc d ↦{fullShare} W iRef) ∗ (oLoc d ↦{fullShare} W oRef) ∗ (tLoc d ↦{fullShare} W tRef)) := by
  unfold held given
  rw [SparseCore.bigSep_insert' (by decide), SparseCore.bigSep_insert' (by decide), bigSep_singleton]

theorem held_rest (d : Dev nD) :
    (held (d.tc : Thread nD τ) (ucRefs τ sig \ given) (V₂ m d) : sProp 𝕄) = held (d.tc : Thread nD τ) (ucRefs τ sig \ given) (V₁ m d) :=
  held_congr _ fun b hb => Function.update_of_ne (fun e => (Finset.mem_sdiff.mp hb).2 (by rw [e]; decide)) _ _

/-- What a device holds at the end: every array, at `V₃`. -/
abbrev FIN (d : Dev nD) : sProp 𝕄 := held (d.tc : Thread nD τ) (ucRefs τ sig) (V₃ m d)

abbrev Pm := P (F := F) (tab₁ m) (ids₁ m) (out₁ m)

theorem st_eq (d : Dev nD) : (bigSep Finset.univ fun c : Fin ((K (F := F)).nCore 0) => (Pm m).st 0 d c)
    = (held (d.tc : Thread nD τ) given (V₁ m d) : sProp 𝕄) := (st_all (tab₁ m) (ids₁ m) (out₁ m) d).trans (held_given d (V₁ m d)).symm

theorem dn_eq (d : Dev nD) : (bigSep Finset.univ fun c : Fin ((K (F := F)).nCore 0) => (Pm m).dn 0 d c)
    = (held (d.tc : Thread nD τ) given (V₂ m d) : sProp 𝕄) := by
  refine (dn_all (tab₁ m) (ids₁ m) (out₁ m) d).trans ?_
  rw [held_given]
  unfold V₂
  rw [Function.update_self, Function.update_of_ne (show (iRef : DevRef τ sig) ≠ oRef by decide), Function.update_of_ne (show (tRef : DevRef τ sig) ≠ oRef by decide)]

set_option backward.isDefEq.respectTransparency.types false in
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (launchContents m d) from
    Pipeline.unscopedBufs_held d (launchContents m d), main_eq]
  iintro ⟨#Hctx, Hst, ⟨Hb, Hheld, Hts, -⟩, -⟩
  iapply (wp_seq 𝒱 none Set.univ d (ucRefs τ sig) _ before (fun op h => Pipeline.sub_ucRefs op (List.forall_iff_forall_mem.1 before_sub op h)) before_fresh
    (launchContents m d)) $$ [Hb Hheld]
  · isplitl [Hb]; · iexact Hb
    iexact Hheld
  rw [show after before (launchContents m d) = V₁ m d from rfl]
  iintro ⟨Hb, Hheld⟩
  ihave Hheld := (Entails.of_eq (held_sub_split (d.tc : Thread nD τ) given_sub (V₁ m d))) $$ Hheld
  icases Hheld with ⟨Hgiven, Hrest⟩
  rw [wp_bind]
  iapply ((K (F := F)).wp_run (D (F := F)) 𝒱 (EH := EH) (P := Pm m) κ d 0) $$ [Hst Hgiven Hrest Hb Hts]
  isplitr; · iexact Hctx
  isplitl [Hst]; · iexact Hst
  isplitl [Hgiven]
  · rw [st_eq]; iexact Hgiven
  iintro ⟨Hst, Hdn⟩
  rw [wp_bind]
  ihave Hdn := (Entails.of_eq (dn_eq m d)) $$ Hdn
  ihave Hrest := (Entails.of_eq (held_rest m d).symm) $$ Hrest
  iapply (wp_hlo_within 𝒱 (SparseCore.T d) none Set.univ (op := last) (S := ucRefs τ sig) (Pipeline.sub_ucRefs last (reshape_bufs_sub ..)) (V := V₂ m d)) $$ [Hb Hdn Hrest]
  · isplitl [Hb]; · iexact Hb
    iapply (Entails.of_eq (held_sub_split (d.tc : Thread nD τ) given_sub (V₂ m d)).symm)
    isplitl [Hdn]; · iexact Hdn
    iexact Hrest
  iintro ⟨Hb, Hheld⟩
  rw [wp_ret]
  imodintro
  rw [wp_pure]
  imodintro
  isplitl [Hst]; · iexact Hst
  isplitl [Hheld]; · iexact Hheld
  isplitl [Hb]; · iexact Hb
  iexact Hts

def fq (d : Dev nD) (s' : Phys nD τ sig (Elt F)) : Prop := ∀ b ∈ ucRefs τ sig, s'.mem.mem (d, b) = V₃ m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (qs := fun _ => fullShare) (ucRefs τ sig)) $$ [HSI H]
  isplitl [HSI]; · iexact HSI
  iexact H

/-- How the program ends. -/
def QC : PUnit × MemSt nD τ sig (Elt F) → Prop := fun r =>
  (∀ c : Dev nD, r.2.mem ((c.tc : Thread nD τ).loc main_v13) = resultOf (xOf m c) (eOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0

theorem run_main [∀ e, Nonempty (Elt F e)] (hin : ∀ d, InTable (idsOf (F := F) (xOf m d))) :
    θ_run (Cert.KernelIdeal.defs (F := F)) (Cert.KernelIdeal.threads (F := F)) ⟨m, fun _ => 0, ρ⟩ (QC m) := by
  have hin₁ : ∀ d, InTable (ids₁ m d) := fun d => by rw [ids₁_eq]; exact hin d
  refine SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tab₁ m) (ids₁ m) (out₁ m) hin₁)
    (fun q _ => match q with | 0 => SparseCore.Cfg.VecSplit.of_plain (vecSplit (tab₁ m) (ids₁ m) (out₁ m)))
    m ρ main (fun _ => iprop(emp)) (FIN m) (u₀ (F := F)) (sep_elim_left.trans (hu₀ (tab₁ m) (ids₁ m) (out₁ m))) (hmain m ρ) (fq m) (hfin m) (QC m) ?_
  intro s' h hz
  have at_end : ∀ (c : Dev nD) (b : Ref sig .tc), b.isScoped = false → s'.mem.mem ((c.tc : Thread nD τ).loc b) = V₃ m c b := fun c b hb =>
    h c _ (Finset.mem_filter.mpr ⟨devRef_mem_tcRefs b, by rw [Proc.isScoped_devRef, hb]; exact Bool.false_ne_true⟩)
  exact ⟨fun c => ⟨(at_end c main_v13 (by decide)).trans (V₃_result m c), (at_end c main_arg0 (by decide)).trans (V₃_arg0 m c),
    (at_end c main_arg1 (by decide)).trans (V₃_arg1 m c)⟩, hz⟩

end Cert.Proof.Embed
-- ==== Proof.Values.lean ====
/-
  What the call's result is, read at a place. Row `6 n + j` of the gathered array is row `6 id + j` of the table cut into
  rows of 128, `id` the `n`-th word of the input, so row `n` of the result is row `id` of the embedding table: the
  reference's lookup, once every word is in `[0, 32000)`.
-/
module

public import proofs.«01_k».proof.Proof.Run
public import proofs.«01_k».proof.Proof.Gen.ReferenceIdeal.Run
public import proofs.«01_k».proof.Pre_ids_in_range
public import Idealize.ShloMosaic.Lib.ReduceAll
public import Idealize.ShloMosaic.Lib.WordCmp

@[expose] public section

noncomputable section

namespace Cert.Proof.Embed

open Cert.KernelIdeal Cert.KernelIdeal.Gen
open Idealize.ShloMosaic Idealize.ShloMosaic.StableHlo

variable {F : FTy → Type} [FloatOps F]

/-! ## The words of the input -/

instance : Subsingleton Cert.Pre_ids_in_range.S_.Idx := ⟨fun _ _ => funext fun a => a.elim0⟩

/-- The precondition says of each word that it is the number of a row. -/
theorem word_lt [Cert.Pre_ids_in_range.Facts] (x : S2x2048.Idx → Elt F .i32) (e : S32000x768.Idx → Elt F .f32)
    (h : Cert.Pre_ids_in_range.fn (F := F) x e = fun _ => 1#1) (i : S2x2048.Idx) : (x i).toNat < 32000 := by
  have hi := Host.reduce_andi_all _ _ _ _ _ (congrFun h fun a => a.elim0) i
  replace hi : IntOp.andi (IntOp.cmpi .sge (x i) 0#32) (IntOp.cmpi .slt (x i) 32000#32) = 1#1 := hi
  simp only [IntOp.cmpi, WordCmp.andi_ofBool, WordCmp.ofBool_eq_one_iff, Bool.and_eq_true, BitVec.sle_eq_decide, BitVec.slt_eq_decide,
    decide_eq_true_eq, BitVec.toInt_eq_toNat_cond, BitVec.toNat_ofNat] at hi
  omega

/-- Row number `6 n + j` of the list is six times word `n`, plus `j`. -/
theorem idsOf_at (x : S2x2048.Idx → Elt F .i32) (n : Fin 4096) (j : Fin 6) :
    idsOf (F := F) x (ix2 0 ⟨6 * n.val + j.val, by omega⟩)
      = IntOp.addi (IntOp.muli (x (ix2 ⟨n.val / 2048, by omega⟩ ⟨n.val % 2048, by omega⟩)) 6#32) (BitVec.ofNat 32 j.val) := by
  pointwise [idsOf]

/-- That row number, as a natural. -/
theorem idsOf_toNat (x : S2x2048.Idx → Elt F .i32) (hx : ∀ i, (x i).toNat < 32000) (n : Fin 4096) (j : Fin 6) :
    (idsOf (F := F) x (ix2 0 ⟨6 * n.val + j.val, by omega⟩)).toNat
      = (x (ix2 ⟨n.val / 2048, by omega⟩ ⟨n.val % 2048, by omega⟩)).toNat * 6 + j.val := by
  have h := hx (ix2 ⟨n.val / 2048, by omega⟩ ⟨n.val % 2048, by omega⟩)
  rw [idsOf_at]
  simp only [IntOp.addi, IntOp.muli, BitVec.toNat_add, BitVec.toNat_mul, BitVec.toNat_ofNat]
  omega

/-- Every row number of the list is a row of the table. -/
theorem inTable (x : S2x2048.Idx → Elt F .i32) (hx : ∀ i, (x i).toNat < 32000) : InTable (idsOf (F := F) x) := fun i => by
  have h0 : (i 0).val < 1 := (i 0).isLt
  have h1 : (i 1).val < 24576 := (i 1).isLt
  have e : i = ix2 0 ⟨6 * ((i 1).val / 6) + (i 1).val % 6, by omega⟩ :=
    at_ext (show (i 0).val = 0 by omega) (show (i 1).val = 6 * ((i 1).val / 6) + (i 1).val % 6 by omega)
  rw [e, idsOf_toNat x hx ⟨(i 1).val / 6, by omega⟩ ⟨(i 1).val % 6, by omega⟩]
  have := hx (ix2 ⟨(i 1).val / 6 / 2048, by omega⟩ ⟨(i 1).val / 6 % 2048, by omega⟩)
  have h6 : (i 1).val % 6 < 6 := Nat.mod_lt _ (by decide)
  generalize (x _).toNat = w at this ⊢
  show w * 6 + (i 1).val % 6 < 192000
  omega

/-! ## The kernel's result at a place -/

/-- A reshaped array at a place is the array at the place of the same position. -/
theorem cast_at {s t : Shape} {α : Type} (v : s.Idx → α) (h : s.ShapeCasts t) (j : t.Idx) (k : s.Idx)
    (e : (s.rowMajor k).val = (t.rowMajor j).val) : shapeCast t v h j = v k :=
  congrArg v (Shape.reshapeEquiv_eq_of_rowMajor h e)

theorem resultOf_at (x : S2x2048.Idx → Elt F .i32) (e : S32000x768.Idx → Elt F .f32) (hx : ∀ i, (x i).toNat < 32000)
    (n : Fin 4096) (c : Fin 768) (w : ℕ) (hw : w < 32000)
    (ew : (x (ix2 ⟨n.val / 2048, by omega⟩ ⟨n.val % 2048, by omega⟩)).toNat = w) :
    resultOf x e (ix2 n c) = e (ix2 ⟨w, hw⟩ c) := by
  have hk : (idAt (idsOf (F := F) x) (6 * n.val + c.val / 128)).toNat = w * 6 + c.val / 128 := by
    rw [← idAt_eq (ids := idsOf (F := F) x) (n := 6 * n.val + c.val / 128)
        (ix2 0 (⟨6 * n.val + c.val / 128, by omega⟩ : Fin 24576)) rfl, idsOf_toNat (F := F) x hx n ⟨c.val / 128, by omega⟩, ew]
  unfold resultOf
  rw [cast_at _ _ (ix2 n c) (ix2 (⟨6 * n.val + c.val / 128, by omega⟩ : Fin 24576) (⟨c.val % 128, by omega⟩ : Fin 128)) (by
    rw [Shape.rowMajor_val_two, Shape.rowMajor_val_two]
    show (6 * n.val + c.val / 128) * 128 + c.val % 128 = n.val * 768 + c.val
    omega)]
  unfold outVal tabOf
  refine cast_at _ _ _ _ ?_
  rw [Shape.rowMajor_val_two, Shape.rowMajor_val_two]
  show w * 768 + c.val = (idAt (idsOf (F := F) x) (6 * n.val + c.val / 128)).toNat % 192000 * 128 + c.val % 128
  rw [hk]
  omega

/-! ## The reference's lookup -/

open Cert.ReferenceIdeal (gather_S32000x768_S2x2048x1_S2x2048x768_2_0_n_n_0_2_1768)

/-- The gather of rows, at a place: the row is the start word, clamped into the table. -/
theorem gather_at (e : S32000x768.Idx → Elt F .f32) (v : IVec Cert.ReferenceIdeal.S2x2048x1 32) (a : Fin 2) (b : Fin 2048) (c : Fin 768) :
    Host.gather gather_S32000x768_S2x2048x1_S2x2048x768_2_0_n_n_0_2_1768 e v (ix3 a b c)
      = e (ix2 ⟨min (v (ix3 a b 0)).toInt.toNat 31999, by omega⟩ c) := by
  unfold Host.gather
  refine congrArg e (at_ext ?_ ?_)
  · show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32000x768_S2x2048x1_S2x2048x768_2_0_n_n_0_2_1768.startIndexMap from List.mem_singleton.mpr rfl)]
    show min (v _).toInt.toNat 31999 = min (v _).toInt.toNat 31999
    congr 4
    funext k
    refine Fin.ext ?_
    match k with
    | 0 => rfl
    | 1 => rfl
    | 2 => rfl
  · show GatherDims.start _ _ _ 1 + GatherDims.batchCoord _ _ 1 + GatherDims.offCoord _ _ 1 = _
    have hlast : ∀ k : Fin 3, k ∈ gather_S32000x768_S2x2048x1_S2x2048x768_2_0_n_n_0_2_1768.offsetDims → (ix3 a b c k).val = c.val :=
      fun k hk => by rw [List.mem_singleton.mp hk]; rfl
    rw [GatherDims.batchCoord_eq_zero _ _ _ List.not_mem_nil]
    unfold GatherDims.start GatherDims.offCoord
    rw [dif_neg (show (1 : Fin 2) ∉ gather_S32000x768_S2x2048x1_S2x2048x768_2_0_n_n_0_2_1768.startIndexMap from fun h => by
        cases List.mem_singleton.mp h),
      dif_pos ((GatherDims.mem_sKept gather_S32000x768_S2x2048x1_S2x2048x768_2_0_n_n_0_2_1768 (1 : Fin 2)).mpr
        ⟨fun h => (by decide : (1 : Fin 2) ≠ 0) (List.mem_singleton.mp h), List.not_mem_nil⟩), Nat.add_zero, Nat.zero_add]
    exact hlast _ (List.getElem_mem _)

/-- The reference's result: for each word of the input, the table's row of that number. -/
def lookup (x : S2x2048.Idx → Elt F .i32) (e : S32000x768.Idx → Elt F .f32) : S4096x768.Idx → Elt F .f32 :=
  open Cert.ReferenceIdeal Cert.ReferenceIdeal.Facts₀ in
  shapeCast _ (Host.gather gather_S32000x768_S2x2048x1_S2x2048x768_2_0_n_n_0_2_1768 e
    (broadcastInDim Cert.ReferenceIdeal.S2x2048x1 ![0, 1] bcast_S2x2048_S2x2048x1_0_1
      (select (cmpi .slt x (broadcastInDim Cert.ReferenceIdeal.S2x2048 ![] bcast_S_S2x2048 (constantI Cert.ReferenceIdeal.S_ 32 0#32)))
        (addi x (broadcastInDim Cert.ReferenceIdeal.S2x2048 ![] bcast_S_S2x2048 (constantI Cert.ReferenceIdeal.S_ 32 32000#32))) x)))
    shapeCasts_S2x2048x768_S4096x768

theorem lookup_at (x : S2x2048.Idx → Elt F .i32) (e : S32000x768.Idx → Elt F .f32)
    (n : Fin 4096) (c : Fin 768) (w : ℕ) (hw : w < 32000)
    (ew : (x (ix2 ⟨n.val / 2048, by omega⟩ ⟨n.val % 2048, by omega⟩)).toNat = w) :
    lookup x e (ix2 n c) = e (ix2 ⟨w, hw⟩ c) := by
  unfold lookup
  rw [cast_at _ _ (ix2 n c) (ix3 (⟨n.val / 2048, by omega⟩ : Fin 2) (⟨n.val % 2048, by omega⟩ : Fin 2048) c) (by
    rw [Shape.rowMajor_val_three, Shape.rowMajor_val_two]
    show (n.val / 2048 * 2048 + n.val % 2048) * 768 + c.val = n.val * 768 + c.val
    omega), gather_at]
  refine congrArg e (at_ext ?_ rfl)
  pointwise
  generalize x _ = y at ew ⊢
  have hn : IntOp.cmpi .slt y 0#32 = 0#1 := by
    simp only [IntOp.cmpi, BitVec.slt_eq_decide, BitVec.toInt_eq_toNat_cond, BitVec.toNat_ofNat]
    rw [decide_eq_false (by omega)]
    rfl
  rw [hn]
  show min y.toInt.toNat 31999 = w
  rw [BitVec.toInt_eq_toNat_cond]
  omega

/-- THE VALUE: the gather's result is the reference's lookup. -/
theorem resultOf_eq (x : S2x2048.Idx → Elt F .i32) (e : S32000x768.Idx → Elt F .f32) (hx : ∀ i, (x i).toNat < 32000) :
    resultOf x e = lookup x e := by
  funext i
  rw [eq_ix2 i]
  have h0 : (i 0).val < 4096 := (i 0).isLt
  have hw := hx (ix2 ⟨(i 0).val / 2048, by omega⟩ ⟨(i 0).val % 2048, by omega⟩)
  exact (resultOf_at x e hx (i 0) (i 1) _ hw rfl).trans (lookup_at x e (i 0) (i 1) _ hw rfl).symm

end Cert.Proof.Embed

end
-- ==== Proof.Head.lean ====
/-
  The value of the language-model head: each block of 512 rows and 3200 columns of the result is the product of a block
  of rows of `h`, the memory row of its half of the rows added to each, with a block of columns of `w`; together the
  blocks are the product of the whole arrays.
-/
module

public import proofs.«01_k».proof.Proof.Gen.HeadIdeal.Value
public import proofs.«01_k».proof.Proof.Gen.HeadRefIdeal.Run
public import Idealize.ShloMosaic.Lib.Pipeline.ValueKit

@[expose] public section

set_option maxRecDepth 16384

noncomputable section

namespace Cert.Proof.Head

open Idealize.ShloMosaic Idealize.ShloMosaic.TcCoe Idealize.SL.Sem
open Idealize.ShloMosaic.Pipeline (Dat)

section Reference

open Cert.HeadRefIdeal Cert.HeadRefIdeal.Gen

/-- The reference's head of `h`, the memory rows `b` and the weights `w`. -/
abbrev head (h : FVec Ideal S4096x768 .f32) (b : FVec Ideal S2x768 .f32) (w : FVec Ideal S768x32000 .f32) :
    FVec Ideal S4096x32000 .f32 :=
  Host.dotGeneral dot_S4096x768_S768x32000_S4096x32000_1_0_0_1_n_n none
    (shapeCast _ (addf (shapeCast _ h shapeCasts_S4096x768_S2x2048x768)
      (broadcastInDim S2x2048x768 ![0, 1, 2] bcast_S2x1x768_S2x2048x768_0_1_2
        (broadcastInDim S2x1x768 ![0, 2] bcast_S2x768_S2x1x768_0_2 b)))
      shapeCasts_S2x2048x768_S4096x768) w

theorem head_apply (h : FVec Ideal S4096x768 .f32) (b : FVec Ideal S2x768 .f32) (w : FVec Ideal S768x32000 .f32)
    (i : S4096x32000.Idx) : head h b w i = ∑ k : Fin 768, (h (ix2 (i 0) k)
      + b (ix2 (⟨(i 0).val / 2048, by have : (i 0).val < 4096 := (i 0).isLt; omega⟩ : Fin 2) k)) * w (ix2 k (i 1)) := by
  pointwise [head]

end Reference

open Cert.HeadIdeal Cert.HeadIdeal.Gen

variable (m : (ℓ : Loc nD τ sig) → Buf (Elt Ideal) ℓ) (ρ : Dev nD → PrngReg)

/-- The body's product at an index of its block. -/
theorem pay_apply (x0 : Vec Ideal S512x768 .f32) (x1 : Vec Ideal S1x1x768 .f32) (x2 : Vec Ideal S768x3200 .f32) (j : S512x3200.Idx) :
    k0_pay1 x0 x1 x2 j = ∑ k : Fin 768, (x0 (ix2 (j 0) k) + x1 (ix3 (0 : Fin 1) (0 : Fin 1) k)) * x2 (ix2 k (j 1)) := by
  pointwise [k0_pay1]

/-- Where each point's blocks lie. -/
theorem idx : ∀ t : Fin cfg0.N, win0_0.index t = ![t.val % 8, 0] ∧ win0_1.index t = ![t.val % 8 / 4, 0, 0]
    ∧ win0_2.index t = ![0, t.val / 8] ∧ win0_3.index t = ![t.val % 8, t.val / 8] :=
  (by decide +kernel : ∀ t : Fin grid0.N, _)

/-- The memory rows as the region finds them. -/
theorem rows_at (c : Dev nD) (i : S2x1x768.Idx) : V m c main_v0 i = m ((c : Thread nD τ).loc main_arg1) (ix2 (i 0) (i 2)) := by
  have h : V m c main_v0 = shapeCast S2x1x768 (m ((c : Thread nD τ).loc main_arg1)) shapeCasts_S2x768_S2x1x768 := by
    show StableHlo.after hostOps0 _ _ = _
    unfold hostOps0
    after_results <;> rfl
  rw [h]
  pointwise []

/-- What point `t` stores at an index of its block is the reference's result where that index lies. -/
theorem point (c : Dev nD) (t : Fin cfg0.N) (y) : k0_pay1 (iblk m c 0 t) (iblk m c 1 t) (iblk m c 2 t) y
    = head (m ((c : Thread nD τ).loc main_arg0)) (m ((c : Thread nD τ).loc main_arg1)) (m ((c : Thread nD τ).loc main_arg2))
      (((cfg0.win 3).blk t).view.emb y) := by
  refine (pay_apply (iblk m c 0 t) (iblk m c 1 t) (iblk m c 2 t) y).trans (Eq.trans ?_ (head_apply _ _ _ _).symm)
  reads_congr
  · blk_ext [iblk, V_main_arg0, idx t]
  · blk_simp [iblk]
    refine (rows_at m c _).trans ?_
    blk_ext [idx t]
  · blk_ext [iblk, V_main_arg2, idx t]

/-- The result array after the run. -/
theorem final (c : Dev nD) : (dats m 0 c).arrAt 3 cfg0.N
    = head (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Proof.Head

end
-- ==== Proof.Qkv0.lean ====
/-
  The values of the embedding and its projections: each block of 512 rows of the tokens' embeddings, the positions'
  rows of its place in the sequence added, is the block of the sum of the whole arrays; and a block of that sum times
  the whole of a weight matrix is the block of the product, for the queries and the values as rows, for the keys as
  columns.
-/
module

public import proofs.«01_k».proof.Proof.Gen.Qkv0Ideal.Value
public import proofs.«01_k».proof.Proof.Gen.Qkv0RefIdeal.Run
public import Idealize.ShloMosaic.Lib.Pipeline.ValueKit

@[expose] public section

set_option maxRecDepth 16384

noncomputable section

namespace Cert.Proof.Qkv0

open Idealize.ShloMosaic Idealize.ShloMosaic.TcCoe Idealize.SL.Sem
open Idealize.ShloMosaic.Pipeline (Dat)

section Reference

open Cert.Qkv0RefIdeal Cert.Qkv0RefIdeal.Gen

/-- The reference's sum of the rows `x` and the positions' rows `p`. -/
abbrev sum (x p : FVec Ideal S4096x768 .f32) : FVec Ideal S4096x768 .f32 :=
  shapeCast S4096x768 (addf (shapeCast _ x shapeCasts_S4096x768_S2x2048x768)
    (broadcastInDim S2x2048x768 ![0, 1, 2] bcast_S1x2048x768_S2x2048x768_0_1_2
      (broadcastInDim S1x2048x768 ![1, 2] bcast_S2048x768_S1x2048x768_1_2
        (extractStridedSlice S2048x768 ![0, 0] p slices_S4096x768_S2048x768_0_0))))
    shapeCasts_S2x2048x768_S4096x768

/-- The reference's product of that sum and `w`. -/
abbrev rows (x p : FVec Ideal S4096x768 .f32) (w : FVec Ideal S768x768 .f32) : FVec Ideal S4096x768 .bf16 :=
  truncf .bf16 (Host.dotGeneral dot_S4096x768_S768x768_S4096x768_1_0_0_1_n_n none (sum x p) w) bitsLt_bf16_f32

/-- The same product, transposed. -/
abbrev cols (x p : FVec Ideal S4096x768 .f32) (w : FVec Ideal S768x768 .f32) : FVec Ideal S768x4096 .bf16 :=
  truncf .bf16 (transpose S768x4096 [1, 0] (Host.dotGeneral dot_S4096x768_S768x768_S4096x768_1_0_0_1_n_n none (sum x p) w)
    transposes_S4096x768_S768x4096_1_0) bitsLt_bf16_f32

theorem sum_apply (x p : FVec Ideal S4096x768 .f32) (i : S4096x768.Idx) :
    sum x p i = x (ix2 (i 0) (i 1)) + p (ix2 (⟨(i 0).val % 2048, by omega⟩ : Fin 4096) (i 1)) := by
  pointwise [sum]

theorem rows_apply (x p : FVec Ideal S4096x768 .f32) (w : FVec Ideal S768x768 .f32) (i : S4096x768.Idx) :
    rows x p w i = ∑ k : Fin 768, (x (ix2 (i 0) k) + p (ix2 (⟨(i 0).val % 2048, by omega⟩ : Fin 4096) k)) * w (ix2 k (i 1)) := by
  pointwise [rows, sum]

theorem cols_apply (x p : FVec Ideal S4096x768 .f32) (w : FVec Ideal S768x768 .f32) (i : S768x4096.Idx) :
    cols x p w i = ∑ k : Fin 768, (x (ix2 (i 1) k) + p (ix2 (⟨(i 1).val % 2048, by omega⟩ : Fin 4096) k)) * w (ix2 k (i 0)) := by
  pointwise [cols, sum]

end Reference

open Cert.Qkv0Ideal Cert.Qkv0Ideal.Gen

variable (m : (ℓ : Loc nD τ sig) → Buf (Elt Ideal) ℓ) (ρ : Dev nD → PrngReg)

/-! The body's sum and products at an index of their blocks. -/

theorem pay1_apply (x p : Vec Ideal S512x768 .f32) (j : S512x768.Idx) :
    k0_pay1 x p j = x (ix2 (j 0) (j 1)) + p (ix2 (j 0) (j 1)) := by
  pointwise [k0_pay1]

theorem pay3_apply (x p : Vec Ideal S512x768 .f32) (w : Vec Ideal S768x768 .f32) (j : S512x768.Idx) :
    k0_pay3 x p w j = ∑ k : Fin 768, (x (ix2 (j 0) k) + p (ix2 (j 0) k)) * w (ix2 k (j 1)) := by
  pointwise [k0_pay3, k0_pay2, k0_pay1]

theorem pay4_apply (x p : Vec Ideal S512x768 .f32) (w : Vec Ideal S768x768 .f32) (j : S768x512.Idx) :
    k0_pay4 x p w j = ∑ k : Fin 768, (x (ix2 (j 1) k) + p (ix2 (j 1) k)) * w (ix2 k (j 0)) := by
  pointwise [k0_pay4, k0_pay2, k0_pay1]

theorem pay5_apply (x p : Vec Ideal S512x768 .f32) (w : Vec Ideal S768x768 .f32) (j : S512x768.Idx) :
    k0_pay5 x p w j = ∑ k : Fin 768, (x (ix2 (j 0) k) + p (ix2 (j 0) k)) * w (ix2 k (j 1)) := by
  pointwise [k0_pay5, k0_pay2, k0_pay1]

/-- Where each point's blocks lie. -/
theorem idx : ∀ t : Fin cfg0.N, win0_0.index t = ![t.val, 0] ∧ win0_1.index t = ![t.val % 4, 0] ∧ win0_2.index t = ![0, 0]
    ∧ win0_3.index t = ![0, 0] ∧ win0_4.index t = ![0, 0] ∧ win0_5.index t = ![t.val, 0] ∧ win0_6.index t = ![t.val, 0]
    ∧ win0_7.index t = ![0, t.val] ∧ win0_8.index t = ![t.val, 0] :=
  (by decide +kernel : ∀ t : Fin grid0.N, _)

/-! The result arrays after the run. -/

theorem final5 (c : Dev nD) : (dats m 0 c).arrAt 5 cfg0.N
    = sum (m ((c : Thread nD τ).loc main_arg0)) (m ((c : Thread nD τ).loc main_arg1)) := by
  refine (dats m 0 c).arrAt_eq_of_covers 5 _ (by decide +kernel) fun t _ y => ?_
  blk_simp
  rw [after0_5]
  frame_out
  refine (pay1_apply (iblk m c 0 t) (iblk m c 1 t) y).trans (Eq.trans ?_ (sum_apply _ _ _).symm)
  reads_congr
  · blk_ext [iblk, V_main_arg0, idx t]
  · blk_ext [iblk, V_main_arg1, idx t]

theorem final6 (c : Dev nD) : (dats m 0 c).arrAt 6 cfg0.N
    = rows (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  refine (pay3_apply (iblk m c 0 t) (iblk m c 1 t) (iblk m c 2 t) y).trans (Eq.trans ?_ (rows_apply _ _ _ _).symm)
  reads_congr
  · blk_ext [iblk, V_main_arg0, idx t]
  · blk_ext [iblk, V_main_arg1, idx t]
  · blk_ext [iblk, V_main_arg2, idx t]

theorem final7 (c : Dev nD) : (dats m 0 c).arrAt 7 cfg0.N
    = cols (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  frame_out
  refine (pay4_apply (iblk m c 0 t) (iblk m c 1 t) (iblk m c 3 t) y).trans (Eq.trans ?_ (cols_apply _ _ _ _).symm)
  reads_congr
  · blk_ext [iblk, V_main_arg0, idx t]
  · blk_ext [iblk, V_main_arg1, idx t]
  · blk_ext [iblk, V_main_arg3, idx t]

theorem final8 (c : Dev nD) : (dats m 0 c).arrAt 8 cfg0.N
    = rows (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]
  frame_out
  refine (pay5_apply (iblk m c 0 t) (iblk m c 1 t) (iblk m c 4 t) y).trans (Eq.trans ?_ (rows_apply _ _ _ _).symm)
  reads_congr
  · blk_ext [iblk, V_main_arg0, idx t]
  · blk_ext [iblk, V_main_arg1, idx t]
  · blk_ext [iblk, V_main_arg4, idx t]

end Cert.Proof.Qkv0

end
-- ==== Proof.Qkv1.lean ====
/-
  The values of the projections of plain rows: each block of 512 rows of `x` times the whole of a weight matrix is the
  block of the product of the whole arrays, for the queries and the values as rows, for the keys as columns.
-/
module

public import proofs.«01_k».proof.Proof.Gen.Qkv1Ideal.Value
public import proofs.«01_k».proof.Proof.Gen.Qkv1RefIdeal.Run
public import Idealize.ShloMosaic.Lib.Pipeline.ValueKit

@[expose] public section

set_option maxRecDepth 16384

noncomputable section

namespace Cert.Proof.Qkv1

open Idealize.ShloMosaic Idealize.ShloMosaic.TcCoe Idealize.SL.Sem
open Idealize.ShloMosaic.Pipeline (Dat)

section Reference

open Cert.Qkv1RefIdeal Cert.Qkv1RefIdeal.Gen

/-- The reference's product of `x` and `w`. -/
abbrev rows (x : FVec Ideal S4096x768 .f32) (w : FVec Ideal S768x768 .f32) : FVec Ideal S4096x768 .bf16 :=
  truncf .bf16 (Host.dotGeneral dot_S4096x768_S768x768_S4096x768_1_0_0_1_n_n none x w) bitsLt_bf16_f32

/-- The same product, transposed. -/
abbrev cols (x : FVec Ideal S4096x768 .f32) (w : FVec Ideal S768x768 .f32) : FVec Ideal S768x4096 .bf16 :=
  truncf .bf16 (transpose S768x4096 [1, 0] (Host.dotGeneral dot_S4096x768_S768x768_S4096x768_1_0_0_1_n_n none x w)
    transposes_S4096x768_S768x4096_1_0) bitsLt_bf16_f32

theorem rows_apply (x : FVec Ideal S4096x768 .f32) (w : FVec Ideal S768x768 .f32) (i : S4096x768.Idx) :
    rows x w i = ∑ k : Fin 768, x (ix2 (i 0) k) * w (ix2 k (i 1)) := by
  pointwise [rows]

theorem cols_apply (x : FVec Ideal S4096x768 .f32) (w : FVec Ideal S768x768 .f32) (i : S768x4096.Idx) :
    cols x w i = ∑ k : Fin 768, x (ix2 (i 1) k) * w (ix2 k (i 0)) := by
  pointwise [cols]

end Reference

open Cert.Qkv1Ideal Cert.Qkv1Ideal.Gen

variable (m : (ℓ : Loc nD τ sig) → Buf (Elt Ideal) ℓ) (ρ : Dev nD → PrngReg)

/-! The body's products at an index of their blocks. -/

theorem pay2_apply (x : Vec Ideal S512x768 .f32) (w : Vec Ideal S768x768 .f32) (j : S512x768.Idx) :
    k0_pay2 x w j = ∑ k : Fin 768, x (ix2 (j 0) k) * w (ix2 k (j 1)) := by
  pointwise [k0_pay2, k0_pay1]

theorem pay3_apply (x : Vec Ideal S512x768 .f32) (w : Vec Ideal S768x768 .f32) (j : S768x512.Idx) :
    k0_pay3 x w j = ∑ k : Fin 768, x (ix2 (j 1) k) * w (ix2 k (j 0)) := by
  pointwise [k0_pay3, k0_pay1]

theorem pay4_apply (x : Vec Ideal S512x768 .f32) (w : Vec Ideal S768x768 .f32) (j : S512x768.Idx) :
    k0_pay4 x w j = ∑ k : Fin 768, x (ix2 (j 0) k) * w (ix2 k (j 1)) := by
  pointwise [k0_pay4, k0_pay1]

/-- Where each point's blocks lie. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, t.val] ∧ win0_6.index t = ![t.val, 0] :=
  (by decide +kernel : ∀ t : Fin grid0.N, _)

/-! The result arrays after the run. -/

theorem final4 (c : Dev nD) : (dats m 0 c).arrAt 4 cfg0.N
    = rows (m ((c : Thread nD τ).loc main_arg0)) (m ((c : Thread nD τ).loc main_arg1)) := by
  refine (dats m 0 c).arrAt_eq_of_covers 4 _ (by decide +kernel) fun t _ y => ?_
  blk_simp
  rw [after0_4]
  frame_out
  refine (pay2_apply (iblk m c 0 t) (iblk m c 1 t) y).trans (Eq.trans ?_ (rows_apply _ _ _).symm)
  reads_congr
  · blk_ext [iblk, V_main_arg0, idx t]
  · blk_ext [iblk, V_main_arg1, idx t]

theorem final5 (c : Dev nD) : (dats m 0 c).arrAt 5 cfg0.N
    = cols (m ((c : Thread nD τ).loc main_arg0)) (m ((c : Thread nD τ).loc main_arg2)) := by
  refine (dats m 0 c).arrAt_eq_of_covers 5 _ (by decide +kernel) fun t _ y => ?_
  blk_simp
  rw [after0_5]
  frame_out
  refine (pay3_apply (iblk m c 0 t) (iblk m c 2 t) y).trans (Eq.trans ?_ (cols_apply _ _ _).symm)
  reads_congr
  · blk_ext [iblk, V_main_arg0, idx t]
  · blk_ext [iblk, V_main_arg2, idx t]

theorem final6 (c : Dev nD) : (dats m 0 c).arrAt 6 cfg0.N
    = rows (m ((c : Thread nD τ).loc main_arg0)) (m ((c : Thread nD τ).loc main_arg3)) := by
  refine (dats m 0 c).arrAt_eq_of_covers 6 _ (by decide +kernel) fun t _ y => ?_
  blk_simp
  rw [after0_6]
  frame_out
  refine (pay4_apply (iblk m c 0 t) (iblk m c 3 t) y).trans (Eq.trans ?_ (rows_apply _ _ _).symm)
  reads_congr
  · blk_ext [iblk, V_main_arg0, idx t]
  · blk_ext [iblk, V_main_arg3, idx t]

end Cert.Proof.Qkv1

end
-- ==== Proof.Mean.lean ====
/-
  The value of the query's mean: kernel and reference are the same sums, quotients and root, read at an index.
-/
module

public import proofs.«01_k».proof.Proof.Gen.MeanIdeal.Value
public import proofs.«01_k».proof.Proof.Gen.MeanRefIdeal.Run
public import Idealize.ShloMosaic.Lib.Pipeline.ValueKit

@[expose] public section

set_option maxRecDepth 16384

noncomputable section

namespace Cert.Proof.Mean

open Idealize.ShloMosaic Idealize.ShloMosaic.TcCoe Idealize.SL.Sem

open Cert.MeanRefIdeal Cert.MeanRefIdeal.Gen

/-- The reference's mean over the sequence. -/
abbrev mean (x : FVec Ideal S2x2048x768 .f32) : FVec Ideal S2x768 .f32 :=
  Host.divf (Host.reduceAdd x (constant S_ .f32 0x00000000#32) reducesTo_S2x2048x768_S2x768_d1 h_S_)
    (broadcastInDim S2x768 ![] bcast_S_S2x768 (constant S_ .f32 0x45000000#32))

/-- The mean over its norm, the norm held off zero. -/
abbrev unitMean (x : FVec Ideal S2x2048x768 .f32) : FVec Ideal S2x768 .f32 :=
  Host.divf (mean x) (broadcastInDim S2x768 ![0, 1] bcast_S2x1_S2x768_0_1
    (maximumf (Host.sqrt (broadcastInDim S2x1 ![0] bcast_S2_S2x1_0
      (Host.reduceAdd (mulf (mean x) (mean x)) (constant S_ .f32 0x00000000#32) reducesTo_S2x768_S2_d1 h_S_)))
      (broadcastInDim S2x1 ![] bcast_S_S2x1 (constant S_ .f32 0x2B8CBCCC#32))))

theorem pay_eq (x : FVec Ideal S2x2048x768 .f32) : Cert.MeanIdeal.Gen.k0_pay1 (F := Ideal) x = unitMean x := by
  funext i
  pointwise! [Cert.MeanIdeal.Gen.k0_pay1, unitMean, mean]

end Cert.Proof.Mean

end
-- ==== Proof.Roots.lean ====
/-
  Roots, their reciprocals and scaled sums over the extended reals, as the cosine similarities and the layer norms use them.
-/
module

public import Idealize.ShloMosaic.PureOps.Ideal

@[expose] public section

noncomputable section

namespace Cert.Proof.Roots

open Idealize.ShloMosaic

/-- A square is not negative. -/
theorem sq_nonneg (x : EReal) : 0 ≤ x * x := by
  induction x with
  | bot => exact le_of_lt (by rw [EReal.bot_mul_bot]; exact EReal.zero_lt_top)
  | top => exact le_of_lt (by rw [EReal.top_mul_top]; exact EReal.zero_lt_top)
  | coe r => exact_mod_cast mul_self_nonneg r

/-- Nor is a sum of squares. -/
theorem sum_sq_nonneg {ι : Type*} (s : Finset ι) (f : ι → EReal) : 0 ≤ ∑ i ∈ s, f i * f i :=
  Finset.sum_nonneg fun i _ => sq_nonneg (f i)

/-- A finite factor that is not negative goes into a sum. -/
theorem sum_scaled {ι : Type*} (s : Finset ι) (a : ι → EReal) {f : EReal} (h0 : 0 ≤ f) (h1 : f ≠ ⊤) :
    (∑ i ∈ s, a i) * f = ∑ i ∈ s, a i * f := by
  classical
  induction s using Finset.induction_on with
  | empty => rw [Finset.sum_empty, Finset.sum_empty, zero_mul]
  | insert i s hi ih =>
    rw [Finset.sum_insert hi, Finset.sum_insert hi, ← ih, mul_comm, EReal.left_distrib_of_nonneg_of_ne_top h0 h1, mul_comm f,
      mul_comm f]

/-- The reciprocal root of a sum held off zero by `c * c`, and what dividing by its root held off by `c` is. -/
theorem rsqrt_floor {c : ℝ} (hc : 0 < c) {s : EReal} (hs : 0 ≤ s) :
    0 ≤ Ideal.rsqrt (max s ((c * c : ℝ) : EReal)) ∧ Ideal.rsqrt (max s ((c * c : ℝ) : EReal)) ≠ ⊤
      ∧ ∀ x, Ideal.div x (max (Ideal.sqrt s) (c : EReal)) = x * Ideal.rsqrt (max s ((c * c : ℝ) : EReal)) := by
  induction s with
  | bot => exact absurd hs (by simp)
  | top =>
    rw [max_eq_left le_top, Ideal.sqrt_top, max_eq_left le_top, Ideal.rsqrt_top]
    refine ⟨le_refl _, EReal.zero_ne_top, fun x => ?_⟩
    rw [Ideal.div, if_neg EReal.top_ne_zero, EReal.inv_top]
  | coe r =>
    have hr : 0 ≤ r := by exact_mod_cast hs
    have hcc : 0 < c * c := mul_pos hc hc
    have hm : 0 < max r (c * c) := lt_max_of_lt_right hcc
    have e : Real.sqrt (max r (c * c)) = max (Real.sqrt r) c := by
      rw [Real.sqrt_monotone.map_max, Real.sqrt_mul_self hc.le]
    have hp : 0 < max (Real.sqrt r) c := lt_max_of_lt_right hc
    have up : ∀ a b : ℝ, max (a : EReal) (b : EReal) = ((max a b : ℝ) : EReal) := fun a b => (EReal.coe_strictMono.monotone.map_max).symm
    rw [up, Ideal.rsqrt_coe, if_neg (not_lt.mpr hm.le), if_neg hm.ne', Ideal.sqrt_coe, if_neg (not_lt.mpr hr),
      up, e]
    refine ⟨by exact_mod_cast (inv_pos.mpr hp).le, EReal.coe_ne_top _, fun x => ?_⟩
    rw [Ideal.div_coe hp.ne', one_div]

/-- Dividing by the root of a positive number is the product with its reciprocal root. -/
theorem div_sqrt {v : EReal} (hv : 0 < v) (x : EReal) : Ideal.div x (Ideal.sqrt v) = x * Ideal.rsqrt v := by
  induction v with
  | bot => exact absurd hv (by simp)
  | top => rw [Ideal.sqrt_top, Ideal.rsqrt_top, Ideal.div, if_neg EReal.top_ne_zero, EReal.inv_top]
  | coe r =>
    have hr : 0 < r := by exact_mod_cast hv
    rw [Ideal.rsqrt_coe, if_neg (not_lt.mpr hr.le), if_neg hr.ne', Ideal.sqrt_coe, if_neg (not_lt.mpr hr.le),
      Ideal.div_coe (Real.sqrt_pos.mpr hr).ne', one_div]

end Cert.Proof.Roots

end
-- ==== Proof.Sim.lean ====
/-
  The value of the cosine similarities: each block of 4096 memory rows is multiplied by the queries and scaled by the
  reciprocal root of the rows' sums of squares, held off zero; the reference divides the rows by their norms, held off zero,
  before the product. The two floors agree because the one is the square of the other.
-/
module

public import proofs.«01_k».proof.Proof.Gen.SimIdeal.Value
public import proofs.«01_k».proof.Proof.Gen.SimRefIdeal.Run
public import proofs.«01_k».proof.Proof.Roots
public import Idealize.ShloMosaic.Lib.Pipeline.ValueKit

@[expose] public section

set_option maxRecDepth 16384

noncomputable section

namespace Cert.Proof.Sim

open Idealize.ShloMosaic Idealize.ShloMosaic.TcCoe Idealize.SL.Sem

section Reference

open Cert.SimRefIdeal Cert.SimRefIdeal.Gen

/-- The reference's scores. -/
abbrev scores (k : FVec Ideal S65536x768 .f32) (q : FVec Ideal S768x2 .bf16) : FVec Ideal S65536x2 .f32 :=
  transpose S65536x2 [1, 0] (Host.dotGeneral dot_S2x768_S768x65536_S2x65536_1_0_0_1_n_n none
    (extf .f32 (transpose S2x768 [1, 0] q transposes_S768x2_S2x768_1_0) bitsLt_bf16_f32)
    (transpose S768x65536 [1, 0] (Host.divf k (broadcastInDim S65536x768 ![0, 1] bcast_S65536x1_S65536x768_0_1
      (maximumf (Host.sqrt (broadcastInDim S65536x1 ![0] bcast_S65536_S65536x1_0
          (Host.reduceAdd (mulf k k) (constant S_ .f32 0x00000000#32) reducesTo_S65536x768_S65536_d1 h_S_)))
        (broadcastInDim S65536x1 ![] bcast_S_S65536x1 (constant S_ .f32 0x2B8CBCCC#32)))))
      transposes_S65536x768_S768x65536_1_0)) transposes_S2x65536_S65536x2_1_0

theorem scores_apply (k : FVec Ideal S65536x768 .f32) (q : FVec Ideal S768x2 .bf16) (i : S65536x2.Idx) : scores k q i
    = ∑ x : Fin 768, q (ix2 x (i 1)) * Ideal.div (k (ix2 (i 0) x))
        (max (Ideal.sqrt (∑ x : Fin 768, k (ix2 (i 0) x) * k (ix2 (i 0) x))) (Ideal.ofBits .f32 0x2B8CBCCC#32)) := by
  pointwise [scores]

end Reference

open Cert.SimIdeal Cert.SimIdeal.Gen

/-- The float the reference holds the norms above. -/
def floor : ℝ := 2305843 / 2 ^ 61

theorem floor_pos : 0 < floor := by unfold floor; positivity

theorem floor_bits : Ideal.ofBits .f32 0x2B8CBCCC#32 = (floor : EReal) := by
  unfold floor
  simp [Ideal.ofBits, Ideal.ieee, -EReal.coe_mul]
  norm_num

/-- The body's floor, by its name, is its square. -/
theorem floor_named : Named.named (F := Ideal) κ "floor_squared" (φ := .f32) 0x179ABE15#32 = ((floor * floor : ℝ) : EReal) :=
  (IdealRules.named_const.ideal_named_scalar _ _ _ _ rfl).trans (congrArg _ (by unfold floor; norm_num))

theorem pay_apply (x0 : Vec Ideal S4096x768 .f32) (x1 : Vec Ideal S768x2 .bf16) (j : S4096x2.Idx) : k0_pay1 x0 x1 j
    = (∑ x : Fin 768, x0 (ix2 (j 0) x) * x1 (ix2 x (j 1)))
      * Ideal.rsqrt (max (∑ x : Fin 768, x0 (ix2 (j 0) x) * x0 (ix2 (j 0) x)) (Named.named (F := Ideal) κ "floor_squared" (φ := .f32) 0x179ABE15#32)) := by
  pointwise [k0_pay1]

/-- So the body's block is the reference's formula of its rows. -/
theorem pay_eq (x0 : Vec Ideal S4096x768 .f32) (x1 : Vec Ideal S768x2 .bf16) (j : S4096x2.Idx) : k0_pay1 x0 x1 j
    = ∑ x : Fin 768, x1 (ix2 x (j 1)) * Ideal.div (x0 (ix2 (j 0) x))
        (max (Ideal.sqrt (∑ x : Fin 768, x0 (ix2 (j 0) x) * x0 (ix2 (j 0) x))) (Ideal.ofBits .f32 0x2B8CBCCC#32)) := by
  obtain ⟨h0, h1, hd⟩ := Roots.rsqrt_floor floor_pos
    (Roots.sum_sq_nonneg Finset.univ fun x : Fin 768 => (x0 (ix2 (j 0) x) : EReal))
  rw [pay_apply, floor_named, floor_bits]
  refine (Roots.sum_scaled _ _ h0 h1).trans (Finset.sum_congr rfl fun x _ => ?_)
  rw [hd, mul_comm (x0 _) (x1 _), mul_assoc]

variable (m : (ℓ : Loc nD τ sig) → Buf (Elt Ideal) ℓ)

/-- Where each point's blocks lie. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 cfg0.N
    = scores (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_eq _ _ _).trans (Eq.trans ?_ (scores_apply _ _ _).symm)
  reads_congr
  · blk_ext [iblk, V_main_arg1, idx t]
  · blk_ext [iblk, V_main_arg0, idx t]
  · blk_ext [iblk, V_main_arg0, idx t]

end Cert.Proof.Sim

end
-- ==== Proof.Post.lean ====
/-
  The value of the output projection, the layer norms and the feed-forward: each block of 512 rows is normed by the reciprocal
  root of its rows' variances, where the reference divides by the root; a variance and the positive number added to it make
  the two one.
-/
module

public import proofs.«01_k».proof.Proof.Gen.PostIdeal.Value
public import proofs.«01_k».proof.Proof.Gen.PostRefIdeal.Run
public import proofs.«01_k».proof.Proof.Roots
public import Idealize.ShloMosaic.Lib.Pipeline.ValueKit

@[expose] public section

set_option maxRecDepth 16384

noncomputable section

namespace Cert.Proof.Post

open Idealize.ShloMosaic Idealize.ShloMosaic.TcCoe Idealize.SL.Sem

/-! ## A row's norm -/

/-- A row's mean. -/
def mean (v : Fin 768 → EReal) : EReal := Ideal.div (∑ k, v k) (Ideal.ofBits .f32 0x44400000#32)

/-- A row's variance and the number added to it. -/
def spread (v : Fin 768 → EReal) : EReal :=
  Ideal.div (∑ k, (v k - mean v) * (v k - mean v)) (Ideal.ofBits .f32 0x44400000#32) + Ideal.ofBits .f32 0x3727C5AC#32

/-- A row off its mean, divided by its deviation. -/
def norm (v : Fin 768 → EReal) (j : Fin 768) : EReal := Ideal.div (v j - mean v) (Ideal.sqrt (spread v))

theorem width : Ideal.ofBits .f32 0x44400000#32 = ((768 : ℝ) : EReal) := by
  simp [Ideal.ofBits, Ideal.ieee, -EReal.coe_mul]
  norm_num

theorem added : Ideal.ofBits .f32 0x3727C5AC#32 = ((10995116 / 2 ^ 40 : ℝ) : EReal) := by
  simp [Ideal.ofBits, Ideal.ieee, -EReal.coe_mul]
  norm_num

theorem spread_pos (v : Fin 768 → EReal) : 0 < spread v := by
  unfold spread
  rw [width, added, Ideal.div_coe (by norm_num)]
  refine lt_of_lt_of_le ?_ (le_add_of_nonneg_left (mul_nonneg (Roots.sum_sq_nonneg _ _) ?_))
  · exact_mod_cast (by positivity : (0 : ℝ) < 10995116 / 2 ^ 40)
  · exact_mod_cast (by positivity : (0 : ℝ) ≤ 1 / 768)

/-- So the norm is the product with the reciprocal root. -/
theorem norm_eq (v : Fin 768 → EReal) (j : Fin 768) : norm v j = (v j - mean v) * Ideal.rsqrt (spread v) :=
  Roots.div_sqrt (spread_pos v) _

/-- The row after the feed-forward, its norm added, from the row before it. -/
def fed (w1 : Fin 768 → Fin 3072 → EReal) (w2 : Fin 3072 → Fin 768 → EReal) (v : Fin 768 → EReal) (j : Fin 768) : EReal :=
  norm v j + ∑ f, max (∑ k, norm v k * w1 k f) 0 * w2 f j

section Reference

open Cert.PostRefIdeal Cert.PostRefIdeal.Gen

/-- The reference's means of the rows of `X`. -/
abbrev means (X : FVec Ideal S4096x768 .f32) : FVec Ideal S4096x1 .f32 :=
  Host.divf (broadcastInDim S4096x1 ![0] bcast_S4096_S4096x1_0
      (Host.reduceAdd X (constant S_ .f32 0x00000000#32) reducesTo_S4096x768_S4096_d1 h_S_))
    (broadcastInDim S4096x1 ![] bcast_S_S4096x1 (constant S_ .f32 0x44400000#32))

/-- The rows of `X` off their means. -/
abbrev centred (X : FVec Ideal S4096x768 .f32) : FVec Ideal S4096x768 .f32 :=
  subf X (broadcastInDim S4096x768 ![0, 1] bcast_S4096x1_S4096x768_0_1 (means X))

/-- The number the squares' sum is divided by. -/
abbrev count : FVec Ideal S_ .f32 := subf (constant S_ .f32 0x44400000#32) (sitofp .f32 (constantI S_ 32 0#32))

/-- The reference's layer norm of `X`. -/
abbrev layerNorm (X : FVec Ideal S4096x768 .f32) : FVec Ideal S4096x768 .f32 :=
  Host.divf (centred X) (broadcastInDim S4096x768 ![0, 1] bcast_S4096x1_S4096x768_0_1 (Host.sqrt (addf
    (select (broadcastInDim S4096x1 ![] bcast_S_S4096x1 (cmpf .ogt count (constant S_ .f32 0x00000000#32)))
      (Host.divf (broadcastInDim S4096x1 ![0] bcast_S4096_S4096x1_0 (Host.reduceAdd (mulf (centred X) (centred X))
          (constant S_ .f32 0x00000000#32) reducesTo_S4096x768_S4096_d1 h_S_))
        (broadcastInDim S4096x1 ![] bcast_S_S4096x1 count))
      (broadcastInDim S4096x1 ![] bcast_S_S4096x1 (id (constant S_ .f32 0x7FC00000#32))))
    (broadcastInDim S4096x1 ![] bcast_S_S4096x1 (constant S_ .f32 0x3727C5AC#32)))))

/-- The projected rows, the residual before them. -/
abbrev projected (x : FVec Ideal S4096x768 .bf16) (wo : FVec Ideal S768x768 .f32) (r : FVec Ideal S4096x768 .f32) :
    FVec Ideal S4096x768 .f32 :=
  addf r (Host.dotGeneral dot_S4096x768_S768x768_S4096x768_1_0_0_1_n_n none (extf .f32 x bitsLt_bf16_f32) wo)

/-- Normed rows and their feed-forward. -/
abbrev forward (N : FVec Ideal S4096x768 .f32) (w1 : FVec Ideal S768x3072 .f32) (w2 : FVec Ideal S3072x768 .f32) :
    FVec Ideal S4096x768 .f32 :=
  addf N (Host.dotGeneral dot_S4096x3072_S3072x768_S4096x768_1_0_0_1_n_n none
    (maximumf (Host.dotGeneral dot_S4096x768_S768x3072_S4096x3072_1_0_0_1_n_n none N w1)
      (broadcastInDim S4096x3072 ![] bcast_S_S4096x3072 (constant S_ .f32 0x00000000#32))) w2)

/-- The reference's block. -/
def block (x : FVec Ideal S4096x768 .bf16) (wo : FVec Ideal S768x768 .f32) (r : FVec Ideal S4096x768 .f32)
    (w1 : FVec Ideal S768x3072 .f32) (w2 : FVec Ideal S3072x768 .f32) : FVec Ideal S4096x768 .f32 :=
  layerNorm (forward (layerNorm (projected x wo r)) w1 w2)

/-- It is the term the reference's run ends with. -/
theorem res_eq (m : (ℓ : Loc nD τ sig) → Buf (Elt Ideal) ℓ) (c : Dev nD) : Value.res_main_v31 m c
    = block (m ((c : Thread nD τ).loc main_arg0)) (m ((c : Thread nD τ).loc main_arg1)) (m ((c : Thread nD τ).loc main_arg2))
      (m ((c : Thread nD τ).loc main_arg3)) (m ((c : Thread nD τ).loc main_arg4)) := rfl

theorem means_apply (X : FVec Ideal S4096x768 .f32) (i : S4096x1.Idx) : means X i = mean fun k => X (ix2 (i 0) k) := by
  pointwise [means, mean]

/-- The count is the width. -/
theorem count_eq : Ideal.ofBits .f32 0x44400000#32 - FloatOps.sitofp (F := Ideal) .f32 0#32 = Ideal.ofBits .f32 0x44400000#32 := by
  have h : FloatOps.sitofp (F := Ideal) .f32 0#32 = (0 : EReal) := by
    simp [FloatOps.sitofp]
  rw [h, sub_zero]

theorem width_pos : 0 < Ideal.ofBits .f32 0x44400000#32 := by
  rw [width]
  exact_mod_cast (by norm_num : (0 : ℝ) < 768)

theorem layerNorm_apply (X : FVec Ideal S4096x768 .f32) (i : S4096x768.Idx) :
    layerNorm X i = norm (fun k => X (ix2 (i 0) k)) (i 1) := by
  have e : X i = X (ix2 (i 0) (i 1)) := congrArg X (by funext a; fin_cases a <;> rfl)
  pointwise [layerNorm]
  rw [count_eq, if_pos width_pos, e]
  rfl

theorem projected_apply (x : FVec Ideal S4096x768 .bf16) (wo : FVec Ideal S768x768 .f32) (r : FVec Ideal S4096x768 .f32)
    (i : S4096x768.Idx) : projected x wo r i = r i + ∑ k : Fin 768, x (ix2 (i 0) k) * wo (ix2 k (i 1)) := by
  pointwise [projected]

theorem forward_apply (N : FVec Ideal S4096x768 .f32) (w1 : FVec Ideal S768x3072 .f32) (w2 : FVec Ideal S3072x768 .f32)
    (i : S4096x768.Idx) : forward N w1 w2 i
      = N i + ∑ f : Fin 3072, max (∑ k : Fin 768, N (ix2 (i 0) k) * w1 (ix2 k f)) 0 * w2 (ix2 f (i 1)) := by
  pointwise [forward]

/-- The reference's block, row by row. -/
theorem block_apply (x : FVec Ideal S4096x768 .bf16) (wo : FVec Ideal S768x768 .f32) (r : FVec Ideal S4096x768 .f32)
    (w1 : FVec Ideal S768x3072 .f32) (w2 : FVec Ideal S3072x768 .f32) (i : S4096x768.Idx) : block x wo r w1 w2 i
      = norm (fed (fun k f => w1 (ix2 k f)) (fun f j => w2 (ix2 f j)) fun j => r (ix2 (i 0) j)
        + ∑ k : Fin 768, x (ix2 (i 0) k) * wo (ix2 k j)) (i 1) := by
  rw [block, layerNorm_apply]
  congr 1
  funext j
  rw [forward_apply]
  simp only [layerNorm_apply, projected_apply]
  rfl

end Reference

open Cert.PostIdeal Cert.PostIdeal.Gen

/-- The body's means of the rows of `X`. -/
abbrev meansK (X : FVec Ideal S512x768 .f32) : FVec Ideal S512x768 .f32 :=
  broadcastTo S512x768 (divf (shapeCast S512x1 (multiReduction .add [1] S512 X 0x00000000#32 reduces_S512x768_S512 (.inl rfl) rfl)
    shapeCasts_S512_S512x1) (broadcast S512x1 (Scalar.ofBits .f32 0x44400000#32))) broadcasts_S512x1_S512x768

/-- The body's projected rows. -/
abbrev projectedK (x : FVec Ideal S512x768 .bf16) (wo : FVec Ideal S768x768 .f32) (r : FVec Ideal S512x768 .f32) :
    FVec Ideal S512x768 .f32 :=
  addf (matmul dot_S512x768_S768x768_S512x768_1_0_0_1_n_n none x (truncf .bf16 wo bitsLt_bf16_f32)
    (constant S512x768 .f32 0x00000000#32)) r

/-- The body's feed-forward of normed rows. -/
abbrev forwardK (N : FVec Ideal S512x768 .f32) (w1 : FVec Ideal S768x3072 .f32) (w2 : FVec Ideal S3072x768 .f32) :
    FVec Ideal S512x768 .f32 :=
  addf (matmul dot_S512x3072_S3072x768_S512x768_1_0_0_1_n_n none
    (truncf .bf16 (maximumf (matmul dot_S512x768_S768x3072_S512x3072_1_0_0_1_n_n none (truncf .bf16 N bitsLt_bf16_f32)
      (truncf .bf16 w1 bitsLt_bf16_f32) (constant S512x3072 .f32 0x00000000#32))
      (broadcast S512x3072 (Scalar.ofBits .f32 0x00000000#32))) bitsLt_bf16_f32) (truncf .bf16 w2 bitsLt_bf16_f32)
    (constant S512x768 .f32 0x00000000#32)) N

/-- Both layer norms of the body are one function of their rows. -/
theorem pay_eq (x : Vec Ideal S512x768 .bf16) (wo : Vec Ideal S768x768 .f32) (r : Vec Ideal S512x768 .f32)
    (w1 : Vec Ideal S768x3072 .f32) (w2 : Vec Ideal S3072x768 .f32) :
    k0_pay2 x wo r w1 w2 = forwardK (k0_pay1 (projectedK x wo r) (meansK (projectedK x wo r))) w1 w2
      ∧ k0_pay3 x wo r w1 w2 = meansK (k0_pay2 x wo r w1 w2) := ⟨rfl, rfl⟩

theorem norm_apply (X : FVec Ideal S512x768 .f32) (i : S512x768.Idx) :
    k0_pay1 X (meansK X) i = norm (fun k => X (ix2 (i 0) k)) (i 1) := by
  have e : X i = X (ix2 (i 0) (i 1)) := congrArg X (by funext a; fin_cases a <;> rfl)
  refine Eq.trans ?_ (norm_eq _ _).symm
  pointwise [k0_pay1, meansK]
  rw [e]
  rfl

theorem projectedK_apply (x : FVec Ideal S512x768 .bf16) (wo : FVec Ideal S768x768 .f32) (r : FVec Ideal S512x768 .f32)
    (i : S512x768.Idx) : projectedK x wo r i = r i + ∑ k : Fin 768, x (ix2 (i 0) k) * wo (ix2 k (i 1)) := by
  rw [add_comm]
  pointwise [projectedK]

theorem forwardK_apply (N : FVec Ideal S512x768 .f32) (w1 : FVec Ideal S768x3072 .f32) (w2 : FVec Ideal S3072x768 .f32)
    (i : S512x768.Idx) : forwardK N w1 w2 i
      = N i + ∑ f : Fin 3072, max (∑ k : Fin 768, N (ix2 (i 0) k) * w1 (ix2 k f)) 0 * w2 (ix2 f (i 1)) := by
  rw [add_comm]
  pointwise [forwardK]

/-- The body's block, row by row. -/
theorem pay_apply (x : Vec Ideal S512x768 .bf16) (wo : Vec Ideal S768x768 .f32) (r : Vec Ideal S512x768 .f32)
    (w1 : Vec Ideal S768x3072 .f32) (w2 : Vec Ideal S3072x768 .f32) (i : S512x768.Idx) :
    k0_pay1 (k0_pay2 x wo r w1 w2) (k0_pay3 x wo r w1 w2) i
      = norm (fed (fun k f => w1 (ix2 k f)) (fun f j => w2 (ix2 f j)) fun j => r (ix2 (i 0) j)
        + ∑ k : Fin 768, x (ix2 (i 0) k) * wo (ix2 k j)) (i 1) := by
  rw [(pay_eq x wo r w1 w2).2, norm_apply, (pay_eq x wo r w1 w2).1]
  congr 1
  funext j
  rw [forwardK_apply]
  simp only [norm_apply, projectedK_apply]
  rfl

variable (m : (ℓ : Loc nD τ sig) → Buf (Elt Ideal) ℓ)

/-- Where each point's blocks lie. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- The result array after the run. -/
theorem final (c : Dev nD) : (dats m 0 c).arrAt 5 cfg0.N
    = block (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  frame_out
  refine (pay_apply _ _ _ _ _ _).trans (Eq.trans ?_ (block_apply _ _ _ _ _ _).symm)
  reads_congr
  · blk_ext [iblk, V_main_arg3, idx t]
  · blk_ext [iblk, V_main_arg4, idx t]
  · blk_ext [iblk, V_main_arg2, idx t]
  · blk_ext [iblk, V_main_arg0, idx t]
  · blk_ext [iblk, V_main_arg1, idx t]
  refine congrArg (norm _) (Fin.ext ?_)
  blk_simp [idx t]

end Cert.Proof.Post

end
-- ==== Proof.Calls.lean ====
/-
  The frames and the values of the TensorCore calls. A call's frame is that of its ideal program at the bit instance, where the
  two have one text, and its own where a constant has a name; its value is the reference's term of the arguments, which the
  call's own module proves of the blocks.
-/
module

public import proofs.«01_k».proof.Defs
public import proofs.«01_k».proof.Proof.Gen.Head
public import proofs.«01_k».proof.Proof.Head
public import proofs.«01_k».proof.Proof.Gen.Qkv0
public import proofs.«01_k».proof.Proof.Qkv0
public import proofs.«01_k».proof.Proof.Gen.Qkv1
public import proofs.«01_k».proof.Proof.Qkv1
public import proofs.«01_k».proof.Proof.Gen.Mean
public import proofs.«01_k».proof.Proof.Mean
public import proofs.«01_k».proof.Proof.Gen.Sim.Frame
public import proofs.«01_k».proof.Proof.Sim
public import proofs.«01_k».proof.Proof.Gen.Post
public import proofs.«01_k».proof.Proof.Post
public import Idealize.ShloMosaic.Lib.Quiescent

@[expose] public section

noncomputable section

namespace Cert.Proof

open Idealize.ShloMosaic Idealize.ShloMosaic.TcCoe Idealize.SL.Sem

/-! ## The product with the vocabulary -/

/-- The two body tables are one. -/
theorem defs_head : Cert.Head.defs (F := Bits) = Cert.HeadIdeal.defs (F := Bits) :=
  congrArg (Pipeline.defs _) (congrArg Defs.onTc (funext fun k => funext fun a => match k, a with
    | ⟨0, _⟩, _ => rfl
    | ⟨_ + 1, h⟩, _ => absurd h (by omega)))

theorem frame_head : Cert.quiescent_Head := fun m ρ _ => defs_head ▸ Cert.HeadIdeal.Gen.frame (F := Bits) m ρ

theorem frame_headIdeal : Cert.quiescent_HeadIdeal := fun m ρ _ => Cert.HeadIdeal.Gen.frame (F := Ideal) m ρ

theorem frame_headRefIdeal : Cert.quiescent_HeadRefIdeal := fun m ρ _ =>
  (θ_run (Cert.HeadRefIdeal.defs (F := Ideal)) _ _).mono
    (fun r h => ⟨fun c => (h c).2, sem_eq_zero_of_no_sems (by decide) r.2⟩) (Cert.HeadRefIdeal.Value.run (F := Ideal) m ρ)

theorem algebraic_head : Cert.algebraic_HeadIdeal_HeadRefIdeal := by
  intro m ρ m' ρ' _ hagree
  refine ⟨_,
    (θ_run (Cert.HeadIdeal.defs (F := Ideal)) _ _).mono (fun _ h c => ⟨(h c).1.trans (Head.final m c), (h c).2⟩)
      (Cert.HeadIdeal.Value.run_blocks (F := Ideal) m ρ),
    (θ_run (Cert.HeadRefIdeal.defs (F := Ideal)) _ _).mono (fun _ h c => ?_) (Cert.HeadRefIdeal.Value.run (F := Ideal) m' ρ')⟩
  obtain ⟨a0, a1, a2⟩ := hagree c
  exact ⟨(h c).1.trans (by rw [a0, a1, a2]), (h c).2⟩

/-! ## The position embedding and the first projections -/

/-- The two body tables are one. -/
theorem defs_qkv0 : Cert.Qkv0.defs (F := Bits) = Cert.Qkv0Ideal.defs (F := Bits) :=
  congrArg (Pipeline.defs _) (congrArg Defs.onTc (funext fun k => funext fun a => match k, a with
    | ⟨0, _⟩, _ => rfl
    | ⟨_ + 1, h⟩, _ => absurd h (by omega)))

theorem frame_qkv0 : Cert.quiescent_Qkv0 := fun m ρ _ => defs_qkv0 ▸ Cert.Qkv0Ideal.Gen.frame (F := Bits) m ρ

theorem frame_qkv0Ideal : Cert.quiescent_Qkv0Ideal := fun m ρ _ => Cert.Qkv0Ideal.Gen.frame (F := Ideal) m ρ

theorem frame_qkv0RefIdeal : Cert.quiescent_Qkv0RefIdeal := fun m ρ _ =>
  (θ_run (Cert.Qkv0RefIdeal.defs (F := Ideal)) _ _).mono
    (fun r h => ⟨fun c => (h c).2.2.2.2, sem_eq_zero_of_no_sems (by decide) r.2⟩) (Cert.Qkv0RefIdeal.Value.run (F := Ideal) m ρ)

theorem algebraic_qkv0 : Cert.algebraic_Qkv0Ideal_Qkv0RefIdeal := by
  intro m ρ m' ρ' _ hagree
  refine ⟨_, _, _, _,
    (θ_run (Cert.Qkv0Ideal.defs (F := Ideal)) _ _).mono (fun _ h c => ⟨(h c).1.trans (Qkv0.final5 m c), (h c).2.1.trans (Qkv0.final6 m c), (h c).2.2.1.trans (Qkv0.final7 m c), (h c).2.2.2.1.trans (Qkv0.final8 m c), (h c).2.2.2.2⟩)
      (Cert.Qkv0Ideal.Value.run_blocks (F := Ideal) m ρ),
    (θ_run (Cert.Qkv0RefIdeal.defs (F := Ideal)) _ _).mono (fun _ h c => ?_) (Cert.Qkv0RefIdeal.Value.run (F := Ideal) m' ρ')⟩
  obtain ⟨a0, a1, a2, a3, a4⟩ := hagree c
  exact ⟨(h c).1.trans (by rw [a0, a1]), (h c).2.1.trans (by rw [a0, a1, a2]), (h c).2.2.1.trans (by rw [a0, a1, a3]), (h c).2.2.2.1.trans (by rw [a0, a1, a4]), (h c).2.2.2.2⟩

/-! ## The second projections -/

/-- The two body tables are one. -/
theorem defs_qkv1 : Cert.Qkv1.defs (F := Bits) = Cert.Qkv1Ideal.defs (F := Bits) :=
  congrArg (Pipeline.defs _) (congrArg Defs.onTc (funext fun k => funext fun a => match k, a with
    | ⟨0, _⟩, _ => rfl
    | ⟨_ + 1, h⟩, _ => absurd h (by omega)))

theorem frame_qkv1 : Cert.quiescent_Qkv1 := fun m ρ _ => defs_qkv1 ▸ Cert.Qkv1Ideal.Gen.frame (F := Bits) m ρ

theorem frame_qkv1Ideal : Cert.quiescent_Qkv1Ideal := fun m ρ _ => Cert.Qkv1Ideal.Gen.frame (F := Ideal) m ρ

theorem frame_qkv1RefIdeal : Cert.quiescent_Qkv1RefIdeal := fun m ρ _ =>
  (θ_run (Cert.Qkv1RefIdeal.defs (F := Ideal)) _ _).mono
    (fun r h => ⟨fun c => (h c).2.2.2, sem_eq_zero_of_no_sems (by decide) r.2⟩) (Cert.Qkv1RefIdeal.Value.run (F := Ideal) m ρ)

theorem algebraic_qkv1 : Cert.algebraic_Qkv1Ideal_Qkv1RefIdeal := by
  intro m ρ m' ρ' _ hagree
  refine ⟨_, _, _,
    (θ_run (Cert.Qkv1Ideal.defs (F := Ideal)) _ _).mono (fun _ h c => ⟨(h c).1.trans (Qkv1.final4 m c), (h c).2.1.trans (Qkv1.final5 m c), (h c).2.2.1.trans (Qkv1.final6 m c), (h c).2.2.2⟩)
      (Cert.Qkv1Ideal.Value.run_blocks (F := Ideal) m ρ),
    (θ_run (Cert.Qkv1RefIdeal.defs (F := Ideal)) _ _).mono (fun _ h c => ?_) (Cert.Qkv1RefIdeal.Value.run (F := Ideal) m' ρ')⟩
  obtain ⟨a0, a1, a2, a3⟩ := hagree c
  exact ⟨(h c).1.trans (by rw [a0, a1]), (h c).2.1.trans (by rw [a0, a2]), (h c).2.2.1.trans (by rw [a0, a3]), (h c).2.2.2⟩

/-! ## The query's mean -/

/-- The two body tables are one. -/
theorem defs_mean : Cert.Mean.defs (F := Bits) = Cert.MeanIdeal.defs (F := Bits) :=
  congrArg (Pipeline.defs _) (congrArg Defs.onTc (funext fun k => funext fun a => match k, a with
    | ⟨0, _⟩, _ => rfl
    | ⟨_ + 1, h⟩, _ => absurd h (by omega)))

theorem frame_mean : Cert.quiescent_Mean := fun m ρ _ => defs_mean ▸ Cert.MeanIdeal.Gen.frame (F := Bits) m ρ

theorem frame_meanIdeal : Cert.quiescent_MeanIdeal := fun m ρ _ => Cert.MeanIdeal.Gen.frame (F := Ideal) m ρ

theorem frame_meanRefIdeal : Cert.quiescent_MeanRefIdeal := fun m ρ _ =>
  (θ_run (Cert.MeanRefIdeal.defs (F := Ideal)) _ _).mono
    (fun r h => ⟨fun c => (h c).2, sem_eq_zero_of_no_sems (by decide) r.2⟩) (Cert.MeanRefIdeal.Value.run (F := Ideal) m ρ)

theorem algebraic_mean : Cert.algebraic_MeanIdeal_MeanRefIdeal := by
  intro m ρ m' ρ' _ hagree
  refine ⟨_,
    (θ_run (Cert.MeanIdeal.defs (F := Ideal)) _ _).mono (fun _ h c => ⟨(h c).1.trans (Mean.pay_eq _), (h c).2⟩)
      (Cert.MeanIdeal.Value.run (F := Ideal) m ρ),
    (θ_run (Cert.MeanRefIdeal.defs (F := Ideal)) _ _).mono (fun _ h c => ?_) (Cert.MeanRefIdeal.Value.run (F := Ideal) m' ρ')⟩
  obtain a0 := hagree c
  exact ⟨(h c).1.trans (by rw [a0]), (h c).2⟩

/-! ## The cosine similarities -/

theorem frame_sim : Cert.quiescent_Sim := fun m ρ _ => Cert.Sim.Gen.frame (F := Bits) m ρ

theorem preserves_sim : Cert.preserves_Sim_SimIdeal :=
  IdealRules.named_const.statement Cert.SimIdeal.κ "floor_squared" .f32 0x179ABE15#32 _ rfl

theorem frame_simIdeal : Cert.quiescent_SimIdeal := fun m ρ _ => Cert.SimIdeal.Gen.frame (F := Ideal) m ρ

theorem frame_simRefIdeal : Cert.quiescent_SimRefIdeal := fun m ρ _ =>
  (θ_run (Cert.SimRefIdeal.defs (F := Ideal)) _ _).mono
    (fun r h => ⟨fun c => (h c).2, sem_eq_zero_of_no_sems (by decide) r.2⟩) (Cert.SimRefIdeal.Value.run (F := Ideal) m ρ)

theorem algebraic_sim : Cert.algebraic_SimIdeal_SimRefIdeal := by
  intro m ρ m' ρ' _ hagree
  refine ⟨_,
    (θ_run (Cert.SimIdeal.defs (F := Ideal)) _ _).mono (fun _ h c => ⟨(h c).1.trans (Sim.final m c), (h c).2⟩)
      (Cert.SimIdeal.Value.run_blocks (F := Ideal) m ρ),
    (θ_run (Cert.SimRefIdeal.defs (F := Ideal)) _ _).mono (fun _ h c => ?_) (Cert.SimRefIdeal.Value.run (F := Ideal) m' ρ')⟩
  obtain ⟨a0, a1⟩ := hagree c
  exact ⟨(h c).1.trans (by rw [a0, a1]), (h c).2⟩

/-! ## The output projection, the layer norms and the feed-forward -/

/-- The two body tables are one. -/
theorem defs_post : Cert.Post.defs (F := Bits) = Cert.PostIdeal.defs (F := Bits) :=
  congrArg (Pipeline.defs _) (congrArg Defs.onTc (funext fun k => funext fun a => match k, a with
    | ⟨0, _⟩, _ => rfl
    | ⟨_ + 1, h⟩, _ => absurd h (by omega)))

theorem frame_post : Cert.quiescent_Post := fun m ρ _ => defs_post ▸ Cert.PostIdeal.Gen.frame (F := Bits) m ρ

theorem frame_postIdeal : Cert.quiescent_PostIdeal := fun m ρ _ => Cert.PostIdeal.Gen.frame (F := Ideal) m ρ

theorem frame_postRefIdeal : Cert.quiescent_PostRefIdeal := fun m ρ _ =>
  (θ_run (Cert.PostRefIdeal.defs (F := Ideal)) _ _).mono
    (fun r h => ⟨fun c => (h c).2, sem_eq_zero_of_no_sems (by decide) r.2⟩) (Cert.PostRefIdeal.Value.run (F := Ideal) m ρ)

theorem algebraic_post : Cert.algebraic_PostIdeal_PostRefIdeal := by
  intro m ρ m' ρ' _ hagree
  refine ⟨_,
    (θ_run (Cert.PostIdeal.defs (F := Ideal)) _ _).mono (fun _ h c => ⟨(h c).1.trans (Post.final m c), (h c).2⟩)
      (Cert.PostIdeal.Value.run_blocks (F := Ideal) m ρ),
    (θ_run (Cert.PostRefIdeal.defs (F := Ideal)) _ _).mono (fun _ h c => ?_) (Cert.PostRefIdeal.Value.run (F := Ideal) m' ρ')⟩
  obtain ⟨a0, a1, a2, a3, a4⟩ := hagree c
  exact ⟨(h c).1.trans ((Post.res_eq m' c).trans (by rw [a0, a1, a2, a3, a4])), (h c).2⟩

end Cert.Proof

end
-- ==== Proof.CombineRun.lean ====
/- The weighted-combine call: its body run once, over its pieces.  The body starts sixteen row copies out of the table
   before it waits for any of them, so the table is held as read shares, one for each copy's semaphore. -/
module

public import proofs.«01_k».proof.Proof.Gen.CombineIdeal.Frame.Runs
public import Idealize.ShloMosaic.Lib.Claim
public import Idealize.ShloMosaic.Lib.Transfers

@[expose] public section

set_option maxRecDepth 16384

noncomputable section

namespace Cert.Proof.Combine

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A row number below the table's height names a row of the table. -/
theorem row_inside (w : BitVec 32) (h : w.toNat < 65536) :
    ∀ a, (![w.toNat, 0] : Fin 2 → ℕ) a + S1x768.size a ≤ S65536x768.size a := by
  intro a
  match a with
  | ⟨0, _⟩ => show w.toNat + 1 ≤ 65536; omega
  | ⟨1, _⟩ => show 0 + 768 ≤ 768; omega

/-- The table, held at the read share of semaphore `k`. -/
abbrev lent (c : Dev nD) (k : Fin 18) (f : HbBuf0 (F := F) c hbM0_0) : sProp 𝕄 :=
  hbM0_0.view.loc (c : Thread nD τ) ↦{Transfers.shareTok fullShare 18 k} f

/-- The table, held at what is left of it beside those shares. -/
abbrev kept (c : Dev nD) (f : HbBuf0 (F := F) c hbM0_0) : sProp 𝕄 :=
  hbM0_0.view.loc (c : Thread nD τ) ↦{Transfers.shareDrop fullShare 18} f

/-- The table held whole is the shares of the eighteen semaphores and the rest. -/
theorem table_shares (c : Dev nD) (f : HbBuf0 (F := F) c hbM0_0) :
    (hbPt0 c hbM0_0 f : sProp 𝕄) ⊣⊢ iprop(kept c f ∗ lent c 0 f ∗ lent c 1 f ∗ lent c 2 f ∗ lent c 3 f ∗ lent c 4 f ∗ lent c 5 f ∗ lent c 6 f ∗ lent c 7 f ∗ lent c 8 f ∗ lent c 9 f
      ∗ lent c 10 f ∗ lent c 11 f ∗ lent c 12 f ∗ lent c 13 f ∗ lent c 14 f ∗ lent c 15 f ∗ lent c 16 f ∗ lent c 17 f) := by
  have h := Transfers.pointsTo_toks (Ix := Unit) (Name := ℕ) (U := Pipeline.UD sig nD τ) (Lvl := ℕ) (Val := Elt F)
    (ℓ := hbM0_0.view.loc (c : Thread nD τ)) (S := Finset.univ) (f := f) fullShare 18
  rw [BI.bigSep_eq_bigSepL_of_eq [0, 1, 2, 3, 4, 5, 6, 7, 8, 9, 10, 11, 12, 13, 14, 15, 16, 17] (by decide) (by decide)] at h
  exact h

set_option sl_exec.dmaWindow true in
set_option sl_exec.dmaWindowSet true in
set_option maxHeartbeats 1600000 in
/-- The body, from its row numbers in range: what its stores leave, as pieces, and that it runs to the continuation with
    everything else as it was. -/
def bodyRun (c : Dev nD) (i : grid0.Coords) (arg3 : Memref sig .tc .vmem S2x8 .f32) (harg3 : arg3.IsWhole)
    (arg4 : Memref sig .tc .vmem S2x768 .f32) (harg4 : arg4.IsWhole) (arg5 : Memref sig .tc .vmem S16x768 .f32) (harg5 : arg5.IsWhole)
    (x0 : Vec F S2x8 .f32) (xt : TbBuf0 (F := F) c tbM0_0) (fh : HbBuf0 (F := F) c hbM0_0)
    (hx : ∀ (r : LoadRect S16) y, (tbM0_0.view.readAt (Elt F) r xt y : BitVec 32).toNat < 65536) :
    Σ' (L1 : List (View.Piece (Elt F) S2x768 .f32)), { LT : List (View.Piece (Elt F) S16x768 .f32) //
      ∀ (W : Waits sig Unit) (K : PUnit → sProp 𝕄),
        iprop(owns (c : Thread nD τ) arg3 fullShare x0 ∗ (∃ d, owns (c : Thread nD τ) arg4 fullShare d)
            ∗ (∃ d, owns (c : Thread nD τ) arg5 fullShare d) ∗ tbPt0 c tbM0_0 xt
            ∗ semVal ((c : Thread nD τ), SemLoc.dma 2) 0 ∗ semVal ((c : Thread nD τ), SemLoc.dma 3) 0 ∗ semVal ((c : Thread nD τ), SemLoc.dma 4) 0
            ∗ semVal ((c : Thread nD τ), SemLoc.dma 5) 0 ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0 ∗ semVal ((c : Thread nD τ), SemLoc.dma 10) 0
            ∗ semVal ((c : Thread nD τ), SemLoc.dma 11) 0 ∗ semVal ((c : Thread nD τ), SemLoc.dma 12) 0 ∗ semVal ((c : Thread nD τ), SemLoc.dma 13) 0
            ∗ semVal ((c : Thread nD τ), SemLoc.dma 14) 0 ∗ semVal ((c : Thread nD τ), SemLoc.dma 15) 0 ∗ semVal ((c : Thread nD τ), SemLoc.dma 16) 0
            ∗ semVal ((c : Thread nD τ), SemLoc.dma 17) 0
            ∗ hbPt0 c hbM0_0 fh ∗ owes (c : Thread nD τ) 0 W
            ∗ (iprop(owns (c : Thread nD τ) arg3 fullShare x0
                ∗ (∃ f, arg4.view.loc (c : Thread nD τ) ↦[arg4.view.set]{fullShare} arg4.view.writes (Elt F) f L1)
                ∗ (∃ f, arg5.view.loc (c : Thread nD τ) ↦[arg5.view.set]{fullShare} arg5.view.writes (Elt F) f LT)
                ∗ tbPt0 c tbM0_0 xt
                ∗ semVal ((c : Thread nD τ), SemLoc.dma 2) 0 ∗ semVal ((c : Thread nD τ), SemLoc.dma 3) 0 ∗ semVal ((c : Thread nD τ), SemLoc.dma 4) 0
                ∗ semVal ((c : Thread nD τ), SemLoc.dma 5) 0 ∗ semVal ((c : Thread nD τ), SemLoc.dma 6) 0 ∗ semVal ((c : Thread nD τ), SemLoc.dma 7) 0
                ∗ semVal ((c : Thread nD τ), SemLoc.dma 8) 0 ∗ semVal ((c : Thread nD τ), SemLoc.dma 9) 0 ∗ semVal ((c : Thread nD τ), SemLoc.dma 10) 0
                ∗ semVal ((c : Thread nD τ), SemLoc.dma 11) 0 ∗ semVal ((c : Thread nD τ), SemLoc.dma 12) 0 ∗ semVal ((c : Thread nD τ), SemLoc.dma 13) 0
                ∗ semVal ((c : Thread nD τ), SemLoc.dma 14) 0 ∗ semVal ((c : Thread nD τ), SemLoc.dma 15) 0 ∗ semVal ((c : Thread nD τ), SemLoc.dma 16) 0
                ∗ semVal ((c : Thread nD τ), SemLoc.dma 17) 0
                ∗ hbPt0 c hbM0_0 fh ∗ ∃ W', owes (c : Thread nD τ) 0 W') -∗ K ⟨⟩))
          ⊢ wp frame (wpE (defs₀ (F := F)) Variants.none c none) Set.univ
              (cc0_body i tbM0_0 htbM0_0 (Memref.whole main_arg0) (Memref.isWhole_whole _) arg3 harg3 arg4 harg4 arg5 harg5 cc0_scratch1) K } := by
  refine ⟨?_, ?_, fun W K => ?run⟩
  case run =>
    simp only [cc0_body_eq_skeleton]; unfold cc0_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%d1, %f1, -, H1⟩, ⟨%ds, %fs, -, HS⟩, HT, Q2, Q3, Q4, Q5, Q6, Q7, Q8, Q9, Q10, Q11, Q12, Q13, Q14, Q15, Q16, Q17, Hh, HW, Hk⟩
    obtain rfl := harg3.eq_unread hf0
    ihave Hh' := (table_shares c fh).1 $$ Hh
    icases Hh' with ⟨Hr, Ha, Hb, T2, T3, T4, T5, T6, T7, T8, T9, T10, T11, T12, T13, T14, T15, T16, T17⟩
    sl_exec (disch := exact row_inside _ (hx _ _))
    sl_step
    iapply Hk
    isplitl [H0]
    · iexists _; isplitr; · ipureintro; exact harg3.read_unread _
      iexact H0
    isplitl [H1]; · iexists _; iexact H1
    isplitl [HS]; · iexists _; iexact HS
    isplitl [HT]; · iexact HT
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Hr Ha Hb T2 T3 T4 T5 T6 T7 T8 T9 T10 T11 T12 T13 T14 T15 T16 T17]
    · iapply (table_shares c fh).2
      isplitl [Hr]; · iexact Hr
      isplitl [Ha]; · iexact Ha
      isplitl [Hb]; · iexact Hb
      isplitl [T2]; · iexact T2
      isplitl [T3]; · iexact T3
      isplitl [T4]; · iexact T4
      isplitl [T5]; · iexact T5
      isplitl [T6]; · iexact T6
      isplitl [T7]; · iexact T7
      isplitl [T8]; · iexact T8
      isplitl [T9]; · iexact T9
      isplitl [T10]; · iexact T10
      isplitl [T11]; · iexact T11
      isplitl [T12]; · iexact T12
      isplitl [T13]; · iexact T13
      isplitl [T14]; · iexact T14
      isplitl [T15]; · iexact T15
      isplitl [T16]; · iexact T16
      iexact T17
    iexists _; iexact HW

end Cert.Proof.Combine
-- ==== Proof.CombineFrame.lean ====
/- The weighted-combine call: the whole program's run, from row numbers in range, and its frame. -/
module

public import proofs.«01_k».proof.Proof.CombineRun

@[expose] public section

set_option maxRecDepth 16384

noncomputable section

namespace Cert.Proof.Combine

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every row number the call is handed names a row of the table. -/
def InRange : Prop := ∀ y : S16.Idx, (tbl m 0 y : BitVec 32).toNat < 65536

variable {m}

/-- So every word the body reads of them does. -/
theorem word_inside (hx : InRange m) (r : LoadRect S16) (y) :
    (tbM0_0.view.readAt (Elt F) r (tbl m 0) y : BitVec 32).toNat < 65536 := hx _

variable (m)

/-- No block of the call depends on the row numbers, so there is nothing to ask of them for its windows. -/
theorem ok : Ok m := trivial

/-- What the body leaves in the output's block at point `t`. -/
def left (hx : InRange m) (c : Dev nD) (t : Fin (cfgM m (ok m)).N) : Vec F S2x768 .f32 :=
  VO0_1.read (Elt F) (VO0_1.writes (Elt F) VO0_1.junk (bodyRun c (grid0.coords t) (ms0_0 m (ok m) t) (hs0_0 m (ok m) t)
    (ms0_1 m (ok m) t) (hs0_1 m (ok m) t) scM0_0 (Memref.isWhole_whole _) (iblk m (ok m) c 0 t) (tbl m 0) (V m c main_arg0)
    (word_inside hx)).1)

/-- The pipeline's data: the arrays as the call finds them, the weights' block left in place, the output's at `left`. -/
def data (hx : InRange m) (_ : Fin 1) (c : Dev nD) : Dat τ (Elt F) Unit ℕ (Pipeline.UD sig nD τ) ℕ (cfgM m (ok m)) c where
  A w := V m c (Pipeline.arrRef spec0 w)
  after w t := match w with
    | ⟨0, _⟩ => iblk m (ok m) c 0 t
    | ⟨1, _⟩ => left m hx c t
  Φ _ := iprop(Pipeline.ΦD osem0 spec0 H0 (V m) c ∗ Pipeline.ΦT pre0 (tbl m) c)
  q _ := fullShare
  owed _ := 0

theorem data_A (hx : InRange m) (c : Dev nD) (w : Fin (cfgM m (ok m)).W) :
    (data m hx 0 c).A w = V m c (Pipeline.arrRef spec0 w) := by dsimp only [data]

theorem data_after0 (hx : InRange m) (c : Dev nD) (t : Fin (cfgM m (ok m)).N) :
    (data m hx 0 c).after 0 t = iblk m (ok m) c 0 t := by dsimp only [data]; rfl

theorem data_after1 (hx : InRange m) (c : Dev nD) (t : Fin (cfgM m (ok m)).N) :
    (data m hx 0 c).after 1 t = left m hx c t := by dsimp only [data]; rfl

theorem data_before0 (hx : InRange m) (c : Dev nD) (t : Fin (cfgM m (ok m)).N) (d) :
    (data m hx 0 c).before 0 t d = iblk m (ok m) c 0 t :=
  before0_0_of m (ok m) (data m hx 0 c) (data_A m hx c 0) (data_after0 m hx c) t d

set_option maxHeartbeats 1600000 in
set_option maxRecDepth 131072 in
/-- The body at any point: from the weights' block, the scratch, the semaphores and the table, back to the same with the
    output's block filled. -/
theorem point (hx : InRange m) (c : Dev nD) (t : Fin (cfgM m (ok m)).N) :
    iprop((data m hx 0 c).Φ t.castSucc ∗ (data m hx 0 c).owesAt () t.castSucc
        ∗ (∃ d, owns (c : Thread nD τ) (ms0_0 m (ok m) t) fullShare ((data m hx 0 c).before 0 t d))
        ∗ (∃ d, owns (c : Thread nD τ) (ms0_1 m (ok m) t) fullShare ((data m hx 0 c).before 1 t d)))
      ⊢ wp frame (wpE (defs₀ (F := F)) Variants.none c none) Set.univ (bodyAt0 (adm m (ok m)) t)
          (fun _ => iprop((data m hx 0 c).Φ t.succ ∗ (data m hx 0 c).owesAt () t.succ
            ∗ owns (c : Thread nD τ) (ms0_0 m (ok m) t) fullShare ((data m hx 0 c).after 0 t)
            ∗ owns (c : Thread nD τ) (ms0_1 m (ok m) t) fullShare ((data m hx 0 c).after 1 t))) := by
  simp only [data_before0]
  rw [show (data m hx 0 c).Φ t.succ = (data m hx 0 c).Φ t.castSucc from rfl, data_after0, data_after1,
    show (data m hx 0 c).Φ t.castSucc = iprop(Pipeline.ΦD osem0 spec0 H0 (V m) c ∗ Pipeline.ΦT pre0 (tbl m) c) from rfl,
    PhiD0_eq, PhiT0_eq]
  unfold Dat.owesAt Pipeline.owesWithin
  rw [show (data m hx 0 c).owed t.castSucc = 0 from rfl, show (data m hx 0 c).owed t.succ = 0 from rfl]
  unfold left bodyAt0
  iintro ⟨⟨⟨HS, Hg, ⟨Q2, Q3, Q4, Q5, Q6, Q7, Q8, Q9, Q10, Q11, Q12, Q13, Q14, Q15, Q16, Q17⟩, Hh⟩, HT⟩, ⟨%W, -, HW⟩, ⟨%d0, H0⟩, ⟨%d1, H1⟩⟩
  iapply ((bodyRun c (grid0.coords t) _ _ _ _ _ _ (iblk m (ok m) c 0 t) (tbl m 0) (V m c main_arg0) (word_inside hx)).2.2 W _)
  isplitl [H0]; · iexact H0
  isplitl [H1]; · iexists _; iexact H1
  isplitl [HS]; · iexact HS
  isplitl [HT]; · iexact HT
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Hh]; · iexact Hh
  isplitl [HW]; · iexact HW
  iintro ⟨H0, ⟨%e1, H1⟩, ⟨%eS, HS⟩, HT, Q2, Q3, Q4, Q5, Q6, Q7, Q8, Q9, Q10, Q11, Q12, Q13, Q14, Q15, Q16, Q17, Hh, ⟨%W', HW'⟩⟩
  isplitl [HS Hg Q2 Q3 Q4 Q5 Q6 Q7 Q8 Q9 Q10 Q11 Q12 Q13 Q14 Q15 Q16 Q17 Hh HT]
  · isplitl [HS Hg Q2 Q3 Q4 Q5 Q6 Q7 Q8 Q9 Q10 Q11 Q12 Q13 Q14 Q15 Q16 Q17 Hh]
    · isplitl [HS]
      · iexists _; unfold owns; iexists _; isplitr
        swap; · iexact HS
        ipureintro; rfl
      isplitl [Hg]; · iexact Hg
      isplitl [Q2 Q3 Q4 Q5 Q6 Q7 Q8 Q9 Q10 Q11 Q12 Q13 Q14 Q15 Q16 Q17]
      · isplitl [Q2]; · iexact Q2
        isplitl [Q3]; · iexact Q3
        isplitl [Q4]; · iexact Q4
        isplitl [Q5]; · iexact Q5
        isplitl [Q6]; · iexact Q6
        isplitl [Q7]; · iexact Q7
        isplitl [Q8]; · iexact Q8
        isplitl [Q9]; · iexact Q9
        isplitl [Q10]; · iexact Q10
        isplitl [Q11]; · iexact Q11
        isplitl [Q12]; · iexact Q12
        isplitl [Q13]; · iexact Q13
        isplitl [Q14]; · iexact Q14
        isplitl [Q15]; · iexact Q15
        isplitl [Q16]; · iexact Q16
        iexact Q17
      iexact Hh
    iexact HT
  isplitl [HW']
  · iexists W'; isplitr; · ipureintro; exact fun _ _ => Or.inl trivial
    iexact HW'
  isplitl [H0]; · iexact H0
  unfold owns; iexists _; isplitr
  swap; · iexact H1
  ipureintro
  exact View.read_writes_of_cover _ _ _ _ _ (fun y => View.cover_of_tiledL _ S2x768.size (by sl_kernel_rfl) y)

theorem body_row (t : Fin (cfgM m (ok m)).N) :
    defs₀ (F := F) .tc (cfgM m (ok m)).body ((cfgM m (ok m)).bodyArgs t ((cfgM m (ok m)).slots t)) = bodyAt0 (adm m (ok m)) t := by
  unfold defs₀; rw [Defs.onTc_tc]

theorem obligation (hx : InRange m) (c : Dev nD) :
    BodyObligation (data (F := F) m hx 0 c) (defs₀ (F := F)) Variants.none () Set.univ := fun t => by
  rw [bigSep_W0, bigSep_W0, body_row m]
  exact triple_restated (point m hx c t) rfl .rfl fun _ => .rfl

set_option backward.isDefEq.respectTransparency.types false in
/-- The program's run: the arrays as the data say, every semaphore at zero. -/
theorem runs (hx : InRange m) :
    θ_run defs (onTc (τ := τ) (main (F := F))) (s₀ m ρ) (fun r =>
      (Pipeline.FramePost (Pipeline.pin pcfgs fun _ => adm m (ok m)) (data m hx) 0 (V m)) r ∧ r.2.sem = fun _ => 0) :=
  Pipeline.θ_run_frameP_dma (Q' := _) pcfgs (fun _ => adm m (ok m)) (data m hx) (0 : Fin 1) launch0 osem0 defs₀ Variants.none
    ownSemFacts0 H0 H0_sub m ρ main (hbody := fun c => (obligation m hx c).loose)
    (hshare := fun c => (data m hx 0 c).share_full fun _ => rfl) (howed := fun _ _ => rfl) (V := V m)
    (hmain := hmain m Variants.none) (hA := data_A m hx) (hpf := V_pre m) (hin := fun _ => .rfl)
    (hout := fun c => by change iprop(_ ∗ _) ⊢ _; iintro ⟨HD, -⟩; iexact HD)

/-- The arguments end as they began, and every semaphore at zero. -/
theorem frame (hx : InRange m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (ok m) (data m hx) (data_A m hx) ((θ_run defs _ _).mono (fun _ h => h.1) (runs m ρ hx)))
    ((θ_run defs _ _).mono (fun _ h => h.2) (runs m ρ hx))

end Cert.Proof.Combine
-- ==== Proof.CombineRows.lean ====
/- The weighted-combine call's pieces, at a place: the reference's sum, the body's product, and the rows its copies fetch. -/
module

public import proofs.«01_k».proof.Proof.CombineFrame
public import proofs.«01_k».proof.Proof.Pieces
public import proofs.«01_k».proof.Proof.Gen.CombineRefIdeal.Run
public import Idealize.ShloMosaic.Lib.Pipeline.ValueKit
public import Idealize.ShloMosaic.Lib.VecWindow

@[expose] public section

set_option maxRecDepth 16384

noncomputable section

namespace Cert.Proof.Combine

open Idealize.ShloMosaic Idealize.ShloMosaic.TcCoe Idealize.SL.Sem
open Cert.Proof.Embed (at_ext)

/-! ## The reference, at a place -/

section Reference

open Cert.CombineRefIdeal Cert.CombineRefIdeal.Gen

/-- The weighted sum of the named rows, as the reference takes it. -/
abbrev weighted (t : FVec Ideal S65536x768 .f32) (x : IVec S16 32) (w : FVec Ideal S2x8 .f32) : FVec Ideal S2x768 .f32 :=
  Host.reduceAdd (mulf (Host.gather gather_S65536x768_S2x8x1_S2x8x768_2_0_n_n_0_2_1768 t
      (broadcastInDim S2x8x1 ![0, 1] bcast_S2x8_S2x8x1_0_1
        (select (cmpi .slt (shapeCast S2x8 x shapeCasts_S16_S2x8) (broadcastInDim S2x8 ![] bcast_S_S2x8 (constantI S_ 32 0#32)))
          (addi (shapeCast S2x8 x shapeCasts_S16_S2x8) (broadcastInDim S2x8 ![] bcast_S_S2x8 (constantI S_ 32 65536#32)))
          (shapeCast S2x8 x shapeCasts_S16_S2x8))))
    (broadcastInDim S2x8x768 ![0, 1, 2] bcast_S2x8x1_S2x8x768_0_1_2 (broadcastInDim S2x8x1 ![0, 1] bcast_S2x8_S2x8x1_0_1 w)))
    (constant S_ .f32 0x00000000#32) reducesTo_S2x8x768_S2x768_d1 h_S_

/-- The rows gathered at a place: the row is the word there, kept inside the table. -/
theorem gathered_at (t : FVec Ideal S65536x768 .f32) (v : IVec S2x8x1 32) (a : Fin 2) (b : Fin 8) (j : Fin 768) :
    Host.gather gather_S65536x768_S2x8x1_S2x8x768_2_0_n_n_0_2_1768 t v (ix3 a b j)
      = t (ix2 ⟨min (v (ix3 a b 0)).toInt.toNat 65535, by omega⟩ j) := by
  unfold Host.gather
  refine congrArg t (at_ext ?_ ?_)
  · show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S65536x768_S2x8x1_S2x8x768_2_0_n_n_0_2_1768.startIndexMap from List.mem_singleton.mpr rfl)]
    show min (v _).toInt.toNat 65535 = min (v _).toInt.toNat 65535
    congr 4
    funext k
    refine Fin.ext ?_
    match k with
    | 0 => rfl
    | 1 => rfl
    | 2 => rfl
  · show GatherDims.start _ _ _ 1 + GatherDims.batchCoord _ _ 1 + GatherDims.offCoord _ _ 1 = _
    have hlast : ∀ k : Fin 3, k ∈ gather_S65536x768_S2x8x1_S2x8x768_2_0_n_n_0_2_1768.offsetDims → (ix3 a b j k).val = j.val :=
      fun k hk => by rw [List.mem_singleton.mp hk]; rfl
    rw [GatherDims.batchCoord_eq_zero _ _ _ List.not_mem_nil]
    unfold GatherDims.start GatherDims.offCoord
    rw [dif_neg (show (1 : Fin 2) ∉ gather_S65536x768_S2x8x1_S2x8x768_2_0_n_n_0_2_1768.startIndexMap from fun h => by
        cases List.mem_singleton.mp h),
      dif_pos ((GatherDims.mem_sKept gather_S65536x768_S2x8x1_S2x8x768_2_0_n_n_0_2_1768 (1 : Fin 2)).mpr
        ⟨fun h => (by decide : (1 : Fin 2) ≠ 0) (List.mem_singleton.mp h), List.not_mem_nil⟩), Nat.add_zero, Nat.zero_add]
    exact hlast _ (List.getElem_mem _)

theorem weighted_at (t : FVec Ideal S65536x768 .f32) (x : IVec S16 32) (w : FVec Ideal S2x8 .f32)
    (hx : ∀ y, (x y).toNat < 65536) (b : Fin 2) (j : Fin 768) :
    weighted t x w (ix2 b j)
      = ∑ k : Fin 8, t (ix2 ⟨(x (ix1 ⟨b.val * 8 + k.val, by omega⟩)).toNat, hx _⟩ j) * w (ix2 b k) := by
  pointwise [weighted]
  refine Finset.sum_congr rfl fun k _ => congrArg (· * _) ?_
  rw [gathered_at]
  refine congrArg t (at_ext ?_ rfl)
  pointwise
  have hy := hx (ix1 ⟨b.val * 8 + k.val, by omega⟩)
  generalize x _ = y at hy ⊢
  have hn : IntOp.cmpi .slt y 0#32 = 0#1 := by
    simp only [IntOp.cmpi, BitVec.slt_eq_decide, BitVec.toInt_eq_toNat_cond, BitVec.toNat_ofNat]
    rw [decide_eq_false (by omega)]
    rfl
  rw [hn]
  show min y.toInt.toNat 65535 = y.toNat
  rw [BitVec.toInt_eq_toNat_cond]
  omega

end Reference

open Cert.CombineIdeal Cert.CombineIdeal.Gen

/-- The body's test of whether word `x` of the sixteen belongs to result row `b`, on its words. -/
def mine (b x : ℕ) : BitVec 1 :=
  IntOp.cmpi .eq (BitVec.ofNat 32 b)
    (Scalar.select
      (IntOp.andi
        (IntOp.cmpi .ne
          (IntOp.subi (BitVec.setWidth 32 (IntOp.cmpi .sgt (BitVec.ofNat 32 x) 0#32))
            (BitVec.setWidth 32 (IntOp.cmpi .slt (BitVec.ofNat 32 x) 0#32)))
          (Scalar.subi (Scalar.extui (Scalar.cmpi .sgt 8#32 0#32)) (Scalar.extui (Scalar.cmpi .slt 8#32 0#32))))
        (IntOp.cmpi .ne (IntOp.remsi .vector (BitVec.ofNat 32 x) 8#32) 0#32))
      (IntOp.subi (IntOp.divsi .vector (BitVec.ofNat 32 x) 8#32) 1#32)
      (IntOp.divsi .vector (BitVec.ofNat 32 x) 8#32))

/-- The first eight belong to row 0, -/
theorem mine_low : ∀ (b : Fin 2) (x : Fin 8), mine b.val x.val = if b = 0 then 1#1 else 0#1 := by decide +kernel

/-- the last eight to row 1. -/
theorem mine_high : ∀ (b : Fin 2) (x : Fin 8), mine b.val (8 + x.val) = if b = 1 then 1#1 else 0#1 := by decide +kernel

/-- The body's product at a place: the eight rows of that result row, each by its weight. -/
theorem pay_at (x0 : Vec Ideal S2x8 .f32) (rows : Vec Ideal S16x768 .f32) (b : Fin 2) (j : Fin 768) :
    k0_pay1 (k0_pay2 x0) (iota Kind.tc S2x16 32 [0] iota_S2x16_d0_w32) k0_pay3 k0_pay4 k0_pay5 rows (ix2 b j)
      = ∑ k : Fin 8, x0 (ix2 b k) * rows (ix2 ⟨b.val * 8 + k.val, by omega⟩ j) := by
  pointwise [k0_pay1, k0_pay2, k0_pay3, k0_pay4, k0_pay5]
  show (∑ k : Fin 8, Scalar.select (mine b.val k.val) (x0 (ix2 b k) * rows (ix2 ⟨k.val, _⟩ j)) 0)
    + (∑ k : Fin 8, Scalar.select (mine b.val (8 + k.val)) (x0 (ix2 b k) * rows (ix2 ⟨8 + k.val, _⟩ j)) 0) = _
  simp only [mine_low, mine_high]
  match b with
  | 0 =>
    have h : ∑ k : Fin 8, Scalar.select (0#1) (x0 (ix2 0 k) * rows (ix2 ⟨8 + k.val, by omega⟩ j)) (0 : EReal) = 0 :=
      Finset.sum_eq_zero fun _ _ => rfl
    refine (congrArg _ h).trans ((add_zero _).trans (Finset.sum_congr rfl fun k _ => ?_))
    show x0 (ix2 0 k) * rows (ix2 ⟨k.val, _⟩ j) = x0 (ix2 0 k) * rows (ix2 ⟨0 * 8 + k.val, _⟩ j)
    simp only [Nat.zero_mul, Nat.zero_add]
  | 1 =>
    have h : ∑ k : Fin 8, Scalar.select (0#1) (x0 (ix2 1 k) * rows (ix2 ⟨k.val, by omega⟩ j)) (0 : EReal) = 0 :=
      Finset.sum_eq_zero fun _ _ => rfl
    exact (congrArg (· + _) h).trans ((zero_add _).trans (Finset.sum_congr rfl fun k _ => rfl))

variable {F : FTy → Type} [FloatOps F]

/-- A word read out of the row numbers is the row number there. -/
theorem word_at (c : Dev nD) (xt : TbBuf0 (F := F) c tbM0_0) (k : ℕ) (hk : k < 16) (inb) (h) :
    tbM0_0.view.readAt (Elt F) (Rect.unit (s := S16) ![k] S1.size inb).toLoadRect xt (Shape.Idx.first h)
      = (xt : S16.Idx → BitVec 32) (ix1 ⟨k, hk⟩) := by
  refine congrArg (xt : S16.Idx → BitVec 32) (funext fun a => Fin.ext ?_)
  match a with
  | ⟨0, _⟩ => rfl

/-- The rows the copies fetch: row `k` of the sixteen is the table's row of number `k`. -/
def fetched (xt : S16.Idx → BitVec 32) (hx : ∀ y, (xt y).toNat < 65536) (fh : S65536x768.Idx → Elt F .f32) :
    S16x768.Idx → Elt F .f32 :=
  fun y => fh (ix2 ⟨(xt (ix1 (y 0))).toNat, hx _⟩ (y 1))

/-- One copy's row, where it lands. -/
theorem copy_at (xt : S16.Idx → BitVec 32) (hx : ∀ y, (xt y).toNat < 65536) (fh : S65536x768.Idx → Elt F .f32)
    (k : ℕ) (hk : k < 16) {inb} (off : Fin 2 → ℕ) {inb'} {h} (x : S1x768.Idx) (h0 : off 0 = (xt (ix1 ⟨k, hk⟩)).toNat) (h1 : off 1 = 0) :
    (ReadAs.same.apply (View.read (Elt F) ((Memref.whole main_arg0).slice (Rect.unit off S1x768.size inb') h).view fh) :
        S1x768.Idx → Elt F .f32) x
      = fetched xt hx fh ((Rect.unit (s := S16x768) ![k, 0] S1x768.size inb).emb x) := by
  have hr : (x 0).val < 1 := (x 0).isLt
  have e : (xt (ix1 (((Rect.unit (s := S16x768) ![k, 0] S1x768.size inb).emb x) 0))).toNat = (xt (ix1 ⟨k, hk⟩)).toNat :=
    congrArg (fun z : Fin 16 => (xt (ix1 z)).toNat) (Fin.ext (show k + 1 * (x 0).val = k by omega))
  refine congrArg fh (at_ext ?_ ?_)
  · show off 0 + 1 * (x 0).val = (xt (ix1 _)).toNat
    rw [e]
    omega
  · show off 1 + 1 * (x 1).val = 0 + 1 * (x 1).val
    omega

set_option maxHeartbeats 1600000 in
/-- What the body reads back of its scratch: the sixteen rows. -/
theorem scratch_at (c : Dev nD) (arg5 : Memref sig .tc .vmem S16x768 .f32) (xt : TbBuf0 (F := F) c tbM0_0)
    (fh : HbBuf0 (F := F) c hbM0_0)
    (hx : ∀ (r : LoadRect S16) y, (tbM0_0.view.readAt (Elt F) r xt y : BitVec 32).toNat < 65536)
    (hx' : ∀ y : S16.Idx, ((xt : S16.Idx → BitVec 32) y).toNat < 65536) (y : S16x768.Idx) :
    bodyRun.sl.v192 c arg5 xt fh hx y = fetched xt hx' fh y := by
  unfold bodyRun.sl.v192 View.readCov
  rw [View.readAt_full]
  refine View.read_writes_apply_of_pieces _ _ (fetched xt hx' fh) _ ?_ y ?_
  rotate_left
  · exact View.cover_of_tiledL (s := S16x768) _ S1x768.size (by sl_kernel_rfl) y
  refine List.forall_mem_cons.2 ⟨fun x => (copy_at xt hx' fh 15 (by decide) (inb := inb_S16x768_S1x768_15_0) (k0_off16 (bodyRun.sl.r_15 c xt)) x
    (congrArg BitVec.toNat (word_at c xt 15 _ _ _)) rfl : bodyRun.sl.dma16 c xt fh hx x = _), ?_⟩
  refine List.forall_mem_cons.2 ⟨fun x => (copy_at xt hx' fh 14 (by decide) (inb := inb_S16x768_S1x768_14_0) (k0_off15 (bodyRun.sl.r_14 c xt)) x
    (congrArg BitVec.toNat (word_at c xt 14 _ _ _)) rfl : bodyRun.sl.dma15 c xt fh hx x = _), ?_⟩
  refine List.forall_mem_cons.2 ⟨fun x => (copy_at xt hx' fh 13 (by decide) (inb := inb_S16x768_S1x768_13_0) (k0_off14 (bodyRun.sl.r_13 c xt)) x
    (congrArg BitVec.toNat (word_at c xt 13 _ _ _)) rfl : bodyRun.sl.dma14 c xt fh hx x = _), ?_⟩
  refine List.forall_mem_cons.2 ⟨fun x => (copy_at xt hx' fh 12 (by decide) (inb := inb_S16x768_S1x768_12_0) (k0_off13 (bodyRun.sl.r_12 c xt)) x
    (congrArg BitVec.toNat (word_at c xt 12 _ _ _)) rfl : bodyRun.sl.dma13 c xt fh hx x = _), ?_⟩
  refine List.forall_mem_cons.2 ⟨fun x => (copy_at xt hx' fh 11 (by decide) (inb := inb_S16x768_S1x768_11_0) (k0_off12 (bodyRun.sl.r_11 c xt)) x
    (congrArg BitVec.toNat (word_at c xt 11 _ _ _)) rfl : bodyRun.sl.dma12 c xt fh hx x = _), ?_⟩
  refine List.forall_mem_cons.2 ⟨fun x => (copy_at xt hx' fh 10 (by decide) (inb := inb_S16x768_S1x768_10_0) (k0_off11 (bodyRun.sl.r_10 c xt)) x
    (congrArg BitVec.toNat (word_at c xt 10 _ _ _)) rfl : bodyRun.sl.dma11 c xt fh hx x = _), ?_⟩
  refine List.forall_mem_cons.2 ⟨fun x => (copy_at xt hx' fh 9 (by decide) (inb := inb_S16x768_S1x768_9_0) (k0_off10 (bodyRun.sl.r_9 c xt)) x
    (congrArg BitVec.toNat (word_at c xt 9 _ _ _)) rfl : bodyRun.sl.dma10 c xt fh hx x = _), ?_⟩
  refine List.forall_mem_cons.2 ⟨fun x => (copy_at xt hx' fh 8 (by decide) (inb := inb_S16x768_S1x768_8_0) (k0_off9 (bodyRun.sl.r_8 c xt)) x
    (congrArg BitVec.toNat (word_at c xt 8 _ _ _)) rfl : bodyRun.sl.dma9 c xt fh hx x = _), ?_⟩
  refine List.forall_mem_cons.2 ⟨fun x => (copy_at xt hx' fh 7 (by decide) (inb := inb_S16x768_S1x768_7_0) (k0_off8 (bodyRun.sl.r_7 c xt)) x
    (congrArg BitVec.toNat (word_at c xt 7 _ _ _)) rfl : bodyRun.sl.dma8 c xt fh hx x = _), ?_⟩
  refine List.forall_mem_cons.2 ⟨fun x => (copy_at xt hx' fh 6 (by decide) (inb := inb_S16x768_S1x768_6_0) (k0_off7 (bodyRun.sl.r_6 c xt)) x
    (congrArg BitVec.toNat (word_at c xt 6 _ _ _)) rfl : bodyRun.sl.dma7 c xt fh hx x = _), ?_⟩
  refine List.forall_mem_cons.2 ⟨fun x => (copy_at xt hx' fh 5 (by decide) (inb := inb_S16x768_S1x768_5_0) (k0_off6 (bodyRun.sl.r_5 c xt)) x
    (congrArg BitVec.toNat (word_at c xt 5 _ _ _)) rfl : bodyRun.sl.dma6 c xt fh hx x = _), ?_⟩
  refine List.forall_mem_cons.2 ⟨fun x => (copy_at xt hx' fh 4 (by decide) (inb := inb_S16x768_S1x768_4_0) (k0_off5 (bodyRun.sl.r_4 c xt)) x
    (congrArg BitVec.toNat (word_at c xt 4 _ _ _)) rfl : bodyRun.sl.dma5 c xt fh hx x = _), ?_⟩
  refine List.forall_mem_cons.2 ⟨fun x => (copy_at xt hx' fh 3 (by decide) (inb := inb_S16x768_S1x768_3_0) (k0_off4 (bodyRun.sl.r_3 c xt)) x
    (congrArg BitVec.toNat (word_at c xt 3 _ _ _)) rfl : bodyRun.sl.dma4 c xt fh hx x = _), ?_⟩
  refine List.forall_mem_cons.2 ⟨fun x => (copy_at xt hx' fh 2 (by decide) (inb := inb_S16x768_S1x768_2_0) (k0_off3 (bodyRun.sl.r_2 c xt)) x
    (congrArg BitVec.toNat (word_at c xt 2 _ _ _)) rfl : bodyRun.sl.dma3 c xt fh hx x = _), ?_⟩
  refine List.forall_mem_cons.2 ⟨fun x => (copy_at xt hx' fh 1 (by decide) (inb := inb_S16x768_S1x768_1_0) (k0_off2 (bodyRun.sl.r_1 c xt)) x
    (congrArg BitVec.toNat (word_at c xt 1 _ _ _)) rfl : bodyRun.sl.dma2 c xt fh hx x = _), ?_⟩
  refine List.forall_mem_cons.2 ⟨fun x => (copy_at xt hx' fh 0 (by decide) (inb := inb_S16x768_S1x768_0_0) (k0_off1 (bodyRun.sl.r c xt)) x
    (congrArg BitVec.toNat (word_at c xt 0 _ _ _)) rfl : bodyRun.sl.dma1 c xt fh hx x = _), ?_⟩
  exact fun p hp => absurd hp List.not_mem_nil

end Cert.Proof.Combine
-- ==== Proof.CombineValue.lean ====
/- What the weighted-combine call leaves: the table's rows of the given numbers, weighted and summed eight by eight. -/
module

public import proofs.«01_k».proof.Proof.CombineRows

@[expose] public section

set_option maxRecDepth 16384

noncomputable section

namespace Cert.Proof.Combine

open Idealize.ShloMosaic Idealize.ShloMosaic.TcCoe Idealize.SL.Sem
open Cert.Proof.Embed (at_ext)
open Cert.CombineIdeal Cert.CombineIdeal.Gen

/-- What the body leaves in its block, at a place. -/
theorem run_at (c : Dev nD) (i : grid0.Coords) (arg3 : Memref sig .tc .vmem S2x8 .f32) (harg3 : arg3.IsWhole)
    (arg4 : Memref sig .tc .vmem S2x768 .f32) (harg4 : arg4.IsWhole) (arg5 : Memref sig .tc .vmem S16x768 .f32) (harg5 : arg5.IsWhole)
    (x0 : Vec Ideal S2x8 .f32) (xt : TbBuf0 (F := Ideal) c tbM0_0) (fh : HbBuf0 (F := Ideal) c hbM0_0)
    (hx : ∀ (r : LoadRect S16) y, (tbM0_0.view.readAt (Elt Ideal) r xt y : BitVec 32).toNat < 65536)
    (hx' : ∀ y : S16.Idx, ((xt : S16.Idx → BitVec 32) y).toNat < 65536) (b : Fin 2) (j : Fin 768) :
    VO0_1.read (Elt Ideal) (VO0_1.writes (Elt Ideal) VO0_1.junk (bodyRun c i arg3 harg3 arg4 harg4 arg5 harg5 x0 xt fh hx).1) (ix2 b j)
      = ∑ k : Fin 8, x0 (ix2 b k)
          * (show EReal from fh (ix2 ⟨((xt : S16.Idx → BitVec 32) (ix1 ⟨b.val * 8 + k.val, by omega⟩)).toNat, hx' _⟩ j)) := by
  unfold bodyRun
  dsimp only
  rw [View.read_writes_full]
  unfold bodyRun.sl.r_16 bodyRun.sl.v162
  rw [View.readAt_full, harg3.read_unread]
  refine (pay_at _ _ b j).trans (Finset.sum_congr rfl fun k _ => congrArg (_ * ·) ?_)
  exact scratch_at c _ _ _ _ hx' _

variable (m : (ℓ : Loc nD τ sig) → Buf (Elt Ideal) ℓ)

/-- The one block of the output is the whole array. -/
theorem covers : ((cfgM m (ok m)).win 1).Covers := by
  refine ⟨fun a => ?_, fun β => ⟨(0 : Fin 1), flush0_1 _ _, fun a => ?_⟩⟩
  · match a with
    | ⟨0, _⟩ => exact (by decide : 0 < 2)
    | ⟨1, _⟩ => exact (by decide : 0 < 768)
  · match a with
    | ⟨0, h0⟩ =>
      have h : (β ⟨0, h0⟩).val < (2 + 2 - 1) / 2 := (β ⟨0, h0⟩).isLt
      exact ⟨show 0 = (β ⟨0, h0⟩).val by omega, .inl rfl⟩
    | ⟨1, h1⟩ =>
      have h : (β ⟨1, h1⟩).val < (768 + 768 - 1) / 768 := (β ⟨1, h1⟩).isLt
      exact ⟨show 0 = (β ⟨1, h1⟩).val by omega, .inl rfl⟩

/-- What the body leaves is the weighted sum, at every place of its block. -/
theorem left_at (hx : InRange m) (c : Dev nD) (t : Fin (cfgM m (ok m)).N) (z : S2x768.Idx) : left m hx c t z
    = weighted (m ((c : Thread nD τ).loc main_arg0)) (m ((c : Thread nD τ).loc main_arg1)) (m ((c : Thread nD τ).loc main_arg2)) z := by
  obtain rfl : c = 0 := Subsingleton.elim _ _
  rw [eq_ix2 z]
  unfold left
  refine (run_at _ _ _ _ _ _ _ _ _ _ _ (word_inside hx) hx (z 0) (z 1)).trans (Eq.trans ?_ (weighted_at _ _ _ hx (z 0) (z 1)).symm)
  refine Finset.sum_congr rfl fun k _ => (mul_comm _ _).trans (congrArg (_ * ·) ?_)
  unfold iblk
  refine congrArg (m ((0 : Dev nD).tc.loc main_arg2)) (at_ext ?_ ?_)
  · show 0 * 2 + 1 * (z 0).val = (z 0).val
    omega
  · show 0 * 8 + 1 * k.val = k.val
    omega

/-- The result array ends as what the body leaves, the one block being the whole array. -/
theorem array_of_left (hx : InRange m) (c : Dev nD) (G : S2x768.Idx → Elt Ideal .f32) (h : ∀ t, left m hx c t = G) :
    (data m hx 0 c).arrAt 1 (cfgM m (ok m)).N = G := by
  refine (data m hx 0 c).arrAt_eq_of_covers 1 _ (covers m) fun t _ y => ?_
  rw [data_after1, h]
  refine congrArg G (at_ext ?_ ?_)
  · show (y ⟨0, (by decide : 0 < 2)⟩).val = 0 * 2 + 1 * (y ⟨0, (by decide : 0 < 2)⟩).val
    omega
  · show (y ⟨1, (by decide : 1 < 2)⟩).val = 0 * 768 + 1 * (y ⟨1, (by decide : 1 < 2)⟩).val
    omega

/-- The result array after the run. -/
theorem final (hx : InRange m) (c : Dev nD) : (data m hx 0 c).arrAt 1 (cfgM m (ok m)).N
    = weighted (m ((c : Thread nD τ).loc main_arg0)) (m ((c : Thread nD τ).loc main_arg1)) (m ((c : Thread nD τ).loc main_arg2)) :=
  array_of_left m hx c _ fun t => funext (left_at m hx c t)

end Cert.Proof.Combine
-- ==== Proof.CombineClaims.lean ====
/- The weighted-combine call's claims: its frames and its value, from row numbers in range. -/
module

public import proofs.«01_k».proof.Defs
public import proofs.«01_k».proof.Proof.CombineValue
public import proofs.«01_k».proof.Proof.Gen.Combine
public import proofs.«01_k».proof.Proof.Gen.Pre_rows_in_range
public import Idealize.ShloMosaic.Lib.Quiescent
public import Idealize.ShloMosaic.Lib.ReduceAll
public import Idealize.ShloMosaic.Lib.WordCmp

@[expose] public section

noncomputable section

namespace Cert.Proof

open Idealize.ShloMosaic Idealize.ShloMosaic.TcCoe Idealize.SL.Sem

instance : Subsingleton Cert.Pre_rows_in_range.S_.Idx := ⟨fun _ _ => funext fun a => a.elim0⟩

/-- The precondition says of each row number that it names a row of the table. -/
theorem row_lt {F : FTy → Type} [FloatOps F] [Cert.Pre_rows_in_range.Facts] (t : Cert.Pre_rows_in_range.S65536x768.Idx → Elt F .f32)
    (x : Cert.Pre_rows_in_range.S16.Idx → Elt F .i32) (w : Cert.Pre_rows_in_range.S2x8.Idx → Elt F .f32)
    (h : Cert.Pre_rows_in_range.fn (F := F) t x w = fun _ => 1#1) (i : Cert.Pre_rows_in_range.S16.Idx) : (x i : BitVec 32).toNat < 65536 := by
  have hi := Host.reduce_andi_all _ _ _ _ _ (congrFun h fun a => a.elim0) i
  replace hi : IntOp.andi (IntOp.cmpi .sge (x i) 0#32) (IntOp.cmpi .slt (x i) 65536#32) = 1#1 := hi
  simp only [IntOp.cmpi, WordCmp.andi_ofBool, WordCmp.ofBool_eq_one_iff, Bool.and_eq_true, BitVec.sle_eq_decide, BitVec.slt_eq_decide,
    decide_eq_true_eq, BitVec.toInt_eq_toNat_cond, BitVec.toNat_ofNat] at hi
  omega

/-- The two body tables are one. -/
theorem defs_combine : Cert.Combine.defs (F := Bits) = Cert.CombineIdeal.defs (F := Bits) :=
  congrArg (Pipeline.defs _) (congrArg Defs.onTc (funext fun k => funext fun a => match k, a with
    | ⟨0, _⟩, _ => rfl
    | ⟨_ + 1, h⟩, _ => absurd h (by omega)))

theorem frame_combine : Cert.quiescent_Combine := fun m ρ h =>
  defs_combine ▸ Combine.frame (F := Bits) m ρ (fun y => row_lt _ _ _ (h 0) y)

theorem frame_combineIdeal : Cert.quiescent_CombineIdeal := fun m ρ h =>
  Combine.frame (F := Ideal) m ρ (fun y => row_lt _ _ _ (h 0) y)

theorem frame_combineRefIdeal : Cert.quiescent_CombineRefIdeal := fun m ρ _ =>
  (θ_run (Cert.CombineRefIdeal.defs (F := Ideal)) _ _).mono
    (fun r h => ⟨fun c => (h c).2, sem_eq_zero_of_no_sems (by decide) r.2⟩) (Cert.CombineRefIdeal.Value.run (F := Ideal) m ρ)

theorem frame_combineRefIdeal_in_range : Cert.quiescent_CombineRefIdeal_pre_rows_in_range := fun m ρ _ =>
  frame_combineRefIdeal m ρ (by trivial)

theorem algebraic_combine : Cert.algebraic_CombineIdeal_CombineRefIdeal := by
  intro m ρ m' ρ' hpre hagree
  have hx : Combine.InRange m := fun y => row_lt _ _ _ (hpre 0) y
  refine ⟨_, (θ_run (Cert.CombineIdeal.defs (F := Ideal)) _ _).mono
      (fun _ h c => ⟨((h.1.1 c).1 1).trans (Combine.final m hx c), h.2.1 c⟩)
      (θ_run_and (Combine.runs m ρ hx) (Combine.frame m ρ hx)),
    (θ_run (Cert.CombineRefIdeal.defs (F := Ideal)) _ _).mono (fun _ h c => ?_) (Cert.CombineRefIdeal.Value.run (F := Ideal) m' ρ')⟩
  obtain ⟨a0, a1, a2⟩ := hagree c
  exact ⟨(h c).1.trans (by rw [a0, a1, a2]), (h c).2⟩

end Cert.Proof

end
-- ==== Proof.Softmax.lean ====
/-
  A softmax over the extended reals: for real scores, the weights with a real taken off the scores first, as a sum's factors,
  give the quotient of the two sums of exponentials.
-/
module

public import proofs.«01_k».proof.Proof.Roots
public import Mathlib.Data.Finset.Fold

@[expose] public section

noncomputable section

namespace Cert.Proof.Softmax

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite extended real is a real. -/
theorem real_of_abs {x : EReal} (h : max x (-x) < ⊤) : ∃ r : ℝ, x = r := by
  induction x with
  | bot => exact absurd (max_lt_iff.mp h).2 (by simp)
  | top => exact absurd (max_lt_iff.mp h).1 (by simp)
  | coe r => exact ⟨r, rfl⟩

/-- A product of two families of reals, summed, is a real. -/
theorem real_sum_mul {ι : Type*} [Fintype ι] {f g : ι → EReal} (hf : ∀ i, ∃ r : ℝ, f i = r) (hg : ∀ i, ∃ r : ℝ, g i = r) :
    ∃ r : ℝ, ∑ i, f i * g i = r := by
  choose a ha using hf
  choose b hb using hg
  exact ⟨∑ i, a i * b i, by rw [coe_sum]; exact Finset.sum_congr rfl fun i _ => by rw [ha, hb, EReal.coe_mul]⟩

/-- The largest of some reals is one. -/
theorem real_max {n : ℕ} (s : Fin (n + 1) → EReal) (hs : ∀ i, ∃ r : ℝ, s i = r) :
    ∃ r : ℝ, Finset.univ.fold max ⊥ s = r := by
  have h0 : ⊥ < Finset.univ.fold max ⊥ s :=
    (Finset.lt_fold_max _).mpr (.inr ⟨0, Finset.mem_univ _, by obtain ⟨r, hr⟩ := hs 0; rw [hr]; exact EReal.bot_lt_coe r⟩)
  have h1 : Finset.univ.fold max ⊥ s < ⊤ :=
    (Finset.fold_max_lt _).mpr ⟨bot_lt_top, fun i _ => by obtain ⟨r, hr⟩ := hs i; rw [hr]; exact EReal.coe_lt_top r⟩
  exact ⟨_, (EReal.coe_toReal h1.ne h0.ne').symm⟩

/-- The quotient of the sums of exponentials, the upper one weighted. -/
def mix {n : ℕ} (s v : Fin n → EReal) : EReal := Ideal.div (∑ j, Ideal.exp (s j) * v j) (∑ j, Ideal.exp (s j))

/-- The sum of the softmax's weights, `M` taken off the scores, each with its factor. -/
theorem sum_weights {n : ℕ} (s v : Fin (n + 1) → EReal) (hs : ∀ j, ∃ r : ℝ, s j = r) {M : EReal} (hM : ∃ r : ℝ, M = r) :
    ∑ j, Ideal.div (Ideal.exp (s j - M)) (∑ k, Ideal.exp (s k - M)) * v j = mix s v := by
  choose a ha using hs
  obtain ⟨b, rfl⟩ := hM
  have e : ∀ x : ℝ, Ideal.exp (x : EReal) = (Real.exp x : EReal) := fun _ => rfl
  have hp : ∀ f : Fin (n + 1) → ℝ, 0 < ∑ j, Real.exp (f j) := fun f =>
    Finset.sum_pos (fun j _ => Real.exp_pos _) Finset.univ_nonempty
  have ht : ∑ k, Real.exp (a k - b) = (∑ k, Real.exp (a k)) / Real.exp b := by
    rw [Finset.sum_div]
    exact Finset.sum_congr rfl fun k _ => Real.exp_sub _ _
  unfold mix
  simp only [ha, ← EReal.coe_sub, e]
  rw [← coe_sum, ← coe_sum, Ideal.div_coe (hp a).ne',
    Roots.sum_scaled _ _ (by exact_mod_cast (one_div_pos.mpr (hp a)).le) (EReal.coe_ne_top _)]
  refine Finset.sum_congr rfl fun j _ => ?_
  rw [Ideal.div_coe (hp fun k => a k - b).ne', mul_right_comm _ (v j) _, ← EReal.coe_mul, ← EReal.coe_mul]
  congr 2
  rw [ht, Real.exp_sub]
  have := (Real.exp_pos b).ne'
  have := (hp a).ne'
  field_simp

end Cert.Proof.Softmax

end
-- ==== Proof.Attn.lean ====
/-
  The value of the attention: each head's block is the mix of its values by the exponentials of its scores, over the sum of
  the exponentials, where the reference takes each row's largest score off first and divides before it mixes; on finite
  queries and keys the two are one (Softmax).
-/
module

public import proofs.«01_k».proof.Proof.Gen.AttnIdeal.Value
public import proofs.«01_k».proof.Proof.Gen.AttnRefIdeal.Run
public import proofs.«01_k».proof.Proof.Softmax
public import Idealize.ShloMosaic.Lib.Pipeline.ValueKit

@[expose] public section

set_option maxRecDepth 16384

noncomputable section

namespace Cert.Proof.Attn

open Idealize.ShloMosaic Idealize.ShloMosaic.TcCoe Idealize.SL.Sem

/-- A maximum along the last of four axes. -/
theorem fold_last {n0 n1 n2 n3 : ℕ} (v : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel)
    (a : Fin n0) (b : Fin n1) (d : Fin n2) : Host.reduce FloatOps.maximumf v c h hu (ix3 a b d)
      = Finset.univ.fold max (c (Shape.Idx.first hu)) fun k : Fin n3 => v (ix4 a b d k) := by
  simp only [pointwise]

section Reference

open Cert.AttnRefIdeal Cert.AttnRefIdeal.Gen

/-- An array's rows as heads. -/
abbrev heads (x : FVec Ideal S4096x768 .bf16) : FVec Ideal S2x12x2048x64 .f32 :=
  transpose S2x12x2048x64 [0, 2, 1, 3] (shapeCast _ (extf .f32 x bitsLt_bf16_f32) shapeCasts_S4096x768_S2x2048x12x64)
    transposes_S2x2048x12x64_S2x12x2048x64_0_2_1_3

/-- The scores of queries against keys. -/
abbrev scores (q k : FVec Ideal S2x12x2048x64 .f32) : FVec Ideal S2x12x2048x2048 .f32 :=
  Host.divf (Host.dotGeneral dot_S2x12x2048x64_S2x12x2048x64_S2x12x2048x2048_3_3_2_2_01_01 none q k)
    (broadcastInDim S2x12x2048x2048 ![] bcast_S_S2x12x2048x2048 (Host.sqrt (constant S_ .f32 0x42800000#32)))

/-- Each row's largest score. -/
abbrev largest (s : FVec Ideal S2x12x2048x2048 .f32) : FVec Ideal S2x12x2048 .f32 :=
  maximumf (broadcastInDim S2x12x2048 ![] bcast_S_S2x12x2048 (constant S_ .f32 0xFF800000#32))
    (Host.reduce FloatOps.maximumf s (constant S_ .f32 0xFF800000#32) reducesTo_S2x12x2048x2048_S2x12x2048_d3 h_S_)

/-- A number to each row, along the row. -/
abbrev along (x : FVec Ideal S2x12x2048 .f32) : FVec Ideal S2x12x2048x2048 .f32 :=
  broadcastInDim S2x12x2048x2048 ![0, 1, 2, 3] bcast_S2x12x2048x1_S2x12x2048x2048_0_1_2_3
    (broadcastInDim S2x12x2048x1 ![0, 1, 2] bcast_S2x12x2048_S2x12x2048x1_0_1_2 x)

/-- Each row's sum. -/
abbrev total (e : FVec Ideal S2x12x2048x2048 .f32) : FVec Ideal S2x12x2048 .f32 :=
  Host.reduceAdd e (constant S_ .f32 0x00000000#32) reducesTo_S2x12x2048x2048_S2x12x2048_d3 h_S_

/-- The scores' softmax, each row's largest taken off first. -/
abbrev weights (s : FVec Ideal S2x12x2048x2048 .f32) : FVec Ideal S2x12x2048x2048 .f32 :=
  Host.divf (Host.exp (subf s (along (largest s)))) (along (total (Host.exp (subf s (along (largest s))))))

/-- Weighted values, the heads side by side again. -/
abbrev mixed (w : FVec Ideal S2x12x2048x2048 .f32) (v : FVec Ideal S2x12x2048x64 .f32) : FVec Ideal S4096x768 .bf16 :=
  truncf .bf16 (shapeCast _ (transpose S2x2048x12x64 [0, 2, 1, 3]
    (Host.dotGeneral dot_S2x12x2048x2048_S2x12x2048x64_S2x12x2048x64_3_2_2_3_01_01 none w v)
    transposes_S2x12x2048x64_S2x2048x12x64_0_2_1_3) shapeCasts_S2x2048x12x64_S4096x768) bitsLt_bf16_f32

/-- The reference's attention. -/
def attention (q : FVec Ideal S4096x768 .bf16) (kt : FVec Ideal S768x4096 .bf16) (v : FVec Ideal S4096x768 .bf16) :
    FVec Ideal S4096x768 .bf16 :=
  mixed (weights (scores (heads q) (heads (transpose S4096x768 [1, 0] kt transposes_S768x4096_S4096x768_1_0)))) (heads v)

/-- It is the term the reference's run ends with. -/
theorem res_eq (m : (ℓ : Loc nD τ sig) → Buf (Elt Ideal) ℓ) (c : Dev nD) : Value.res_main_v28 m c
    = attention (m ((c : Thread nD τ).loc main_arg0)) (m ((c : Thread nD τ).loc main_arg1))
      (m ((c : Thread nD τ).loc main_arg2)) := rfl

theorem heads_apply (x : FVec Ideal S4096x768 .bf16) (b : Fin 2) (h : Fin 12) (s : Fin 2048) (d : Fin 64) :
    heads x (ix4 b h s d) = x (ix2 ⟨b.val * 2048 + s.val, by omega⟩ ⟨h.val * 64 + d.val, by omega⟩) := by
  pointwise [heads]

theorem scores_apply (q k : FVec Ideal S2x12x2048x64 .f32) (b : Fin 2) (h : Fin 12) (s t : Fin 2048) :
    scores q k (ix4 b h s t) = Ideal.div (∑ d : Fin 64, q (ix4 b h s d) * k (ix4 b h t d)) (Ideal.sqrt (Ideal.ofBits .f32 0x42800000#32)) := by
  pointwise [scores]

theorem along_apply (x : FVec Ideal S2x12x2048 .f32) (b : Fin 2) (h : Fin 12) (s t : Fin 2048) :
    along x (ix4 b h s t) = x (ix3 b h s) := by
  pointwise [along]

theorem total_apply (S : FVec Ideal S2x12x2048x2048 .f32) (b : Fin 2) (h : Fin 12) (s : Fin 2048) :
    total S (ix3 b h s) = ∑ t : Fin 2048, S (ix4 b h s t) := by
  pointwise [total]

theorem max_apply (S : FVec Ideal S2x12x2048x2048 .f32) (b : Fin 2) (h : Fin 12) (s : Fin 2048) :
    Host.reduce FloatOps.maximumf S (constant (F := Ideal) S_ .f32 0xFF800000#32) reducesTo_S2x12x2048x2048_S2x12x2048_d3 h_S_ (ix3 b h s)
      = Finset.univ.fold max (constant (F := Ideal) S_ .f32 0xFF800000#32 (Shape.Idx.first h_S_)) fun t : Fin 2048 => S (ix4 b h s t) :=
  fold_last S _ _ _ b h s

theorem bottom : Ideal.ofBits .f32 0xFF800000#32 = ⊥ := by
  simp [Ideal.ofBits, Ideal.ieee]

theorem bottom_at (i : S_.Idx) : constant (F := Ideal) S_ .f32 0xFF800000#32 i = (⊥ : EReal) := bottom

theorem bottoms_at (i : S2x12x2048.Idx) :
    broadcastInDim S2x12x2048 ![] bcast_S_S2x12x2048 (constant (F := Ideal) S_ .f32 0xFF800000#32) i = (⊥ : EReal) := bottom

theorem maximumf_at (x y : FVec Ideal S2x12x2048 .f32) (i : S2x12x2048.Idx) : maximumf x y i = max (x i) (y i) := rfl

theorem largest_apply (S : FVec Ideal S2x12x2048x2048 .f32) (b : Fin 2) (h : Fin 12) (s : Fin 2048) :
    largest S (ix3 b h s) = Finset.univ.fold max ⊥ fun t : Fin 2048 => S (ix4 b h s t) := by
  unfold largest
  rw [maximumf_at, bottoms_at, max_apply, bottom_at]
  exact max_eq_right bot_le

theorem exp_at (x y : FVec Ideal S2x12x2048x2048 .f32) (i : S2x12x2048x2048.Idx) :
    Host.exp (subf x y) i = Ideal.exp (x i - y i) := rfl

theorem divf_at (x y : FVec Ideal S2x12x2048x2048 .f32) (i : S2x12x2048x2048.Idx) : Host.divf x y i = Ideal.div (x i) (y i) := rfl

theorem weights_apply (S : FVec Ideal S2x12x2048x2048 .f32) (b : Fin 2) (h : Fin 12) (s t : Fin 2048) : weights S (ix4 b h s t)
    = Ideal.div (Ideal.exp (S (ix4 b h s t) - Finset.univ.fold max ⊥ fun t : Fin 2048 => S (ix4 b h s t)))
      (∑ u : Fin 2048, Ideal.exp (S (ix4 b h s u) - Finset.univ.fold max ⊥ fun t : Fin 2048 => S (ix4 b h s t))) := by
  unfold weights
  simp only [divf_at, along_apply, total_apply, exp_at, largest_apply]

theorem mixed_apply (w : FVec Ideal S2x12x2048x2048 .f32) (v : FVec Ideal S2x12x2048x64 .f32) (i : S4096x768.Idx) :
    mixed w v i = ∑ t : Fin 2048, w (ix4 ⟨(i 0).val / 2048, by have : (i 0).val < 4096 := (i 0).isLt; omega⟩
        ⟨(i 1).val / 64, by have : (i 1).val < 768 := (i 1).isLt; omega⟩ ⟨(i 0).val % 2048, by omega⟩ t)
      * v (ix4 ⟨(i 0).val / 2048, by have : (i 0).val < 4096 := (i 0).isLt; omega⟩
        ⟨(i 1).val / 64, by have : (i 1).val < 768 := (i 1).isLt; omega⟩ t ⟨(i 1).val % 64, by omega⟩) := by
  pointwise [mixed]

theorem eighth : Ideal.ofBits .f32 0x3E000000#32 = ((1 / 8 : ℝ) : EReal) := by
  simp [Ideal.ofBits, Ideal.ieee, -EReal.coe_mul]
  norm_num

/-- The root of a head's width divides as an eighth multiplies. -/
theorem div_width (x : EReal) : Ideal.div x (Ideal.sqrt (Ideal.ofBits .f32 0x42800000#32)) = x * Ideal.ofBits .f32 0x3E000000#32 := by
  have h64 : Ideal.ofBits .f32 0x42800000#32 = ((64 : ℝ) : EReal) := by
    simp [Ideal.ofBits, Ideal.ieee, -EReal.coe_mul]
    norm_num
  have hr : Real.sqrt 64 = 8 := by
    rw [show (64 : ℝ) = 8 * 8 by norm_num, Real.sqrt_mul_self (by norm_num)]
  rw [h64, eighth, Ideal.sqrt_coe, if_neg (by norm_num), hr, Ideal.div_coe (by norm_num)]

/-- Each score is an eighth of the product of two heads' rows. -/
theorem score_eq (q : FVec Ideal S4096x768 .bf16) (kt : FVec Ideal S768x4096 .bf16) (b : Fin 2) (h : Fin 12) (s t : Fin 2048) :
    scores (heads q) (heads (transpose S4096x768 [1, 0] kt transposes_S768x4096_S4096x768_1_0)) (ix4 b h s t)
      = (∑ d : Fin 64, q (ix2 ⟨b.val * 2048 + s.val, by omega⟩ ⟨h.val * 64 + d.val, by omega⟩)
        * kt (ix2 ⟨h.val * 64 + d.val, by omega⟩ ⟨b.val * 2048 + t.val, by omega⟩)) * Ideal.ofBits .f32 0x3E000000#32 := by
  rw [scores_apply, div_width]
  refine congrArg (· * _) (Finset.sum_congr rfl fun d _ => ?_)
  rw [heads_apply, heads_apply]
  refine congrArg (_ * ·) ?_
  pointwise []

/-- The reference's result at an index, for finite queries and keys. -/
theorem attention_apply (q : FVec Ideal S4096x768 .bf16) (kt : FVec Ideal S768x4096 .bf16) (v : FVec Ideal S4096x768 .bf16)
    (hq : ∀ i, ∃ r : ℝ, q i = (r : EReal)) (hk : ∀ i, ∃ r : ℝ, kt i = (r : EReal)) (i : S4096x768.Idx) : attention q kt v i
    = Softmax.mix (fun t : Fin 2048 => (∑ d : Fin 64,
          q (ix2 (i 0) ⟨(i 1).val / 64 * 64 + d.val, by have : (i 1).val < 768 := (i 1).isLt; omega⟩)
          * kt (ix2 ⟨(i 1).val / 64 * 64 + d.val, by have : (i 1).val < 768 := (i 1).isLt; omega⟩
              ⟨(i 0).val / 2048 * 2048 + t.val, by have : (i 0).val < 4096 := (i 0).isLt; omega⟩))
          * Ideal.ofBits .f32 0x3E000000#32)
        (fun t : Fin 2048 => v (ix2 ⟨(i 0).val / 2048 * 2048 + t.val, by have : (i 0).val < 4096 := (i 0).isLt; omega⟩ (i 1))) := by
  have hs : ∀ (b : Fin 2) (h : Fin 12) (s t : Fin 2048), ∃ r : ℝ,
      scores (heads q) (heads (transpose S4096x768 [1, 0] kt transposes_S768x4096_S4096x768_1_0)) (ix4 b h s t) = (r : EReal) := by
    intro b h s t
    obtain ⟨r, hr⟩ := Softmax.real_sum_mul (fun d : Fin 64 => hq (ix2 ⟨b.val * 2048 + s.val, by omega⟩ ⟨h.val * 64 + d.val, by omega⟩))
      (fun d : Fin 64 => hk (ix2 ⟨h.val * 64 + d.val, by omega⟩ ⟨b.val * 2048 + t.val, by omega⟩))
    exact ⟨r * (1 / 8), by rw [score_eq, hr, eighth, EReal.coe_mul]⟩
  unfold attention
  rw [mixed_apply]
  simp only [weights_apply]
  refine (Softmax.sum_weights (n := 2047) _ _ (fun t => hs _ _ _ t) (Softmax.real_max _ fun t => hs _ _ _ t)).trans ?_
  refine congrArg₂ Softmax.mix (funext fun t => ?_) (funext fun t => ?_)
  · rw [score_eq]
    refine congrArg (· * _) (Finset.sum_congr rfl fun d _ => ?_)
    refine congrArg (fun r => q r * _) (congrArg (fun r => ix2 r _) (Fin.ext ?_))
    show (i 0).val / 2048 * 2048 + (i 0).val % 2048 = (i 0).val
    omega
  · rw [heads_apply]
    refine congrArg v (congrArg (ix2 _) (Fin.ext ?_))
    show (i 1).val / 64 * 64 + (i 1).val % 64 = (i 1).val
    omega

end Reference

open Cert.AttnIdeal Cert.AttnIdeal.Gen

/-- One head of the body's pair. -/
abbrev half (q : FVec Ideal S1024x64 .bf16) (k : FVec Ideal S64x2048 .bf16) (v : FVec Ideal S2048x64 .bf16) : FVec Ideal S1024x64 .f32 :=
  have e : FVec Ideal S1024x2048 .f32 := exp (mulf (matmul dot_S1024x64_S64x2048_S1024x2048_1_0_0_1_n_n none q k
    (constant (F := Ideal) S1024x2048 .f32 0x00000000#32)) (broadcast S1024x2048 (Scalar.ofBits (F := Ideal) .f32 0x3E000000#32)))
  divf (matmul dot_S1024x2048_S2048x64_S1024x64_1_0_0_1_n_n none (truncf .bf16 e bitsLt_bf16_f32) v
      (constant (F := Ideal) S1024x64 .f32 0x00000000#32))
    (broadcastTo S1024x64 (shapeCast S1024x1 (multiReduction .add [1] S1024 e 0x00000000#32 reduces_S1024x2048_S1024 (.inl rfl) rfl)
      shapeCasts_S1024_S1024x1) broadcasts_S1024x1_S1024x64)

theorem half_apply (q : FVec Ideal S1024x64 .bf16) (k : FVec Ideal S64x2048 .bf16) (v : FVec Ideal S2048x64 .bf16) (j : S1024x64.Idx) :
    half q k v j = Softmax.mix (fun t : Fin 2048 => (∑ d : Fin 64, q (ix2 (j 0) d) * k (ix2 d t)) * Ideal.ofBits .f32 0x3E000000#32)
      (fun t : Fin 2048 => v (ix2 t (j 1))) := by
  pointwise [half, Softmax.mix]

theorem pay_halves (x0 : Vec Ideal S1024x128 .bf16) (x1 : Vec Ideal S128x2048 .bf16) (x2 : Vec Ideal S2048x128 .bf16) : k0_pay1 x0 x1 x2
    = truncf .bf16 (concatenate S1024x128 1
      [⟨S1024x64, half (extractStridedSlice S1024x64 ![0, 0] x0 slices_S1024x128_o0_0_S1024x64)
        (extractStridedSlice S64x2048 ![0, 0] x1 slices_S128x2048_o0_0_S64x2048)
        (extractStridedSlice S2048x64 ![0, 0] x2 slices_S2048x128_o0_0_S2048x64)⟩,
       ⟨S1024x64, half (extractStridedSlice S1024x64 ![0, 64] x0 slices_S1024x128_o0_64_S1024x64)
        (extractStridedSlice S64x2048 ![64, 0] x1 slices_S128x2048_o64_0_S64x2048)
        (extractStridedSlice S2048x64 ![0, 64] x2 slices_S2048x128_o0_64_S2048x64)⟩]
      concatenates_S1024x64_S1024x64_S1024x128_d1) bitsLt_bf16_f32 := rfl

theorem beside (a b : FVec Ideal S1024x64 .f32) (j : S1024x128.Idx) : (truncf .bf16 (concatenate S1024x128 1
      [⟨S1024x64, a⟩, ⟨S1024x64, b⟩] concatenates_S1024x64_S1024x64_S1024x128_d1) bitsLt_bf16_f32 : FVec Ideal S1024x128 .bf16) j
    = if h : (j 1).val < 64 then a (ix2 (j 0) ⟨(j 1).val, h⟩)
      else b (ix2 (j 0) ⟨(j 1).val - 64, by have : (j 1).val < 128 := (j 1).isLt; omega⟩) := by
  pointwise []

theorem left_query (x : Vec Ideal S1024x128 .bf16) (a : Fin 1024) (d : Fin 64) :
    extractStridedSlice S1024x64 ![0, 0] x slices_S1024x128_o0_0_S1024x64 (ix2 a d) = x (ix2 a ⟨d.val, by omega⟩) := by
  pointwise []

theorem left_key (x : Vec Ideal S128x2048 .bf16) (d : Fin 64) (t : Fin 2048) :
    extractStridedSlice S64x2048 ![0, 0] x slices_S128x2048_o0_0_S64x2048 (ix2 d t) = x (ix2 ⟨d.val, by omega⟩ t) := by
  pointwise []

theorem left_value (x : Vec Ideal S2048x128 .bf16) (t : Fin 2048) (d : Fin 64) :
    extractStridedSlice S2048x64 ![0, 0] x slices_S2048x128_o0_0_S2048x64 (ix2 t d) = x (ix2 t ⟨d.val, by omega⟩) := by
  pointwise []

theorem right_query (x : Vec Ideal S1024x128 .bf16) (a : Fin 1024) (d : Fin 64) :
    extractStridedSlice S1024x64 ![0, 64] x slices_S1024x128_o0_64_S1024x64 (ix2 a d) = x (ix2 a ⟨64 + d.val, by omega⟩) := by
  pointwise []

theorem right_key (x : Vec Ideal S128x2048 .bf16) (d : Fin 64) (t : Fin 2048) :
    extractStridedSlice S64x2048 ![64, 0] x slices_S128x2048_o64_0_S64x2048 (ix2 d t) = x (ix2 ⟨64 + d.val, by omega⟩ t) := by
  pointwise []

theorem right_value (x : Vec Ideal S2048x128 .bf16) (t : Fin 2048) (d : Fin 64) :
    extractStridedSlice S2048x64 ![0, 64] x slices_S2048x128_o0_64_S2048x64 (ix2 t d) = x (ix2 t ⟨64 + d.val, by omega⟩) := by
  pointwise []

/-- The body's block at an index: the head its column lies in. -/
theorem pay_apply (x0 : Vec Ideal S1024x128 .bf16) (x1 : Vec Ideal S128x2048 .bf16) (x2 : Vec Ideal S2048x128 .bf16) (j : S1024x128.Idx) :
    k0_pay1 x0 x1 x2 j = Softmax.mix (fun t : Fin 2048 => (∑ d : Fin 64,
          x0 (ix2 (j 0) ⟨(j 1).val / 64 * 64 + d.val, by have : (j 1).val < 128 := (j 1).isLt; omega⟩)
          * x1 (ix2 ⟨(j 1).val / 64 * 64 + d.val, by have : (j 1).val < 128 := (j 1).isLt; omega⟩ t)) * Ideal.ofBits .f32 0x3E000000#32)
        (fun t : Fin 2048 => x2 (ix2 t (j 1))) := by
  have hj : (j 1).val < 128 := (j 1).isLt
  rw [pay_halves, beside]
  split
  · next h =>
    have e : ∀ d : Fin 64, (j 1).val / 64 * 64 + d.val = d.val := fun d => by omega
    rw [half_apply]
    refine congrArg₂ Softmax.mix (funext fun t => congrArg (· * _) (Finset.sum_congr rfl fun d _ => ?_)) (funext fun t => ?_)
    · refine (congrArg₂ (· * ·) (left_query _ _ _) (left_key _ _ _)).trans ?_
      simp only [e]
      rfl
    · exact left_value _ _ _
  · next h =>
    have e : ∀ d : Fin 64, (j 1).val / 64 * 64 + d.val = 64 + d.val := fun d => by omega
    rw [half_apply]
    refine congrArg₂ Softmax.mix (funext fun t => congrArg (· * _) (Finset.sum_congr rfl fun d _ => ?_)) (funext fun t => ?_)
    · refine (congrArg₂ (· * ·) (right_query _ _ _) (right_key _ _ _)).trans ?_
      simp only [e]
      rfl
    · refine (right_value _ _ _).trans (congrArg x2 (congrArg (ix2 t) (Fin.ext ?_)))
      show 64 + ((j 1).val - 64) = (j 1).val
      omega

variable (m : (ℓ : Loc nD τ sig) → Buf (Elt Ideal) ℓ)

/-- Where each point's blocks lie. -/
theorem idx : ∀ t : Fin cfg0.N, win0_0.index t = ![t.val / 12 * 2 + t.val % 2, t.val / 2 % 6] ∧ win0_1.index t = ![t.val / 2 % 6, t.val / 12]
    ∧ win0_2.index t = ![t.val / 12, t.val / 2 % 6] ∧ win0_3.index t = ![t.val / 12 * 2 + t.val % 2, t.val / 2 % 6] :=
  (by decide +kernel : ∀ t : Fin grid0.N, _)
/-- The result array after the run, for finite queries and keys. -/
theorem final (c : Dev nD) (hq : ∀ i, ∃ r : ℝ, m ((c : Thread nD τ).loc main_arg0) i = (r : EReal))
    (hk : ∀ i, ∃ r : ℝ, m ((c : Thread nD τ).loc main_arg1) i = (r : EReal)) : (dats m 0 c).arrAt 3 cfg0.N
    = attention (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  refine (pay_apply _ _ _ _).trans (Eq.trans ?_ (attention_apply _ _ _ hq hk _).symm)
  refine congrArg₂ Softmax.mix (funext fun s => congrArg (· * _) (Finset.sum_congr rfl fun d _ => congrArg₂ (· * ·) ?_ ?_)) (funext fun s => ?_)
  · blk_ext [iblk, V_main_arg0, idx t]
  · blk_ext [iblk, V_main_arg1, idx t]
  · blk_ext [iblk, V_main_arg2, idx t]

end Cert.Proof.Attn

end
-- ==== Proof.AttnClaims.lean ====
/-
  The claims of the attention. Its value claim has a precondition, that queries and keys are finite.
-/
module

public import proofs.«01_k».proof.Defs
public import proofs.«01_k».proof.Proof.Gen.Attn
public import proofs.«01_k».proof.Proof.Attn
public import proofs.«01_k».proof.Proof.Gen.Pre_finite_queries_keys
public import Idealize.ShloMosaic.Lib.Quiescent
public import Idealize.ShloMosaic.Lib.ReduceAll
public import Idealize.ShloMosaic.Lib.WordCmp

@[expose] public section

noncomputable section

namespace Cert.Proof

open Idealize.ShloMosaic Idealize.ShloMosaic.TcCoe Idealize.SL.Sem

instance flag : Subsingleton Cert.Pre_finite_queries_keys.S_.Idx := ⟨fun _ _ => funext fun a => a.elim0⟩

theorem infinite : Ideal.ofBits .bf16 0x7F80#16 = ⊤ := by simp [Ideal.ofBits, Ideal.ieee]

/-- A number whose absolute value compares below infinity is real. -/
theorem real_of_below {x : EReal} (h : FloatOps.cmpf (F := Ideal) (φ := .bf16) .olt (FloatOps.absf (F := Ideal) (φ := .bf16) x)
    (Ideal.ofBits .bf16 0x7F80#16) = 1#1) : ∃ r : ℝ, x = (r : EReal) := by
  rw [infinite] at h
  exact Softmax.real_of_abs ((WordCmp.ofBool_decide_eq_one_iff _).mp h)

/-- The precondition says of each query and of each key that it is real. -/
theorem real_queries_keys [Cert.Pre_finite_queries_keys.Facts] (q : Cert.Pre_finite_queries_keys.S4096x768.Idx → Elt Ideal .bf16)
    (k : Cert.Pre_finite_queries_keys.S768x4096.Idx → Elt Ideal .bf16) (v : Cert.Pre_finite_queries_keys.S4096x768.Idx → Elt Ideal .bf16)
    (h : Cert.Pre_finite_queries_keys.fn (F := Ideal) q k v = fun _ => 1#1) :
    (∀ i, ∃ r : ℝ, q i = (r : EReal)) ∧ ∀ i, ∃ r : ℝ, k i = (r : EReal) := by
  have e := congrFun h fun a => a.elim0
  obtain ⟨hq, hk⟩ := IntOp.andi_eq_one.mp e
  exact ⟨fun i => real_of_below (Host.reduce_andi_all _ _ _ _ _ hq i), fun i => real_of_below (Host.reduce_andi_all _ _ _ _ _ hk i)⟩

/-- The two body tables are one. -/
theorem defs_attn : Cert.Attn.defs (F := Bits) = Cert.AttnIdeal.defs (F := Bits) :=
  congrArg (Pipeline.defs _) (congrArg Defs.onTc (funext fun k => funext fun a => match k, a with
    | ⟨0, _⟩, _ => rfl
    | ⟨_ + 1, h⟩, _ => absurd h (by omega)))

theorem frame_attn : Cert.quiescent_Attn := fun m ρ _ => defs_attn ▸ Cert.AttnIdeal.Gen.frame (F := Bits) m ρ

theorem frame_attnIdeal : Cert.quiescent_AttnIdeal := fun m ρ _ => Cert.AttnIdeal.Gen.frame (F := Ideal) m ρ

theorem frame_attnIdeal_finite : Cert.quiescent_AttnIdeal_pre_finite_queries_keys := fun m ρ _ => frame_attnIdeal m ρ (by trivial)

theorem frame_attnRefIdeal : Cert.quiescent_AttnRefIdeal := fun m ρ _ =>
  (θ_run (Cert.AttnRefIdeal.defs (F := Ideal)) _ _).mono
    (fun r h => ⟨fun c => (h c).2, sem_eq_zero_of_no_sems (by decide) r.2⟩) (Cert.AttnRefIdeal.Value.run (F := Ideal) m ρ)

theorem frame_attnRefIdeal_finite : Cert.quiescent_AttnRefIdeal_pre_finite_queries_keys := fun m ρ _ =>
  frame_attnRefIdeal m ρ (by trivial)

theorem algebraic_attn : Cert.algebraic_AttnIdeal_AttnRefIdeal_pre_finite_queries_keys := by
  intro m ρ m' ρ' hpre hagree
  refine ⟨_,
    (θ_run (Cert.AttnIdeal.defs (F := Ideal)) _ _).mono (fun _ h c =>
        ⟨(h c).1.trans (Attn.final m c (real_queries_keys _ _ _ (hpre c)).1 (real_queries_keys _ _ _ (hpre c)).2), (h c).2⟩)
      (Cert.AttnIdeal.Value.run_blocks (F := Ideal) m ρ),
    (θ_run (Cert.AttnRefIdeal.defs (F := Ideal)) _ _).mono (fun _ h c => ?_) (Cert.AttnRefIdeal.Value.run (F := Ideal) m' ρ')⟩
  obtain ⟨a0, a1, a2⟩ := hagree c
  exact ⟨(h c).1.trans ((Attn.res_eq m' c).trans (by rw [a0, a1, a2])), (h c).2⟩

end Cert.Proof

end
-- ==== Proof.Pick.lean ====
/-
  The greatest of a row, one after the other. A stable sort by "greater first" puts at each place the greatest of the positions
  left, the first among equals; so does taking the first greatest and overwriting it, with a number below them all, once for
  each place.
-/
module

public import Idealize.ShloMosaic.PureOps
public import Idealize.ShloMosaic.Lib.SortFacts
public import Mathlib.Data.EReal.Basic
public import Mathlib.Data.Finset.Fold

@[expose] public section

noncomputable section

namespace Cert.Proof.Pick

open Idealize.ShloMosaic

variable {n : ℕ} (x : Fin n → EReal)

/-- The order of a stable sort, greater first: of equals, the first. -/
def Ahead (a b : Fin n) : Prop := x b < x a ∨ x a = x b ∧ a < b

def greater (a b : Fin n) : Bool := decide (x b < x a)

theorem mem_insert {a c : Fin n} {l : List (Fin n)} (h : c ∈ insertBefore (greater x) a l) : c = a ∨ c ∈ l := by
  induction l with
  | nil => exact Or.inl (List.mem_singleton.mp h)
  | cons b l ih =>
    unfold insertBefore at h
    split at h
    · rcases List.mem_cons.mp h with rfl | h
      · exact Or.inr List.mem_cons_self
      · exact (ih h).imp_right (List.mem_cons_of_mem _)
    · exact List.mem_cons.mp h

theorem pairwise_insert {a : Fin n} {l : List (Fin n)} (ha : ∀ b ∈ l, a < b) (hl : l.Pairwise (Ahead x)) :
    (insertBefore (greater x) a l).Pairwise (Ahead x) := by
  induction l with
  | nil => exact List.pairwise_singleton _ _
  | cons b l ih =>
    obtain ⟨hb, hl⟩ := List.pairwise_cons.mp hl
    unfold insertBefore
    split
    · next h =>
      refine List.pairwise_cons.mpr ⟨fun c hc => ?_, ih (fun c hc => ha c (List.mem_cons_of_mem _ hc)) hl⟩
      rcases mem_insert x hc with rfl | hc
      · exact Or.inl (of_decide_eq_true h)
      · exact hb c hc
    · next h =>
      have hab : x b ≤ x a := not_lt.mp fun e => h (decide_eq_true e)
      refine List.pairwise_cons.mpr ⟨fun c hc => ?_, List.pairwise_cons.mpr ⟨hb, hl⟩⟩
      have hca : x c ≤ x a := by
        rcases List.mem_cons.mp hc with rfl | hc
        · exact hab
        · exact (hb c hc).elim (fun e => e.le.trans hab) fun e => e.1.ge.trans hab
      exact hca.lt_or_eq.imp id fun e => ⟨e.symm, ha c hc⟩

theorem pairwise_sort (l : List (Fin n)) (hl : l.Pairwise (· < ·)) : (stableSort (greater x) l).Pairwise (Ahead x) := by
  induction l with
  | nil => exact List.Pairwise.nil
  | cons a l ih =>
    obtain ⟨ha, hl⟩ := List.pairwise_cons.mp hl
    refine pairwise_insert x (fun b hb => ha b ?_) (ih hl)
    have : ∀ (l : List (Fin n)) (b : Fin n), b ∈ stableSort (greater x) l → b ∈ l := by
      intro l
      induction l with
      | nil => exact fun _ h => h
      | cons a l ih => exact fun b h => (mem_insert x h).elim (fun e => e ▸ List.mem_cons_self) fun h => List.mem_cons_of_mem _ (ih b h)
    exact this l b hb

/-- The position of the `k`-th greatest. -/
def nth (k : Fin n) : Fin n := sortedFrom (greater x) k

theorem nth_ahead {i j : Fin n} (h : i < j) : Ahead x (nth x i) (nth x j) :=
  List.pairwise_iff_get.mp (pairwise_sort x _ (List.pairwise_lt_finRange n)) _ _ h

theorem nth_injective : Function.Injective (nth x) := sortedFrom_injective _

theorem nth_surjective : Function.Surjective (nth x) := sortedFrom_surjective _

/-- The row with the `r` greatest overwritten. -/
def rest (c : EReal) (r : ℕ) (q : Fin n) : EReal := open Classical in if ∃ j : Fin n, j.val < r ∧ nth x j = q then c else x q

theorem rest_zero (c : EReal) : rest x c 0 = x := funext fun q => if_neg fun ⟨_, h, _⟩ => absurd h (Nat.not_lt_zero _)

theorem rest_succ (c : EReal) (r : Fin n) (q : Fin n) : rest x c (r.val + 1) q = if q = nth x r then c else rest x c r.val q := by
  unfold rest
  by_cases h : q = nth x r
  · rw [if_pos h, if_pos ⟨r, by omega, h.symm⟩]
  · rw [if_neg h]
    refine if_congr ⟨fun ⟨j, hj, e⟩ => ⟨j, ?_, e⟩, fun ⟨j, hj, e⟩ => ⟨j, by omega, e⟩⟩ rfl rfl
    have : j.val ≠ r.val := fun e' => h (e.symm.trans (congrArg _ (Fin.ext e')))
    omega

theorem rest_nth (c : EReal) (r : Fin n) : rest x c r.val (nth x r) = x (nth x r) :=
  if_neg fun ⟨j, hj, e⟩ => absurd (congrArg Fin.val (nth_injective x e)) (by omega)

/-- What is left is at most the next, and equal only from the next's position on. -/
theorem rest_le {c : EReal} (hc : ∀ q, c < x q) (r q : Fin n) :
    rest x c r.val q ≤ x (nth x r) ∧ (rest x c r.val q = x (nth x r) → nth x r ≤ q) := by
  by_cases h : ∃ j : Fin n, j.val < r.val ∧ nth x j = q
  · have e : rest x c r.val q = c := if_pos h
    rw [e]
    exact ⟨(hc _).le, fun e => absurd e (hc _).ne⟩
  · have e : rest x c r.val q = x q := if_neg h
    rw [e]
    obtain ⟨j, rfl⟩ := nth_surjective x q
    have hj : r ≤ j := not_lt.mp fun hj => h ⟨j, hj, rfl⟩
    rcases hj.lt_or_eq with hj | rfl
    · rcases nth_ahead x hj with h | h
      · exact ⟨h.le, fun e => absurd e h.ne⟩
      · exact ⟨h.1.ge, fun _ => h.2.le⟩
    · exact ⟨le_rfl, fun _ => le_rfl⟩

/-- The greatest of what is left is the next. -/
theorem fold_rest {c : EReal} (hc : ∀ q, c < x q) (r : Fin n) : Finset.univ.fold max ⊥ (rest x c r.val) = x (nth x r) := by
  refine le_antisymm ?_ ?_
  · exact (Finset.fold_max_le _).mpr ⟨bot_le, fun q _ => (rest_le x hc r q).1⟩
  · exact (Finset.le_fold_max _).mpr (Or.inr ⟨nth x r, Finset.mem_univ _, (rest_nth x c r).ge⟩)

end Cert.Proof.Pick

end
-- ==== Proof.TopK.lean ====
/-
  The value of `_topk_softmax`. A round takes each row's greatest, its first position, and overwrites that entry; the rows
  after `r` rounds are those with the `r` greatest overwritten (Proof/Pick.lean), so eight rounds take the reference's eight,
  in its order, and the softmax over them is one term on both sides.
-/
module

public import proofs.«01_k».proof.Proof.Gen.TopKIdeal.Value
public import proofs.«01_k».proof.Proof.Gen.TopKRefIdeal.Run
public import proofs.«01_k».proof.Proof.Pick
public import Idealize.ShloMosaic.Lib.Pipeline.ValueKit
public import Idealize.ShloMosaic.Lib.WordCmp

@[expose] public section

set_option maxRecDepth 16384

noncomputable section

namespace Cert.Proof.TopK

open Idealize.ShloMosaic Idealize.ShloMosaic.TcCoe Idealize.SL.Sem

/-- The comparison the reference sorts by is `Pick.greater`. -/
theorem before_eq {n : ℕ} (x : Fin n → EReal) :
    (fun p q : Fin n => FloatOps.cmpfTotal (F := Ideal) (φ := .f32) .gt (x p) (x q) == 1#1) = Pick.greater x := by
  funext p q
  show (BitVec.ofBool (decide (x q < x p)) == 1#1) = decide (x q < x p)
  cases decide (x q < x p) <;> rfl

/-- A word that occurs among `f`, and is the least of them and of `b`, is what the signed minimum of them all leaves. -/
theorem fold_minsi {n : ℕ} (f : Fin n → BitVec 32) (b : BitVec 32) (p : Fin n) (hb : (f p).toInt ≤ b.toInt)
    (hf : ∀ q, (f p).toInt ≤ (f q).toInt) : Finset.univ.fold IntOp.minsi b f = f p := by
  have hom : ∀ u v : BitVec 32, (IntOp.minsi u v).toInt = min u.toInt v.toInt := by
    intro u v
    unfold IntOp.minsi
    by_cases h : u.toInt < v.toInt
    · rw [if_pos (by simpa [BitVec.slt] using h), min_eq_left h.le]
    · rw [if_neg (by simpa [BitVec.slt] using h), min_eq_right (not_lt.mp h)]
  refine BitVec.eq_of_toInt_eq ?_
  rw [← Finset.fold_hom (op' := min) (m := BitVec.toInt) hom]
  exact le_antisymm ((Finset.fold_min_le _).mpr (Or.inr ⟨p, Finset.mem_univ _, le_rfl⟩))
    ((Finset.le_fold_min _).mpr ⟨hb, fun q _ => hf q⟩)

/-- A row of a two-dimensional array. -/
def row {m n : ℕ} (s : FVec Ideal ⟨2, ![m, n]⟩ .f32) (a : Fin m) (q : Fin n) : EReal := s (ix2 a q)

section Reference

theorem along_ix2 {m n : ℕ} (a : Fin m) (k q : Fin n) :
    Shape.Idx.along (s := ⟨2, ![m, n]⟩) (ix2 a k) 1 q = ix2 a q := by
  funext i
  match i with
  | ⟨0, _⟩ => rfl
  | ⟨1, _⟩ => rfl

/-- The whole rows sorted, each entry with its position. -/
def sorted {m n : ℕ} (s : FVec Ideal ⟨2, ![m, n]⟩ .f32) :=
  Host.sort2 ⟨2, ![m, n]⟩ 1 (fun l r => FloatOps.cmpfTotal (F := Ideal) (φ := .f32) .gt l.1 r.1) s
    fun i => BitVec.ofNat 32 (i 1).val

/-- What `top_k` reads in row `a`, column `k`: what the row's `k`-th greatest is, and where it stands. -/
theorem topK_apply {m n r : ℕ} (s : FVec Ideal ⟨2, ![m, n]⟩ .f32) (hr : r ≤ n)
    (h : (⟨2, ![m, n]⟩ : Shape).Slices (fun _ => 0) ⟨2, ![m, r]⟩) (a : Fin m) (k : Fin r) :
    (Host.topK ⟨2, ![m, r]⟩ 1 (FloatOps.cmpfTotal .gt) s h).1 (ix2 a k) = row s a (Pick.nth (row s a) (k.castLE hr))
    ∧ (Host.topK ⟨2, ![m, r]⟩ 1 (FloatOps.cmpfTotal .gt) s h).2 (ix2 a k) = BitVec.ofNat 32 (Pick.nth (row s a) (k.castLE hr)).val := by
  have hi : ((fun d => ⟨0 + (ix2 a k (d.cast h.1.symm)).val,
      Nat.lt_of_lt_of_le (Nat.add_lt_add_left (ix2 a k _).isLt _) (h.2 d)⟩) : (⟨2, ![m, n]⟩ : Shape).Idx)
      = ix2 a (k.castLE hr) := by
    funext d
    match d with
    | ⟨0, _⟩ => exact Fin.ext (Nat.zero_add _)
    | ⟨1, _⟩ => exact Fin.ext (Nat.zero_add _)
  have hs : sortedFrom (fun p q : Fin n => FloatOps.cmpfTotal (F := Ideal) (φ := .f32) .gt
      (s ((ix2 a (k.castLE hr)).along 1 p)) (s ((ix2 a (k.castLE hr)).along 1 q)) == 1#1) (k.castLE hr)
      = Pick.nth (row s a) (k.castLE hr) := by
    refine Eq.trans ?_ (congrArg (fun f => sortedFrom f (k.castLE hr)) (before_eq (row s a)))
    refine congrArg (fun f => sortedFrom f (k.castLE hr)) ?_
    funext p q
    rw [along_ix2, along_ix2]; rfl
  unfold Host.topK extractStridedSlice
  constructor
  · refine (congrArg (sorted s).1 hi).trans ?_
    exact (congrArg (fun p : Fin n => s (Shape.Idx.along (s := ⟨2, ![m, n]⟩) (ix2 a (k.castLE hr)) 1 p)) hs).trans
      (congrArg s (along_ix2 a (k.castLE hr) _))
  · refine (congrArg (sorted s).2 hi).trans ?_
    exact (congrArg (fun p : Fin n => BitVec.ofNat 32 (Shape.Idx.along (s := ⟨2, ![m, n]⟩) (ix2 a (k.castLE hr)) 1 p 1).val) hs).trans
      (congrArg (fun i : (⟨2, ![m, n]⟩ : Shape).Idx => BitVec.ofNat 32 (i 1).val) (along_ix2 a (k.castLE hr) _))

end Reference

section
open Cert.TopKIdeal Cert.TopKIdeal.Gen

/-- Each row's greatest. -/
def top (s : FVec Ideal S2x65536 .f32) : FVec Ideal S2x1 .f32 :=
  shapeCast S2x1 (multiReduction .maximumf [1] S2 s 0xFF800000#32 reduces_S2x65536_S2 (.inl rfl) rfl) shapeCasts_S2_S2x1

/-- Each entry's column. -/
def columns : IVec S2x65536 32 := iota .tc S2x65536 32 [1] iota_S2x65536_d1_w32

/-- The column of each entry that equals its row's greatest; elsewhere a number that is no column's. -/
def flags (s : FVec Ideal S2x65536 .f32) : IVec S2x65536 32 :=
  select (cmpf .oeq s (broadcastTo S2x65536 (top s) broadcasts_S2x1_S2x65536)) columns (broadcast S2x65536 65536#32)

/-- Where each row's greatest stands first. -/
def place (s : FVec Ideal S2x65536 .f32) : IVec S2x1 32 :=
  shapeCast S2x1 (multiReductionI .minsi [1] S2 (flags s) 2147483647#32 reduces_S2x65536_S2 rfl) shapeCasts_S2_S2x1

/-- What an entry is overwritten with once chosen. -/
def under : EReal := Ideal.ofBits .f32 0xF149F2CA#32

/-- The rows, each one's greatest overwritten. -/
def mask (s : FVec Ideal S2x65536 .f32) : FVec Ideal S2x65536 .f32 :=
  select (cmpi .eq columns (broadcastTo S2x65536 (place s) broadcasts_S2x1_S2x65536)) (broadcast S2x65536 (Scalar.ofBits (F := Ideal) .f32 0xF149F2CA#32)) s

theorem lowest : Ideal.ofBits .f32 0xFF800000#32 = ⊥ := by simp [Ideal.ofBits, Ideal.ieee]

theorem top_apply (s : FVec Ideal S2x65536 .f32) (a : Fin 2) :
    top s (ix2 a (0 : Fin 1)) = Finset.univ.fold max (Ideal.ofBits .f32 0xFF800000#32) (fun q : Fin 65536 => s (ix2 a q)) := by
  pointwise [top]

theorem flags_apply (s : FVec Ideal S2x65536 .f32) (a : Fin 2) (q : Fin 65536) :
    flags s (ix2 a q) = if s (ix2 a q) = top s (ix2 a (0 : Fin 1)) then BitVec.ofNat 32 q.val else 65536#32 := by
  pointwise [flags, columns]

theorem place_apply (s : FVec Ideal S2x65536 .f32) (a : Fin 2) :
    place s (ix2 a (0 : Fin 1)) = Finset.univ.fold IntOp.minsi 2147483647#32 (fun q : Fin 65536 => flags s (ix2 a q)) := by
  pointwise [place]

theorem mask_apply (s : FVec Ideal S2x65536 .f32) (a : Fin 2) (q : Fin 65536) :
    mask s (ix2 a q) = Scalar.select (IntOp.cmpi .eq (BitVec.ofNat 32 q.val) (place s (ix2 a (0 : Fin 1)))) under (s (ix2 a q)) := by
  pointwise [mask, columns, under]

/-- One round on a row `x` with its `r` greatest overwritten takes the next one, its position, and overwrites it. -/
theorem round {s : FVec Ideal S2x65536 .f32} {a : Fin 2} {x : Fin 65536 → EReal} (hx : ∀ q, under < x q) (r : Fin 65536)
    (h : ∀ q, s (ix2 a q) = Pick.rest x under r.val q) :
    top s (ix2 a (0 : Fin 1)) = x (Pick.nth x r) ∧ place s (ix2 a (0 : Fin 1)) = BitVec.ofNat 32 (Pick.nth x r).val
    ∧ ∀ q, mask s (ix2 a q) = Pick.rest x under (r.val + 1) q := by
  have ht : top s (ix2 a (0 : Fin 1)) = x (Pick.nth x r) := by
    rw [top_apply, lowest, ← Pick.fold_rest x hx r]
    exact congrArg (Finset.univ.fold max ⊥) (funext h)
  have int : ∀ q : Fin 65536, (BitVec.ofNat 32 q.val).toInt = (q.val : ℤ) := fun q => WordCmp.toInt_ofNat_of_lt (by omega)
  have hf : flags s (ix2 a (Pick.nth x r)) = BitVec.ofNat 32 (Pick.nth x r).val := by
    rw [flags_apply, ht, h, if_pos (Pick.rest_nth x under r)]
  have hp : place s (ix2 a (0 : Fin 1)) = BitVec.ofNat 32 (Pick.nth x r).val := by
    rw [place_apply, ← hf]
    refine fold_minsi (fun q => flags s (ix2 a q)) _ (Pick.nth x r) ?_ fun q => ?_
    · show (flags s _).toInt ≤ _
      rw [hf, int]
      exact le_trans (Int.ofNat_le.mpr (Nat.le_of_lt (Pick.nth x r).isLt)) (by decide)
    · show (flags s _).toInt ≤ (flags s _).toInt
      rw [hf, int, flags_apply, ht, h]
      split
      next e => rw [int]; exact Int.ofNat_le.mpr ((Pick.rest_le x hx r q).2 e)
      next => exact Int.ofNat_le.mpr (Nat.le_of_lt (Pick.nth x r).isLt)
  refine ⟨ht, hp, fun q => ?_⟩
  rw [mask_apply, hp, Pick.rest_succ, h]
  by_cases e : q = Pick.nth x r
  · rw [if_pos e, e]
    exact if_pos (WordCmp.ofBool_decide_eq_one_iff _ |>.mpr rfl)
  · rw [if_neg e]
    refine if_neg fun hq => e ?_
    have := (WordCmp.ofBool_decide_eq_one_iff _).mp hq
    exact Fin.ext (by have := congrArg BitVec.toInt this; rw [int, int] at this; omega)

/-- The rows after `r` rounds. -/
def left (s : FVec Ideal S2x65536 .f32) : ℕ → FVec Ideal S2x65536 .f32
  | 0 => s
  | r + 1 => mask (left s r)

theorem left_apply {s : FVec Ideal S2x65536 .f32} {a : Fin 2} (hs : ∀ q, under < row s a q) :
    ∀ r : ℕ, r < 65536 → ∀ q, left s r (ix2 a q) = Pick.rest (row s a) under r q
  | 0, _, q => (congrFun (Pick.rest_zero (row s a) under) q).symm
  | r + 1, hr, q => (round hs ⟨r, by omega⟩ (left_apply hs r (by omega))).2.2 q

/-- Eight columns side by side, read. -/
theorem eight {α : Type} (f : Fin 8 → S2x1.Idx → α) (a : Fin 2) (k : Fin 8) :
    concatenate S2x8 1 [⟨S2x1, f 0⟩, ⟨S2x1, f 1⟩, ⟨S2x1, f 2⟩, ⟨S2x1, f 3⟩, ⟨S2x1, f 4⟩, ⟨S2x1, f 5⟩, ⟨S2x1, f 6⟩, ⟨S2x1, f 7⟩]
      concatenates_S2x1_S2x1_S2x1_S2x1_S2x1_S2x1_S2x1_S2x1_S2x8_d1 (ix2 a k) = f k (ix2 a (0 : Fin 1)) := by
  fin_cases k <;> pointwise []

/-- The eight columns that `f` gives. -/
def side {α : Type} (f : ℕ → S2x1.Idx → α) : S2x8.Idx → α :=
    concatenate S2x8 1 [⟨S2x1, f 0⟩, ⟨S2x1, f 1⟩, ⟨S2x1, f 2⟩, ⟨S2x1, f 3⟩, ⟨S2x1, f 4⟩, ⟨S2x1, f 5⟩, ⟨S2x1, f 6⟩, ⟨S2x1, f 7⟩]
      concatenates_S2x1_S2x1_S2x1_S2x1_S2x1_S2x1_S2x1_S2x1_S2x8_d1

/-- What marks an entry that is not its row's greatest: a number that is no column's. -/
def far : IVec S2x65536 32 := broadcast S2x65536 65536#32

/-- Which entries equal their row's greatest. -/
def same (v : FVec Ideal S2x65536 .f32) : IVec S2x65536 1 := cmpf .oeq v (broadcastTo S2x65536 (top v) broadcasts_S2x1_S2x65536)

/-! ## The call's values, round by round -/

variable (s v : Vec Ideal S2x65536 .f32)

theorem rows1 : k0_pay5 s = left s 1 := rfl
theorem rows2 : k0_pay8 s = left s 2 := by
  show mask (k0_pay5 s) = _
  rw [rows1]; rfl
theorem rows3 : k0_pay11 s = left s 3 := by
  show mask (k0_pay8 s) = _
  rw [rows2]; rfl

theorem tops0 : k0_pay3 (F := Ideal) s = top (left s 0) := rfl
theorem tops1 : k0_pay6 (F := Ideal) s = top (left s 1) := by
  show top (k0_pay5 (F := Ideal) s) = _
  rw [rows1]
theorem tops2 : k0_pay9 (F := Ideal) s = top (left s 2) := by
  show top (k0_pay8 (F := Ideal) s) = _
  rw [rows2]
theorem tops3 : k0_pay12 (F := Ideal) s = top (left s 3) := by
  show top (k0_pay11 (F := Ideal) s) = _
  rw [rows3]

theorem places0 : k0_pay4 (F := Ideal) s = place (left s 0) := rfl
theorem places1 : k0_pay7 (F := Ideal) s = place (left s 1) := by
  show place (k0_pay5 (F := Ideal) s) = _
  rw [rows1]
theorem places2 : k0_pay10 (F := Ideal) s = place (left s 2) := by
  show place (k0_pay8 (F := Ideal) s) = _
  rw [rows2]

/-- A load of the whole of a block reads the block. -/
theorem load : View.ld s r0_0 = s := View.ld_unit_zero (S := S2x65536) Cert.TopKIdeal.Value.hz0 _ s

theorem kept1 : k0_pay27 (F := Ideal) s = columns := rfl
theorem kept2 : k0_pay28 (F := Ideal) s = left s 3 := by
  unfold k0_pay28
  rw [load, rows3]
theorem kept3 : k0_pay29 (F := Ideal) s = same (left s 3) := by
  unfold k0_pay29
  rw [load, same, ← rows3]; rfl
theorem kept4 : k0_pay30 (F := Ideal) s = far := rfl

theorem places3 : k0_pay15 columns (same v) far = place v := rfl
theorem rows4 : k0_pay16 columns v (same v) far = mask v := rfl
theorem tops4 : k0_pay17 columns v (same v) far = top (mask v) := rfl
theorem places4 : k0_pay18 (F := Ideal) columns v (same v) far = place (mask v) := rfl
theorem rows5 : k0_pay19 columns v (same v) far = mask (mask v) := by
  show mask (k0_pay16 columns v (same v) far) = _
  rw [rows4]
theorem tops5 : k0_pay20 columns v (same v) far = top (mask (mask v)) := by
  show top (k0_pay19 columns v (same v) far) = _
  rw [rows5]
theorem places5 : k0_pay21 (F := Ideal) columns v (same v) far = place (mask (mask v)) := by
  show place (k0_pay19 columns v (same v) far) = _
  rw [rows5]
theorem rows6 : k0_pay22 columns v (same v) far = mask (mask (mask v)) := by
  show mask (k0_pay19 columns v (same v) far) = _
  rw [rows5]
theorem tops6 : k0_pay23 columns v (same v) far = top (mask (mask (mask v))) := by
  show top (k0_pay22 columns v (same v) far) = _
  rw [rows6]
theorem places6 : k0_pay24 (F := Ideal) columns v (same v) far = place (mask (mask (mask v))) := by
  show place (k0_pay22 columns v (same v) far) = _
  rw [rows6]
theorem rows7 : k0_pay25 columns v (same v) far = mask (mask (mask (mask v))) := by
  show mask (k0_pay22 columns v (same v) far) = _
  rw [rows6]
theorem tops7 : k0_pay31 (F := Ideal) s = top (left s 7) := by
  unfold k0_pay31
  rw [kept1, kept2, kept3, kept4]
  show top (k0_pay25 columns (left s 3) (same (left s 3)) far) = _
  rw [rows7]; rfl

/-- The eight columns that `f` gives, read. -/
theorem side_apply {α : Type} (f : ℕ → S2x1.Idx → α) (a : Fin 2) (k : Fin 8) : side f (ix2 a k) = f k.val (ix2 a (0 : Fin 1)) :=
  eight (fun k => f k.val) a k

theorem last (p0 p1 p2 p3 p4 p5 p6 : IVec S2x1 32) :
    k0_pay1 columns p0 p1 p2 p3 p4 p5 p6 v (top v) = concatenate S2x8 1 [⟨S2x1, p0⟩, ⟨S2x1, p1⟩, ⟨S2x1, p2⟩, ⟨S2x1, p3⟩, ⟨S2x1, p4⟩, ⟨S2x1, p5⟩, ⟨S2x1, p6⟩, ⟨S2x1, place v⟩]
      concatenates_S2x1_S2x1_S2x1_S2x1_S2x1_S2x1_S2x1_S2x1_S2x8_d1 := rfl

/-- The positions the call writes. -/
theorem out_places : Cert.TopKIdeal.Value.G1 (F := Ideal) s = side fun r => place (left s r) := by
  show k0_pay1 _ _ _ _ _ _ _ _ _ _ = _
  rw [kept1, kept2, kept3, kept4, places0, places1, places2, places3, places4, places5, places6, rows7, tops7]
  exact last (left s 7) _ _ _ _ _ _ _

/-- A row's softmax over its eight. -/
def soft (w : S2x8.Idx → EReal) (j : S2x8.Idx) : EReal :=
  Ideal.div (Ideal.exp (w j - Finset.univ.fold max (Ideal.ofBits .f32 0xFF800000#32) (fun q : Fin 8 => w (ix2 (j 0) q))))
    (∑ p : Fin 8, Ideal.exp (w (ix2 (j 0) p) - Finset.univ.fold max (Ideal.ofBits .f32 0xFF800000#32) (fun q : Fin 8 => w (ix2 (j 0) q))))

theorem soft_eq (f : ℕ → FVec Ideal S2x1 .f32) : k0_pay2 (f 0) (f 1) (f 2) (f 3) (f 4) (f 5) (f 6) (f 7) = soft (side f) := by
  funext j
  unfold k0_pay2 soft
  change _ = Ideal.div (Ideal.exp (concatenate S2x8 1 _ _ _ - _)) _
  unfold side
  generalize concatenate S2x8 1 _ _ = w
  pointwise []

/-- The weights the call writes. -/
theorem out_weights : Cert.TopKIdeal.Value.G2 (F := Ideal) s = soft (side fun r => top (left s r)) := by
  show k0_pay2 _ _ _ _ _ _ _ _ = _
  rw [kept1, kept2, kept3, kept4, tops0, tops1, tops2, tops3, tops4, tops5, tops6, tops7]
  exact soft_eq fun r => top (left s r)

/-! ## The two compared -/

end

section Reference
open Cert.TopKRefIdeal Cert.TopKRefIdeal.Gen

/-- The reference's softmax of its values. -/
theorem ref_soft (w : FVec Ideal S2x8 .f32) :
    Host.divf (Host.exp (subf w (broadcastInDim S2x8 ![0, 1] bcast_S2x1_S2x8_0_1 (broadcastInDim S2x1 ![0] bcast_S2_S2x1_0 (maximumf (broadcastInDim S2 ![] bcast_S_S2 (constant S_ .f32 0xFF800000#32)) (Host.reduce FloatOps.maximumf w (constant S_ .f32 0xFF800000#32) reducesTo_S2x8_S2_d1 h_S_)))))) (broadcastInDim S2x8 ![0, 1] bcast_S2x1_S2x8_0_1 (broadcastInDim S2x1 ![0] bcast_S2_S2x1_0 (Host.reduceAdd (Host.exp (subf w (broadcastInDim S2x8 ![0, 1] bcast_S2x1_S2x8_0_1 (broadcastInDim S2x1 ![0] bcast_S2_S2x1_0 (maximumf (broadcastInDim S2 ![] bcast_S_S2 (constant S_ .f32 0xFF800000#32)) (Host.reduce FloatOps.maximumf w (constant S_ .f32 0xFF800000#32) reducesTo_S2x8_S2_d1 h_S_)))))) (constant S_ .f32 0x00000000#32) reducesTo_S2x8_S2_d1 h_S_)))
    = soft w := by
  funext j
  have e := max_eq_right (a := Ideal.ofBits .f32 0xFF800000#32) (b := Finset.univ.fold max (Ideal.ofBits .f32 0xFF800000#32)
    fun q : Fin 8 => w (ix2 (j 0) q)) ((Finset.le_fold_max _).mpr (Or.inl le_rfl))
  pointwise [soft]
  simp only [e]

/-- The positions are the reference's. -/
theorem places_eq (s : FVec Ideal S2x65536 .f32) (hs : ∀ i, under < s i) :
    Cert.TopKIdeal.Value.G1 (F := Ideal) s = (Host.topK S2x8 1 (FloatOps.cmpfTotal (F := Ideal) (φ := .f32) .gt) s sliceFits_S2x65536_S2x8).2 := by
  rw [out_places]
  funext j
  obtain ⟨a, k, rfl⟩ : ∃ (a : Fin 2) (k : Fin 8), j = ix2 a k := ⟨j 0, j 1, (ix2_eta j).symm⟩
  have hk : k.val < 65536 := by omega
  exact (side_apply _ a k).trans (((round (x := row s a) (fun q => hs _) ⟨k.val, hk⟩ (left_apply (fun q => hs _) k.val hk)).2.1).trans
    (topK_apply s (by decide) sliceFits_S2x65536_S2x8 a k).2.symm)

/-- The greatest are the reference's. -/
theorem tops_eq (s : FVec Ideal S2x65536 .f32) (hs : ∀ i, under < s i) :
    (side fun r => top (left s r)) = (Host.topK S2x8 1 (FloatOps.cmpfTotal (F := Ideal) (φ := .f32) .gt) s sliceFits_S2x65536_S2x8).1 := by
  funext j
  obtain ⟨a, k, rfl⟩ : ∃ (a : Fin 2) (k : Fin 8), j = ix2 a k := ⟨j 0, j 1, (ix2_eta j).symm⟩
  have hk : k.val < 65536 := by omega
  exact (side_apply _ a k).trans (((round (x := row s a) (fun q => hs _) ⟨k.val, hk⟩ (left_apply (fun q => hs _) k.val hk)).1).trans
    (topK_apply s (by decide) sliceFits_S2x65536_S2x8 a k).1.symm)

/-- The weights are the reference's softmax of its values. -/
theorem weights_eq (s : FVec Ideal S2x65536 .f32) (hs : ∀ i, under < s i) :
    Cert.TopKIdeal.Value.G2 (F := Ideal) s
      = soft (Host.topK S2x8 1 (FloatOps.cmpfTotal (F := Ideal) (φ := .f32) .gt) s sliceFits_S2x65536_S2x8).1 := by
  rw [out_weights, tops_eq s hs]

end Reference

end Cert.Proof.TopK

end
-- ==== Proof.TopKClaims.lean ====
/-
  The claims of the top-k. Its value claim has a precondition, that no similarity is at or below the number that the call
  overwrites a chosen one with.
-/
module

public import proofs.«01_k».proof.Defs
public import proofs.«01_k».proof.Proof.Gen.TopK
public import proofs.«01_k».proof.Proof.TopK
public import proofs.«01_k».proof.Proof.Gen.Pre_above_mask
public import Idealize.ShloMosaic.Lib.Quiescent
public import Idealize.ShloMosaic.Lib.ReduceAll
public import Idealize.ShloMosaic.Lib.WordCmp

@[expose] public section

noncomputable section

namespace Cert.Proof

open Idealize.ShloMosaic Idealize.ShloMosaic.TcCoe Idealize.SL.Sem

instance flag_above : Subsingleton Cert.Pre_above_mask.S_.Idx := ⟨fun _ _ => funext fun a => a.elim0⟩

/-- The precondition says of each similarity that it is above what a chosen one is overwritten with. -/
theorem above_of_pre [Cert.Pre_above_mask.Facts] (s : Cert.Pre_above_mask.S2x65536.Idx → Elt Ideal .f32)
    (h : Cert.Pre_above_mask.fn (F := Ideal) s = fun _ => 1#1) : ∀ i, TopK.under < s i := by
  have e := congrFun h fun a => a.elim0
  exact fun i => (WordCmp.ofBool_decide_eq_one_iff _).mp (Host.reduce_andi_all _ _ _ _ _ e i)

/-- The two body tables are one. -/
theorem defs_topK : Cert.TopK.defs (F := Bits) = Cert.TopKIdeal.defs (F := Bits) :=
  congrArg (Pipeline.defs _) (congrArg Defs.onTc (funext fun k => funext fun a => match k, a with
    | ⟨0, _⟩, _ => rfl
    | ⟨_ + 1, h⟩, _ => absurd h (by omega)))

theorem frame_topK : Cert.quiescent_TopK := fun m ρ _ => defs_topK ▸ Cert.TopKIdeal.Gen.frame (F := Bits) m ρ

theorem frame_topKIdeal : Cert.quiescent_TopKIdeal := fun m ρ _ => Cert.TopKIdeal.Gen.frame (F := Ideal) m ρ

theorem frame_topKIdeal_above : Cert.quiescent_TopKIdeal_pre_above_mask := fun m ρ _ => frame_topKIdeal m ρ (by trivial)

theorem frame_topKRefIdeal : Cert.quiescent_TopKRefIdeal := fun m ρ _ =>
  (θ_run (Cert.TopKRefIdeal.defs (F := Ideal)) _ _).mono
    (fun r h => ⟨fun c => (h c).2.2, sem_eq_zero_of_no_sems (by decide) r.2⟩) (Cert.TopKRefIdeal.Value.run (F := Ideal) m ρ)

theorem frame_topKRefIdeal_above : Cert.quiescent_TopKRefIdeal_pre_above_mask := fun m ρ _ =>
  frame_topKRefIdeal m ρ (by trivial)

theorem algebraic_topK : Cert.algebraic_TopKIdeal_TopKRefIdeal_pre_above_mask := by
  intro m ρ m' ρ' hpre hagree
  refine ⟨_, _,
    (θ_run (Cert.TopKIdeal.defs (F := Ideal)) _ _).mono (fun _ h c =>
        ⟨(h c).1.trans (TopK.places_eq _ (above_of_pre _ (hpre c))),
          (h c).2.1.trans (TopK.weights_eq _ (above_of_pre _ (hpre c))), (h c).2.2⟩)
      (Cert.TopKIdeal.Value.run (F := Ideal) m ρ),
    (θ_run (Cert.TopKRefIdeal.defs (F := Ideal)) _ _).mono (fun _ h c => ?_) (Cert.TopKRefIdeal.Value.run (F := Ideal) m' ρ')⟩
  obtain a0 := hagree c
  exact ⟨(h c).1.trans (by rw [a0]), (h c).2.1.trans ((TopK.ref_soft _).trans (by rw [a0])), (h c).2.2⟩

end Cert.Proof

end
-- ==== Proof.lean ====
/-
  The claims. The gather's run (Proof/Run.lean) is written once, over any float instance, for the program read at the reals;
  the program as printed is the same text, so its frame and its bit-exact value are that run at the bit instance. The value
  (Proof/Values.lean) is the reference's lookup, over any float instance too.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_ids_in_range
public import proofs.«01_k».proof.Proof.Gen.Sim.Frame
public import proofs.«01_k».proof.Proof.Gen.Combine
public import proofs.«01_k».proof.Proof.Gen.CombineIdeal.Frame.Runs
public import proofs.«01_k».proof.Proof.Gen.CombineRefIdeal.Run
public import proofs.«01_k».proof.Proof.Gen.Pre_rows_in_range
public import proofs.«01_k».proof.Proof.Gen.Head
public import proofs.«01_k».proof.Proof.Gen.HeadIdeal.Value
public import proofs.«01_k».proof.Proof.Gen.HeadRefIdeal.Run
public import proofs.«01_k».proof.Proof.Gen.Qkv0
public import proofs.«01_k».proof.Proof.Gen.Qkv0Ideal.Value
public import proofs.«01_k».proof.Proof.Gen.Qkv0RefIdeal.Run
public import proofs.«01_k».proof.Proof.Gen.Qkv1
public import proofs.«01_k».proof.Proof.Gen.Qkv1Ideal.Value
public import proofs.«01_k».proof.Proof.Gen.Qkv1RefIdeal.Run
public import proofs.«01_k».proof.Proof.Gen.Mean
public import proofs.«01_k».proof.Proof.Gen.MeanIdeal.Value
public import proofs.«01_k».proof.Proof.Gen.MeanRefIdeal.Run
public import proofs.«01_k».proof.Proof.Gen.Sim
public import proofs.«01_k».proof.Proof.Gen.SimIdeal.Value
public import proofs.«01_k».proof.Proof.Gen.SimRefIdeal.Run
public import proofs.«01_k».proof.Proof.Gen.Post
public import proofs.«01_k».proof.Proof.Gen.PostIdeal.Value
public import proofs.«01_k».proof.Proof.Gen.PostRefIdeal.Run
public import proofs.«01_k».proof.Proof.Gen.Attn
public import proofs.«01_k».proof.Proof.Gen.AttnIdeal.Value
public import proofs.«01_k».proof.Proof.Gen.AttnRefIdeal.Run
public import proofs.«01_k».proof.Proof.Gen.Pre_finite_queries_keys
public import proofs.«01_k».proof.Proof.Gen.TopK
public import proofs.«01_k».proof.Proof.Gen.TopKIdeal.Value
public import proofs.«01_k».proof.Proof.Gen.TopKRefIdeal.Run
public import proofs.«01_k».proof.Proof.Gen.Pre_above_mask
public import proofs.«01_k».proof.Proof.Values
public import proofs.«01_k».proof.Proof.Calls
public import proofs.«01_k».proof.Proof.CombineClaims
public import proofs.«01_k».proof.Proof.AttnClaims
public import proofs.«01_k».proof.Proof.TopKClaims
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem
open Cert.Proof.Embed

/-- The precondition puts every row number of the list in the table. -/
theorem rows_in_table (m : (ℓ : Loc Cert.KernelIdeal.nD Cert.KernelIdeal.τ Cert.KernelIdeal.sig) → Buf (Elt Ideal) ℓ)
    (h : Cert.Pre_KernelIdeal m) (d : Dev Cert.KernelIdeal.nD) : InTable (idsOf (F := Ideal) (xOf m d)) :=
  inTable _ (word_lt _ _ (h d))

theorem rows_in_table_bits (m : (ℓ : Loc Cert.KernelIdeal.nD Cert.KernelIdeal.τ Cert.KernelIdeal.sig) → Buf (Elt Bits) ℓ)
    (h : Cert.Pre_Kernel m) (d : Dev Cert.KernelIdeal.nD) : InTable (idsOf (F := Bits) (xOf m d)) :=
  inTable _ (word_lt _ _ (h d))

/-! ## The frames -/

theorem frame_kernel : Cert.quiescent_Kernel := fun m ρ h =>
  (θ_run (Cert.KernelIdeal.defs (F := Bits)) _ _).mono (fun _ q => ⟨fun c => (q.1 c).2, q.2⟩)
    (run_main (F := Bits) m ρ (rows_in_table_bits m h))

theorem frame_kernelIdeal : Cert.quiescent_KernelIdeal := fun m ρ h =>
  (θ_run (Cert.KernelIdeal.defs (F := Ideal)) _ _).mono (fun _ q => ⟨fun c => (q.1 c).2, q.2⟩)
    (run_main (F := Ideal) m ρ (rows_in_table m h))

theorem frame_referenceIdeal : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

theorem frame_referenceIdeal_in_range : Cert.quiescent_ReferenceIdeal_pre_ids_in_range := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

theorem frame_reference : Cert.quiescent_Reference := fun m ρ _ =>
  (θ_run (Cert.Reference.defs (F := Bits)) _ _).mono
    (fun r h => ⟨fun c => (h c).2, sem_eq_zero_of_no_sems (by decide) r.2⟩) (Cert.Reference.Value.run (F := Bits) m ρ)

/-! ## The values -/

theorem algebraic : Cert.algebraic_KernelIdeal_ReferenceIdeal := by
  intro m ρ m' ρ' hpre hagree
  refine ⟨fun c => resultOf (F := Ideal) (xOf m c) (eOf m c),
    (θ_run (Cert.KernelIdeal.defs (F := Ideal)) _ _).mono (fun _ q => q.1) (run_main (F := Ideal) m ρ (rows_in_table m hpre)),
    (θ_run (Cert.ReferenceIdeal.defs (F := Ideal)) _ _).mono (fun _ h c => ⟨(h c).1.trans ?_, (h c).2⟩)
      (Cert.ReferenceIdeal.Value.run (F := Ideal) m' ρ')⟩
  rw [(hagree c).1, (hagree c).2]
  exact (resultOf_eq (F := Ideal) _ _ (word_lt _ _ (hpre c))).symm

theorem bitexact : Cert.bitexact_Kernel_Reference := by
  intro m ρ m' ρ' hpre hagree
  refine ⟨fun c => resultOf (F := Bits) (xOf m c) (eOf m c),
    (θ_run (Cert.KernelIdeal.defs (F := Bits)) _ _).mono (fun _ q => q.1) (run_main (F := Bits) m ρ (rows_in_table_bits m hpre)),
    (θ_run (Cert.Reference.defs (F := Bits)) _ _).mono (fun _ h c => ⟨(h c).1.trans ?_, (h c).2⟩)
      (Cert.Reference.Value.run (F := Bits) m' ρ')⟩
  rw [(hagree c).1, (hagree c).2]
  exact (resultOf_eq (F := Bits) _ _ (word_lt _ _ (hpre c))).symm

theorem claim : Cert.Claim :=
  ⟨Cert.Kernel.Gen.facts, Cert.KernelIdeal.Gen.facts, Cert.ReferenceIdeal.Gen.facts, Cert.Reference.Gen.facts,
    Cert.Combine.Gen.facts, Cert.CombineIdeal.Gen.facts, Cert.CombineRefIdeal.Gen.facts, Cert.Head.Gen.facts,
    Cert.HeadIdeal.Gen.facts, Cert.HeadRefIdeal.Gen.facts, Cert.Qkv0.Gen.facts, Cert.Qkv0Ideal.Gen.facts,
    Cert.Qkv0RefIdeal.Gen.facts, Cert.Qkv1.Gen.facts, Cert.Qkv1Ideal.Gen.facts, Cert.Qkv1RefIdeal.Gen.facts,
    Cert.Mean.Gen.facts, Cert.MeanIdeal.Gen.facts, Cert.MeanRefIdeal.Gen.facts, Cert.Sim.Gen.facts, Cert.SimIdeal.Gen.facts,
    Cert.SimRefIdeal.Gen.facts, Cert.Post.Gen.facts, Cert.PostIdeal.Gen.facts, Cert.PostRefIdeal.Gen.facts,
    Cert.Attn.Gen.facts, Cert.AttnIdeal.Gen.facts, Cert.AttnRefIdeal.Gen.facts, Cert.TopK.Gen.facts,
    Cert.TopKIdeal.Gen.facts, Cert.TopKRefIdeal.Gen.facts, Cert.Pre_ids_in_range.Gen.facts,
    Cert.Pre_rows_in_range.Gen.facts, Cert.Pre_finite_queries_keys.Gen.facts, Cert.Pre_above_mask.Gen.facts,
    frame_kernel, frame_kernelIdeal, frame_referenceIdeal, frame_referenceIdeal_in_range, frame_reference, frame_combine,
    frame_combineIdeal, frame_combineRefIdeal, frame_combineRefIdeal_in_range, frame_head, frame_headIdeal,
    frame_headRefIdeal, frame_qkv0, frame_qkv0Ideal, frame_qkv0RefIdeal, frame_qkv1, frame_qkv1Ideal, frame_qkv1RefIdeal,
    frame_mean, frame_meanIdeal, frame_meanRefIdeal, frame_sim, frame_simIdeal, frame_simRefIdeal, frame_post,
    frame_postIdeal, frame_postRefIdeal, frame_attn, frame_attnIdeal, frame_attnIdeal_finite, frame_attnRefIdeal,
    frame_attnRefIdeal_finite, frame_topK, frame_topKIdeal, frame_topKIdeal_above, frame_topKRefIdeal,
    frame_topKRefIdeal_above,
    trivial, algebraic, bitexact, trivial, algebraic_combine, trivial, algebraic_head, trivial, algebraic_qkv0, trivial,
    algebraic_qkv1, trivial, algebraic_mean, preserves_sim, algebraic_sim, trivial, algebraic_post, trivial,
    algebraic_attn, trivial, algebraic_topK⟩

end Cert.Proof

end
